-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).1 = (fun _ => 1#1)
    ∧ (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).1 = (fun _ => 1#1)
    ∧ (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).2 = (fun _ => 1#1)

def Pre_Experts [hPre_expert_blocks : Cert.Pre_expert_blocks.Facts] (m : (ℓ : Loc Cert.Experts.nD Cert.Experts.τ Cert.Experts.sig) → Buf (Elt Bits) ℓ) : Prop :=
  ∀ c : Dev Cert.Experts.nD,
    (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).1 = (fun _ => 1#1)
    ∧ (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.1 = (fun _ => 1#1)
    ∧ (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.1 = (fun _ => 1#1)
    ∧ (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.1 = (fun _ => 1#1)
    ∧ (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.1 = (fun _ => 1#1)
    ∧ (Cert.Pre_expert_blocks.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2 = (fun _ => 1#1)

def Pre_ExpertsIdeal [hPre_expert_blocks : Cert.Pre_expert_blocks.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).1 = (fun _ => 1#1)
    ∧ (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.1 = (fun _ => 1#1)
    ∧ (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.1 = (fun _ => 1#1)
    ∧ (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.1 = (fun _ => 1#1)
    ∧ (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.1 = (fun _ => 1#1)
    ∧ (Cert.Pre_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2 = (fun _ => 1#1)

def Pre_ExpertsIdeal_weighted_blocks [hPre_weighted_blocks : Cert.Pre_weighted_blocks.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.1 = (fun _ => 1#1)
    ∧ (Cert.Pre_weighted_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_weighted_blocks [hPre_weighted_blocks : Cert.Pre_weighted_blocks.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.2.2.2.2.1 = (fun _ => 1#1)
    ∧ (Cert.Pre_weighted_blocks.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2.2.2.2.2.2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2RefIdeal (m : (ℓ : Loc Cert.Ln2RefIdeal.nD Cert.Ln2RefIdeal.τ Cert.Ln2RefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_Experts [hExperts : Cert.Experts.Facts] [hPre_expert_blocks : Cert.Pre_expert_blocks.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_expert_blocks : Cert.Pre_expert_blocks.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_weighted_blocks [hExpertsIdeal : Cert.ExpertsIdeal.Facts] [hPre_weighted_blocks : Cert.Pre_weighted_blocks.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_weighted_blocks m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_weighted_blocks [hExpertsRefIdeal : Cert.ExpertsRefIdeal.Facts] [hPre_weighted_blocks : Cert.Pre_weighted_blocks.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_weighted_blocks m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3))
      ∧ r.2.sem = fun _ => 0)

def preserves_Swa_SwaIdeal : Prop :=
  True

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v44)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v44) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v96) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)) (v5 : (c : Dev Cert.InProjIdeal.nD) → Buf (Elt Ideal) ((c.tc : Thread Cert.InProjIdeal.nD Cert.InProjIdeal.τ).loc Cert.InProjIdeal.main_v3_5)) (v6 : (c : Dev Cert.InProjIdeal.nD) → Buf (Elt Ideal) ((c.tc : Thread Cert.InProjIdeal.nD Cert.InProjIdeal.τ).loc Cert.InProjIdeal.main_v3_6)) (v7 : (c : Dev Cert.InProjIdeal.nD) → Buf (Elt Ideal) ((c.tc : Thread Cert.InProjIdeal.nD Cert.InProjIdeal.τ).loc Cert.InProjIdeal.main_v3_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_v3_5) = v5 c
          ∧ r.2.mem ((c.tc : Thread Cert.InProjIdeal.nD Cert.InProjIdeal.τ).loc Cert.InProjIdeal.main_v3_6) = v6 c
          ∧ r.2.mem ((c.tc : Thread Cert.InProjIdeal.nD Cert.InProjIdeal.τ).loc Cert.InProjIdeal.main_v3_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_v15) = v2 c
          ∧ r.2.mem ((c.tc : Thread Cert.InProjRefIdeal.nD Cert.InProjRefIdeal.τ).loc Cert.InProjRefIdeal.main_v8) = v3 c
          ∧ r.2.mem ((c.tc : Thread Cert.InProjRefIdeal.nD Cert.InProjRefIdeal.τ).loc Cert.InProjRefIdeal.main_v9) = v4 c
          ∧ r.2.mem ((c.tc : Thread Cert.InProjRefIdeal.nD Cert.InProjRefIdeal.τ).loc Cert.InProjRefIdeal.main_v10) = v5 c
          ∧ r.2.mem ((c.tc : Thread Cert.InProjRefIdeal.nD Cert.InProjRefIdeal.τ).loc Cert.InProjRefIdeal.main_v11) = v6 c
          ∧ r.2.mem ((c.tc : Thread Cert.InProjRefIdeal.nD Cert.InProjRefIdeal.τ).loc Cert.InProjRefIdeal.main_v16) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v5) = v0 c
          ∧ r.2.mem ((c.tc : Thread Cert.MemKvRefIdeal.nD Cert.MemKvRefIdeal.τ).loc Cert.MemKvRefIdeal.main_v6) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v27) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_Experts_ExpertsIdeal : Prop :=
  True

def algebraic_ExpertsIdeal_ExpertsRefIdeal_pre_weighted_blocks [hExpertsIdeal : Cert.ExpertsIdeal.Facts] [hExpertsRefIdeal : Cert.ExpertsRefIdeal.Facts] [hPre_weighted_blocks : Cert.Pre_weighted_blocks.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_weighted_blocks m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v78) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v15_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v15_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Ln2_Ln2Ideal : Prop :=
  True

def algebraic_Ln2Ideal_Ln2RefIdeal [hLn2Ideal : Cert.Ln2Ideal.Facts] [hLn2RefIdeal : Cert.Ln2RefIdeal.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)) →
    ∃ (v0 : (c : Dev Cert.Ln2Ideal.nD) → Buf (Elt Ideal) ((c.tc : Thread Cert.Ln2Ideal.nD Cert.Ln2Ideal.τ).loc Cert.Ln2Ideal.main_v2)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v2) = v0 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v28) = v0 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3))

def Claim : Prop :=
  ∃ (hSwa : Cert.Swa.Facts) (hSwaIdeal : Cert.SwaIdeal.Facts) (hSwaRefIdeal : Cert.SwaRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hExperts : Cert.Experts.Facts) (hExpertsIdeal : Cert.ExpertsIdeal.Facts) (hExpertsRefIdeal : Cert.ExpertsRefIdeal.Facts) (hOutProj : Cert.OutProj.Facts) (hOutProjIdeal : Cert.OutProjIdeal.Facts) (hOutProjRefIdeal : Cert.OutProjRefIdeal.Facts) (hLn2 : Cert.Ln2.Facts) (hLn2Ideal : Cert.Ln2Ideal.Facts) (hLn2RefIdeal : Cert.Ln2RefIdeal.Facts) (hPre_finite_swa : Cert.Pre_finite_swa.Facts) (hPre_finite_mem : Cert.Pre_finite_mem.Facts) (hPre_expert_blocks : Cert.Pre_expert_blocks.Facts) (hPre_weighted_blocks : Cert.Pre_weighted_blocks.Facts),
    quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_Experts (hExperts := hExperts) (hPre_expert_blocks := hPre_expert_blocks)
    ∧ quiescent_ExpertsIdeal (hExpertsIdeal := hExpertsIdeal) (hPre_expert_blocks := hPre_expert_blocks)
    ∧ quiescent_ExpertsIdeal_pre_weighted_blocks (hExpertsIdeal := hExpertsIdeal) (hPre_weighted_blocks := hPre_weighted_blocks)
    ∧ quiescent_ExpertsRefIdeal (hExpertsRefIdeal := hExpertsRefIdeal)
    ∧ quiescent_ExpertsRefIdeal_pre_weighted_blocks (hExpertsRefIdeal := hExpertsRefIdeal) (hPre_weighted_blocks := hPre_weighted_blocks)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ln2 (hLn2 := hLn2)
    ∧ quiescent_Ln2Ideal (hLn2Ideal := hLn2Ideal)
    ∧ quiescent_Ln2RefIdeal (hLn2RefIdeal := hLn2RefIdeal)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_Experts_ExpertsIdeal
    ∧ algebraic_ExpertsIdeal_ExpertsRefIdeal_pre_weighted_blocks (hExpertsIdeal := hExpertsIdeal) (hExpertsRefIdeal := hExpertsRefIdeal) (hPre_weighted_blocks := hPre_weighted_blocks)
    ∧ preserves_OutProj_OutProjIdeal
    ∧ algebraic_OutProjIdeal_OutProjRefIdeal (hOutProjIdeal := hOutProjIdeal) (hOutProjRefIdeal := hOutProjRefIdeal)
    ∧ preserves_Ln2_Ln2Ideal
    ∧ algebraic_Ln2Ideal_Ln2RefIdeal (hLn2Ideal := hLn2Ideal) (hLn2RefIdeal := hLn2RefIdeal)
-- ==== Pre_expert_blocks.lean ====
abbrev S311296x128 : Shape := ⟨2, ![311296, 128]⟩
abbrev S38912x1 : Shape := ⟨2, ![38912, 1]⟩
abbrev S152 : Shape := ⟨1, ![152]⟩
abbrev S1 : Shape := ⟨1, ![1]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S152 : S_.BroadcastsInDim S152 (![] : Fin 0 → Fin S152.rank)
  bcast_S_S1 : S_.BroadcastsInDim S1 (![] : Fin 0 → Fin S1.rank)

variable [Facts]

def fn {F : FTy → Type} [FloatOps F] (main_arg0 : FVec F S311296x128 .f32) (main_arg1 : FVec F S38912x1 .f32) (main_arg2 : FVec F S38912x1 .f32) (main_arg3 : IVec S152 32) (main_arg4 : IVec S152 32) (main_arg5 : IVec S1 32) (main_arg6 : FVec F S4x16x1024x512 .f32) (main_arg7 : FVec F S4x16x1024x512 .f32) (main_arg8 : FVec F S4x16x512x1024 .f32) : IVec S152 1 × IVec S152 1 × IVec S152 1 × IVec S152 1 × IVec S1 1 × IVec S1 1 :=
  let main_c : IVec S_ 32 := constantI S_ 32 0#32
  let main_v0 : IVec S152 32 := broadcastInDim S152 ![] bcast_S_S152 main_c
  let main_v1 : IVec S152 1 := cmpi .sge main_arg3 main_v0
  let main_c_0 : IVec S_ 32 := constantI S_ 32 16#32
  let main_v2 : IVec S152 32 := broadcastInDim S152 ![] bcast_S_S152 main_c_0
  let main_v3 : IVec S152 1 := cmpi .slt main_arg3 main_v2
  let main_c_1 : IVec S_ 32 := constantI S_ 32 0#32
  let main_v4 : IVec S152 32 := broadcastInDim S152 ![] bcast_S_S152 main_c_1
  let main_v5 : IVec S152 1 := cmpi .sge main_arg4 main_v4
  let main_c_2 : IVec S_ 32 := constantI S_ 32 16#32
  let main_v6 : IVec S152 32 := broadcastInDim S152 ![] bcast_S_S152 main_c_2
  let main_v7 : IVec S152 1 := cmpi .slt main_arg4 main_v6
  let main_c_3 : IVec S_ 32 := constantI S_ 32 1#32
  let main_v8 : IVec S1 32 := broadcastInDim S1 ![] bcast_S_S1 main_c_3
  let main_v9 : IVec S1 1 := cmpi .sge main_arg5 main_v8
  let main_c_4 : IVec S_ 32 := constantI S_ 32 152#32
  let main_v10 : IVec S1 32 := broadcastInDim S1 ![] bcast_S_S1 main_c_4
  let main_v11 : IVec S1 1 := cmpi .sle main_arg5 main_v10
  (main_v1, main_v3, main_v5, main_v7, main_v9, main_v11)
-- ==== Pre_finite_mem.lean ====
abbrev S32768x256 : Shape := ⟨2, ![32768, 256]⟩
abbrev S4x2048x256 : Shape := ⟨3, ![4, 2048, 256]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)
  bcast_S_S4x2048x256 : S_.BroadcastsInDim S4x2048x256 (![] : Fin 0 → Fin S4x2048x256.rank)

variable [Facts]

def fn {F : FTy → Type} [FloatOps F] (main_arg0 : FVec F S32768x256 .bf16) (main_arg1 : FVec F S4x2048x256 .bf16) (main_arg2 : FVec F S4x2048x256 .bf16) : IVec S32768x256 1 × IVec S4x2048x256 1 :=
  let main_v0 : FVec F S32768x256 .f32 := (extf .f32 · bitsLt_bf16_f32) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_v4 : FVec F S4x2048x256 .f32 := (extf .f32 · bitsLt_bf16_f32) main_arg1
  let main_v5 : FVec F S4x2048x256 .f32 := Host.absf main_v4
  let main_cst_0 : FVec F S_ .f32 := constant S_ .f32 0x7F800000#32
  let main_v6 : FVec F S4x2048x256 .f32 := broadcastInDim S4x2048x256 ![] bcast_S_S4x2048x256 main_cst_0
  let main_v7 : IVec S4x2048x256 1 := cmpf .olt main_v5 main_v6
  (main_v3, main_v7)
-- ==== Pre_finite_swa.lean ====
abbrev S32768x512 : Shape := ⟨2, ![32768, 512]⟩
abbrev S32768x128 : Shape := ⟨2, ![32768, 128]⟩
abbrev S8 : Shape := ⟨1, ![8]⟩
abbrev S32x8 : Shape := ⟨2, ![32, 8]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  bcast_S_S32768x128 : S_.BroadcastsInDim S32768x128 (![] : Fin 0 → Fin S32768x128.rank)
  bcast_S_S8 : S_.BroadcastsInDim S8 (![] : Fin 0 → Fin S8.rank)
  bcast_S_S32x8 : S_.BroadcastsInDim S32x8 (![] : Fin 0 → Fin S32x8.rank)

variable [Facts]

def fn {F : FTy → Type} [FloatOps F] (main_arg0 : FVec F S32768x512 .bf16) (main_arg1 : FVec F S32768x128 .bf16) (main_arg2 : FVec F S32768x128 .bf16) (main_arg3 : FVec F S8 .f32) (main_arg4 : FVec F S32x8 .f32) : IVec S32768x512 1 × IVec S32768x128 1 × IVec S8 1 × IVec S32x8 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S32768x128 .f32 := (extf .f32 · bitsLt_bf16_f32) main_arg1
  let main_v5 : FVec F S32768x128 .f32 := Host.absf main_v4
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  let main_v8 : FVec F S8 .f32 := Host.absf main_arg3
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  let main_v11 : FVec F S32x8 .f32 := Host.absf main_arg4
  let main_cst_2 : FVec F S_ .f32 := constant S_ .f32 0x7F800000#32
  let main_v12 : FVec F S32x8 .f32 := broadcastInDim S32x8 ![] bcast_S_S32x8 main_cst_2
  let main_v13 : IVec S32x8 1 := cmpf .olt main_v11 main_v12
  (main_v3, main_v7, main_v10, main_v13)
-- ==== Pre_weighted_blocks.lean ====
abbrev S311296x128 : Shape := ⟨2, ![311296, 128]⟩
abbrev S38912x1 : Shape := ⟨2, ![38912, 1]⟩
abbrev S152 : Shape := ⟨1, ![152]⟩
abbrev S1 : Shape := ⟨1, ![1]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S152 : S_.BroadcastsInDim S152 (![] : Fin 0 → Fin S152.rank)
  bcast_S_S1 : S_.BroadcastsInDim S1 (![] : Fin 0 → Fin S1.rank)
  bcast_S_S38912x1 : S_.BroadcastsInDim S38912x1 (![] : Fin 0 → Fin S38912x1.rank)

variable [Facts]

def fn_part1 {F : FTy → Type} [FloatOps F] (main_arg2 : FVec F S38912x1 .f32) (main_v1 : IVec S152 1) (main_v3 : IVec S152 1) (main_v5 : IVec S152 1) (main_v7 : IVec S152 1) (main_v9 : IVec S1 1) (main_v11 : IVec S1 1) (main_v13 : IVec S38912x1 1) (main_v15 : IVec S38912x1 1) : IVec S152 1 × IVec S152 1 × IVec S152 1 × IVec S152 1 × IVec S1 1 × IVec S1 1 × IVec S38912x1 1 × IVec S38912x1 1 × IVec S38912x1 1 × IVec S38912x1 1 :=
  let main_cst_6 : FVec F S_ .f32 := constant S_ .f32 0x00000000#32
  let main_v16 : FVec F S38912x1 .f32 := broadcastInDim S38912x1 ![] bcast_S_S38912x1 main_cst_6
  let main_v17 : IVec S38912x1 1 := cmpf .oge main_arg2 main_v16
  let main_cst_7 : FVec F S_ .f32 := constant S_ .f32 0x7F800000#32
  let main_v18 : FVec F S38912x1 .f32 := broadcastInDim S38912x1 ![] bcast_S_S38912x1 main_cst_7
  let main_v19 : IVec S38912x1 1 := cmpf .olt main_arg2 main_v18
  (main_v1, main_v3, main_v5, main_v7, main_v9, main_v11, main_v13, main_v15, main_v17, main_v19)

def fn {F : FTy → Type} [FloatOps F] (main_arg0 : FVec F S311296x128 .f32) (main_arg1 : FVec F S38912x1 .f32) (main_arg2 : FVec F S38912x1 .f32) (main_arg3 : IVec S152 32) (main_arg4 : IVec S152 32) (main_arg5 : IVec S1 32) (main_arg6 : FVec F S4x16x1024x512 .f32) (main_arg7 : FVec F S4x16x1024x512 .f32) (main_arg8 : FVec F S4x16x512x1024 .f32) : IVec S152 1 × IVec S152 1 × IVec S152 1 × IVec S152 1 × IVec S1 1 × IVec S1 1 × IVec S38912x1 1 × IVec S38912x1 1 × IVec S38912x1 1 × IVec S38912x1 1 :=
  let main_c : IVec S_ 32 := constantI S_ 32 0#32
  let main_v0 : IVec S152 32 := broadcastInDim S152 ![] bcast_S_S152 main_c
  let main_v1 : IVec S152 1 := cmpi .sge main_arg3 main_v0
  let main_c_0 : IVec S_ 32 := constantI S_ 32 16#32
  let main_v2 : IVec S152 32 := broadcastInDim S152 ![] bcast_S_S152 main_c_0
  let main_v3 : IVec S152 1 := cmpi .slt main_arg3 main_v2
  let main_c_1 : IVec S_ 32 := constantI S_ 32 0#32
  let main_v4 : IVec S152 32 := broadcastInDim S152 ![] bcast_S_S152 main_c_1
  let main_v5 : IVec S152 1 := cmpi .sge main_arg4 main_v4
  let main_c_2 : IVec S_ 32 := constantI S_ 32 16#32
  let main_v6 : IVec S152 32 := broadcastInDim S152 ![] bcast_S_S152 main_c_2
  let main_v7 : IVec S152 1 := cmpi .slt main_arg4 main_v6
  let main_c_3 : IVec S_ 32 := constantI S_ 32 1#32
  let main_v8 : IVec S1 32 := broadcastInDim S1 ![] bcast_S_S1 main_c_3
  let main_v9 : IVec S1 1 := cmpi .sge main_arg5 main_v8
  let main_c_4 : IVec S_ 32 := constantI S_ 32 152#32
  let main_v10 : IVec S1 32 := broadcastInDim S1 ![] bcast_S_S1 main_c_4
  let main_v11 : IVec S1 1 := cmpi .sle main_arg5 main_v10
  let main_cst : FVec F S_ .f32 := constant S_ .f32 0x00000000#32
  let main_v12 : FVec F S38912x1 .f32 := broadcastInDim S38912x1 ![] bcast_S_S38912x1 main_cst
  let main_v13 : IVec S38912x1 1 := cmpf .oge main_arg1 main_v12
  let main_cst_5 : FVec F S_ .f32 := constant S_ .f32 0x7F800000#32
  let main_v14 : FVec F S38912x1 .f32 := broadcastInDim S38912x1 ![] bcast_S_S38912x1 main_cst_5
  let main_v15 : IVec S38912x1 1 := cmpf .olt main_arg1 main_v14
  fn_part1 (F := F) main_arg2 main_v1 main_v3 main_v5 main_v7 main_v9 main_v11 main_v13 main_v15
-- ==== Swa.lean ====
abbrev S32768x512 : Shape := ⟨2, ![32768, 512]⟩
abbrev S32768x128 : Shape := ⟨2, ![32768, 128]⟩
abbrev S8 : Shape := ⟨1, ![8]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x256 : Shape := ⟨3, ![1, 128, 256]⟩
abbrev S128x512 : Shape := ⟨2, ![128, 512]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S1 : Shape := ⟨1, ![1]⟩

abbrev nBuf : Space → Nat
  | .hbm => 67
  | .vmem => 13
  | .smem => 1
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S8, .f32⟩
  | .hbm, ⟨4, _⟩ => ⟨S32x8, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S128x256, .i32⟩
  | .hbm, ⟨50, _⟩ => ⟨S128x256x1, .i32⟩
  | .hbm, ⟨51, _⟩ => ⟨S128x256x8, .f32⟩
  | .hbm, ⟨52, _⟩ => ⟨S8x128x256, .f32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i1⟩
  | .hbm, ⟨60, _⟩ => ⟨S1x128x256, .i1⟩
  | .hbm, ⟨61, _⟩ => ⟨S_, .f32⟩
  | .hbm, ⟨62, _⟩ => ⟨S_, .f32⟩
  | .hbm, ⟨63, _⟩ => ⟨S8x128x256, .i1⟩
  | .hbm, ⟨64, _⟩ => ⟨S8x128x256, .f32⟩
  | .hbm, ⟨65, _⟩ => ⟨S8x128x256, .f32⟩
  | .hbm, ⟨66, _⟩ => ⟨S32768x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S8x128x256, .f32⟩
  | .local _ .vmem, ⟨11, _⟩ => ⟨S128x512, .bf16⟩
  | .local _ .vmem, ⟨12, _⟩ => ⟨S128x512, .bf16⟩
  | .local _ .smem, ⟨0, _⟩ => ⟨S8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_v44 : Ref sig .tc := ⟨.hbm, 66, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaRefIdeal.lean ====
abbrev S32768x512 : Shape := ⟨2, ![32768, 512]⟩
abbrev S32768x128 : Shape := ⟨2, ![32768, 128]⟩
abbrev S8 : Shape := ⟨1, ![8]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S8x32x128x2x4x64 : Shape := ⟨6, ![8, 32, 128, 2, 4, 64]⟩
abbrev S8x32x128x2x64 : Shape := ⟨5, ![8, 32, 128, 2, 64]⟩
abbrev S8x33x128x2x64 : Shape := ⟨5, ![8, 33, 128, 2, 64]⟩
abbrev S8x32x256x2x64 : Shape := ⟨5, ![8, 32, 256, 2, 64]⟩
abbrev S8x32x2x256x128x4 : Shape := ⟨6, ![8, 32, 2, 256, 128, 4]⟩
abbrev S8x32x2x4x128x256 : Shape := ⟨6, ![8, 32, 2, 4, 128, 256]⟩
abbrev S2x4x128x256 : Shape := ⟨4, ![2, 4, 128, 256]⟩
abbrev S1x1x2x4x128x256 : Shape := ⟨6, ![1, 1, 2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x1x1 : Shape := ⟨4, ![2, 4, 1, 1]⟩
abbrev S8x32x2x4x128x1 : Shape := ⟨6, ![8, 32, 2, 4, 128, 1]⟩
abbrev S8x32x2x4x128x257 : Shape := ⟨6, ![8, 32, 2, 4, 128, 257]⟩
abbrev S8x32x2x4x128 : Shape := ⟨5, ![8, 32, 2, 4, 128]⟩
abbrev S8x32x2x64x4x128 : Shape := ⟨6, ![8, 32, 2, 64, 4, 128]⟩

abbrev nBuf : Space → Nat
  | .hbm => 129
  | .vmem => 0
  | .smem => 0
  | _ => 0

abbrev hbmTy0_0 (i : Nat) : BufTy := match i % 128 with
  | 0 => ⟨S32768x512, .bf16⟩
  | 1 => ⟨S32768x128, .bf16⟩
  | 2 => ⟨S32768x128, .bf16⟩
  | 3 => ⟨S8, .f32⟩
  | 4 => ⟨S32x8, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S128x256, .f32⟩
  | 22 => ⟨S_, .f32⟩
  | 23 => ⟨S128x256, .f32⟩
  | 24 => ⟨S128x256, .f32⟩
  | 25 => ⟨S128x256, .f32⟩
  | 26 => ⟨S_, .f32⟩
  | 27 => ⟨S128x256, .f32⟩
  | 28 => ⟨S128x256, .f32⟩
  | 29 => ⟨S_, .f32⟩
  | 30 => ⟨S128x256, .f32⟩
  | 31 => ⟨S128x256, .f32⟩
  | 32 => ⟨S128x256, .i32⟩
  | 33 => ⟨S_, .i32⟩
  | 34 => ⟨S128x256, .i32⟩
  | 35 => ⟨S128x256, .i32⟩
  | 36 => ⟨S_, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i32⟩
  | 49 => ⟨S128x256, .i32⟩
  | 50 => ⟨S128x256x1, .i32⟩
  | 51 => ⟨S128x256x8, .f32⟩
  | 52 => ⟨S8x128x256, .f32⟩
  | 53 => ⟨S32768x512, .f32⟩
  | 54 => ⟨S8x32x128x2x4x64, .f32⟩
  | 55 => ⟨S32768x128, .f32⟩
  | 56 => ⟨S8x32x128x2x64, .f32⟩
  | 57 => ⟨S_, .i32⟩
  | 58 => ⟨S_, .f32⟩
  | 59 => ⟨S8x33x128x2x64, .f32⟩
  | 60 => ⟨S8x32x128x2x64, .f32⟩
  | 61 => ⟨S8x32x256x2x64, .f32⟩
  | 62 => ⟨S32768x128, .f32⟩
  | 63 => ⟨S8x32x128x2x64, .f32⟩
  | 64 => ⟨S_, .i32⟩
  | 65 => ⟨S_, .f32⟩
  | 66 => ⟨S8x33x128x2x64, .f32⟩
  | 67 => ⟨S8x32x128x2x64, .f32⟩
  | 68 => ⟨S8x32x256x2x64, .f32⟩
  | 69 => ⟨S8x32x2x256x128x4, .f32⟩
  | 70 => ⟨S8x32x2x4x128x256, .f32⟩
  | 71 => ⟨S_, .f32⟩
  | 72 => ⟨S8x32x2x4x128x256, .f32⟩
  | 73 => ⟨S8x32x2x4x128x256, .f32⟩
  | 74 => ⟨S2x4x128x256, .f32⟩
  | 75 => ⟨S1x1x2x4x128x256, .f32⟩
  | 76 => ⟨S8x32x2x4x128x256, .f32⟩
  | 77 => ⟨S8x32x2x4x128x256, .f32⟩
  | 78 => ⟨S_, .i32⟩
  | 79 => ⟨S128x256, .i32⟩
  | 80 => ⟨S128x256, .i1⟩
  | 81 => ⟨S_, .i32⟩
  | 82 => ⟨S128x256, .i32⟩
  | 83 => ⟨S128x256, .i1⟩
  | 84 => ⟨S128x256, .i1⟩
  | 85 => ⟨S32, .i32⟩
  | 86 => ⟨S32x1x1, .i32⟩
  | 87 => ⟨S_, .i32⟩
  | 88 => ⟨S32x1x1, .i32⟩
  | 89 => ⟨S32x1x1, .i1⟩
  | 90 => ⟨S_, .i32⟩
  | 91 => ⟨S1x256, .i32⟩
  | 92 => ⟨S1x256, .i1⟩
  | 93 => ⟨S1x1x256, .i1⟩
  | 94 => ⟨S32x1x256, .i1⟩
  | 95 => ⟨S32x1x256, .i1⟩
  | 96 => ⟨S32x1x256, .i1⟩
  | 97 => ⟨S1x128x256, .i1⟩
  | 98 => ⟨S32x128x256, .i1⟩
  | 99 => ⟨S32x128x256, .i1⟩
  | 100 => ⟨S32x128x256, .i1⟩
  | 101 => ⟨S1x32x1x1x128x256, .i1⟩
  | 102 => ⟨S_, .f32⟩
  | 103 => ⟨S_, .f32⟩
  | 104 => ⟨S8x32x2x4x128x256, .i1⟩
  | 105 => ⟨S8x32x2x4x128x256, .f32⟩
  | 106 => ⟨S8x32x2x4x128x256, .f32⟩
  | 107 => ⟨S2x4x1x1, .f32⟩
  | 108 => ⟨S8x32x2x4x128x1, .f32⟩
  | 109 => ⟨S8x32x2x4x128x257, .f32⟩
  | 110 => ⟨S_, .f32⟩
  | 111 => ⟨S8x32x2x4x128, .f32⟩
  | 112 => ⟨S_, .f32⟩
  | 113 => ⟨S8x32x2x4x128, .f32⟩
  | 114 => ⟨S8x32x2x4x128, .f32⟩
  | 115 => ⟨S8x32x2x4x128x1, .f32⟩
  | 116 => ⟨S8x32x2x4x128x257, .f32⟩
  | 117 => ⟨S8x32x2x4x128x257, .f32⟩
  | 118 => ⟨S8x32x2x4x128x257, .f32⟩
  | 119 => ⟨S_, .f32⟩
  | 120 => ⟨S8x32x2x4x128, .f32⟩
  | 121 => ⟨S8x32x2x4x128x1, .f32⟩
  | 122 => ⟨S8x32x2x4x128x257, .f32⟩
  | 123 => ⟨S8x32x2x4x128x257, .f32⟩
  | 124 => ⟨S8x32x2x4x128x256, .f32⟩
  | 125 => ⟨S8x32x2x64x4x128, .f32⟩
  | 126 => ⟨S8x32x128x2x4x64, .f32⟩
  | 127 => ⟨S32768x512, .f32⟩
  | _ => ⟨S32768x512, .bf16⟩

abbrev hbmTy0_1 (i : Nat) : BufTy := match i % 128 with
  | 0 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_call1_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_call2_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]
-- ==== InProj.lean ====
abbrev S8x4096x1024 : Shape := ⟨3, ![8, 4096, 1024]⟩
abbrev S1024x2048 : Shape := ⟨2, ![1024, 2048]⟩
abbrev S2048 : Shape := ⟨1, ![2048]⟩
abbrev S32768x1024 : Shape := ⟨2, ![32768, 1024]⟩
abbrev S1x2048 : Shape := ⟨2, ![1, 2048]⟩
abbrev S32768x512 : Shape := ⟨2, ![32768, 512]⟩
abbrev S32768x128 : Shape := ⟨2, ![32768, 128]⟩
abbrev S32768x256 : Shape := ⟨2, ![32768, 256]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512x2048 : Shape := ⟨2, ![512, 2048]⟩

abbrev nBuf : Space → Nat
  | .hbm => 14
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S2048, .f32⟩
  | .hbm, ⟨3, _⟩ => ⟨S32768x1024, .f32⟩
  | .hbm, ⟨4, _⟩ => ⟨S1024x2048, .bf16⟩
  | .hbm, ⟨5, _⟩ => ⟨S1x2048, .f32⟩
  | .hbm, ⟨6, _⟩ => ⟨S32768x512, .bf16⟩
  | .hbm, ⟨7, _⟩ => ⟨S32768x128, .bf16⟩
  | .hbm, ⟨8, _⟩ => ⟨S32768x128, .bf16⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S8x4096x1024 : Shape := ⟨3, ![8, 4096, 1024]⟩
abbrev S1024x2048 : Shape := ⟨2, ![1024, 2048]⟩
abbrev S2048 : Shape := ⟨1, ![2048]⟩
abbrev S32768x1024 : Shape := ⟨2, ![32768, 1024]⟩
abbrev S32768x2048 : Shape := ⟨2, ![32768, 2048]⟩
abbrev S1x2048 : Shape := ⟨2, ![1, 2048]⟩
abbrev S32768x512 : Shape := ⟨2, ![32768, 512]⟩
abbrev S32768x128 : Shape := ⟨2, ![32768, 128]⟩
abbrev S32768x256 : Shape := ⟨2, ![32768, 256]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S2048, .f32⟩
  | .hbm, ⟨3, _⟩ => ⟨S32768x1024, .f32⟩
  | .hbm, ⟨4, _⟩ => ⟨S32768x2048, .f32⟩
  | .hbm, ⟨5, _⟩ => ⟨S1x2048, .f32⟩
  | .hbm, ⟨6, _⟩ => ⟨S32768x2048, .f32⟩
  | .hbm, ⟨7, _⟩ => ⟨S32768x2048, .f32⟩
  | .hbm, ⟨8, _⟩ => ⟨S32768x512, .f32⟩
  | .hbm, ⟨9, _⟩ => ⟨S32768x128, .f32⟩
  | .hbm, ⟨10, _⟩ => ⟨S32768x128, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x512, .bf16⟩
  | .hbm, ⟨17, _⟩ => ⟨S32768x128, .bf16⟩
  | .hbm, ⟨18, _⟩ => ⟨S32768x128, .bf16⟩
  | .hbm, ⟨19, _⟩ => ⟨S32768x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== MemKv.lean ====
abbrev S8x256x1024 : Shape := ⟨3, ![8, 256, 1024]⟩
abbrev S4x1024x512 : Shape := ⟨3, ![4, 1024, 512]⟩
abbrev S2048x1024 : Shape := ⟨2, ![2048, 1024]⟩
abbrev S4x2048x256 : Shape := ⟨3, ![4, 2048, 256]⟩
abbrev S512x1024 : Shape := ⟨2, ![512, 1024]⟩
abbrev S1x1024x512 : Shape := ⟨3, ![1, 1024, 512]⟩
abbrev S1x512x256 : Shape := ⟨3, ![1, 512, 256]⟩
abbrev S1024x512 : Shape := ⟨2, ![1024, 512]⟩
abbrev S512x512 : Shape := ⟨2, ![512, 512]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S4x1024x512, .f32⟩
  | .hbm, ⟨2, _⟩ => ⟨S2048x1024, .f32⟩
  | .hbm, ⟨3, _⟩ => ⟨S4x2048x256, .bf16⟩
  | .hbm, ⟨4, _⟩ => ⟨S4x2048x256, .bf16⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S4x1024x512 : Shape := ⟨3, ![4, 1024, 512]⟩
abbrev S2048x1024 : Shape := ⟨2, ![2048, 1024]⟩
abbrev S4x512x2048 : Shape := ⟨3, ![4, 512, 2048]⟩
abbrev S4x2048x512 : Shape := ⟨3, ![4, 2048, 512]⟩
abbrev S4x2048x256 : Shape := ⟨3, ![4, 2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024x512, .f32⟩
  | .hbm, ⟨2, _⟩ => ⟨S2048x1024, .f32⟩
  | .hbm, ⟨3, _⟩ => ⟨S4x512x2048, .f32⟩
  | .hbm, ⟨4, _⟩ => ⟨S4x2048x512, .f32⟩
  | .hbm, ⟨5, _⟩ => ⟨S4x2048x256, .f32⟩
  | .hbm, ⟨6, _⟩ => ⟨S4x2048x256, .f32⟩
  | .hbm, ⟨7, _⟩ => ⟨S4x2048x256, .bf16⟩
  | .hbm, ⟨8, _⟩ => ⟨S4x2048x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MemAttn.lean ====
abbrev S32768x256 : Shape := ⟨2, ![32768, 256]⟩
abbrev S4x2048x256 : Shape := ⟨3, ![4, 2048, 256]⟩
abbrev S512x256 : Shape := ⟨2, ![512, 256]⟩
abbrev S1x256x256 : Shape := ⟨3, ![1, 256, 256]⟩
abbrev S512x64 : Shape := ⟨2, ![512, 64]⟩
abbrev S1x256x64 : Shape := ⟨3, ![1, 256, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x256, .bf16⟩
  | .hbm, ⟨1, _⟩ => ⟨S4x2048x256, .bf16⟩
  | .hbm, ⟨2, _⟩ => ⟨S4x2048x256, .bf16⟩
  | .hbm, ⟨3, _⟩ => ⟨S32768x256, .bf16⟩
  | .local _ .vmem, ⟨0, _⟩ => ⟨S512x256, .bf16⟩
  | .local _ .vmem, ⟨1, _⟩ => ⟨S512x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S512x256, .bf16⟩
  | .local _ .vmem, ⟨7, _⟩ => ⟨S512x256, .bf16⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S32768x256 : Shape := ⟨2, ![32768, 256]⟩
abbrev S4x2048x256 : Shape := ⟨3, ![4, 2048, 256]⟩
abbrev S8x4096x4x64 : Shape := ⟨4, ![8, 4096, 4, 64]⟩
abbrev S1x2048x256 : Shape := ⟨3, ![1, 2048, 256]⟩
abbrev S2048x256 : Shape := ⟨2, ![2048, 256]⟩
abbrev S8x256x4x64 : Shape := ⟨4, ![8, 256, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S4x2048x256, .bf16⟩
  | .hbm, ⟨2, _⟩ => ⟨S4x2048x256, .bf16⟩
  | .hbm, ⟨3, _⟩ => ⟨S32768x256, .f32⟩
  | .hbm, ⟨4, _⟩ => ⟨S8x4096x4x64, .f32⟩
  | .hbm, ⟨5, _⟩ => ⟨S1x2048x256, .bf16⟩
  | .hbm, ⟨6, _⟩ => ⟨S2048x256, .bf16⟩
  | .hbm, ⟨7, _⟩ => ⟨S2048x256, .f32⟩
  | .hbm, ⟨8, _⟩ => ⟨S8x256x4x64, .f32⟩
  | .hbm, ⟨9, _⟩ => ⟨S1x2048x256, .bf16⟩
  | .hbm, ⟨10, _⟩ => ⟨S2048x256, .bf16⟩
  | .hbm, ⟨11, _⟩ => ⟨S2048x256, .f32⟩
  | .hbm, ⟨12, _⟩ => ⟨S8x256x4x64, .f32⟩
  | .hbm, ⟨13, _⟩ => ⟨S8x4x4096x256, .f32⟩
  | .hbm, ⟨14, _⟩ => ⟨S_, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S_, .f32⟩
  | .hbm, ⟨20, _⟩ => ⟨S8x4x4096, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x4096x256, .f32⟩
  | .hbm, ⟨26, _⟩ => ⟨S_, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x64x4096, .f32⟩
  | .hbm, ⟨32, _⟩ => ⟨S8x4096x4x64, .f32⟩
  | .hbm, ⟨33, _⟩ => ⟨S32768x256, .f32⟩
  | .hbm, ⟨34, _⟩ => ⟨S32768x256, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Experts.lean ====
abbrev S311296x128 : Shape := ⟨2, ![311296, 128]⟩
abbrev S38912x1 : Shape := ⟨2, ![38912, 1]⟩
abbrev S152 : Shape := ⟨1, ![152]⟩
abbrev S1 : Shape := ⟨1, ![1]⟩
abbrev S4x16x1024x512 : Shape := ⟨4, ![4, 16, 1024, 512]⟩
abbrev S4x16x512x1024 : Shape := ⟨4, ![4, 16, 512, 1024]⟩
abbrev S2048x128 : Shape := ⟨2, ![2048, 128]⟩
abbrev S256x1 : Shape := ⟨2, ![256, 1]⟩
abbrev S1x1x1024x512 : Shape := ⟨4, ![1, 1, 1024, 512]⟩
abbrev S1x1x512x1024 : Shape := ⟨4, ![1, 1, 512, 1024]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 10
  | .vmem => 20
  | .smem => 3
  | _ => 0

abbrev bufTy : (tb : Table) → Fin (tcTables nBuf tb) → BufTy
  | .hbm, ⟨0, _⟩ => ⟨S311296x128, .f32⟩
  | .hbm, ⟨1, _⟩ => ⟨S38912x1, .f32⟩
  | .hbm, ⟨2, _⟩ => ⟨S38912x1, .f32⟩
  | .hbm, ⟨3, _⟩ => ⟨S4x16x1024x512, .f32⟩
  | .hbm, ⟨4, _⟩ => ⟨S4x16x1024x512, .f32⟩
  | .hbm, ⟨5, _⟩ => ⟨S4x16x512x1024, .f32⟩
  | .hbm, ⟨6, _⟩ => ⟨S4x16x1024x512, .bf16⟩
  | .hbm, ⟨7, _⟩ => ⟨S4x16x1024x512, .bf16⟩
  | .hbm, ⟨8, _⟩ => ⟨S4x16x512x1024, .bf16⟩
  | .hbm, ⟨9, _⟩ => ⟨S311296x128, .f32⟩
  | .local _ .vmem, ⟨0, _⟩ => ⟨S2048x128, .f32⟩
  | .local _ .vmem, ⟨1, _⟩ => ⟨S2048x128, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x1024x512, .bf16⟩
  | .local _ .vmem, ⟨13, _⟩ => ⟨S1x1x1024x512, .bf16⟩
  | .local _ .vmem, ⟨14, _⟩ => ⟨S1x1x1024x512, .bf16⟩
  | .local _ .vmem, ⟨15, _⟩ => ⟨S1x1x1024x512, .bf16⟩
  | .local _ .vmem, ⟨16, _⟩ => ⟨S1x1x512x1024, .bf16⟩
  | .local _ .vmem, ⟨17, _⟩ => ⟨S1x1x512x1024, .bf16⟩
  | .local _ .vmem, ⟨18, _⟩ => ⟨S2048x128, .f32⟩
  | .local _ .vmem, ⟨19, _⟩ => ⟨S2048x128, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S311296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ExpertsRefIdeal.lean ====
abbrev S311296x128 : Shape := ⟨2, ![311296, 128]⟩
abbrev S38912x1 : Shape := ⟨2, ![38912, 1]⟩
abbrev S152 : Shape := ⟨1, ![152]⟩
abbrev S1 : Shape := ⟨1, ![1]⟩
abbrev S4x16x1024x512 : Shape := ⟨4, ![4, 16, 1024, 512]⟩
abbrev S4x16x512x1024 : Shape := ⟨4, ![4, 16, 512, 1024]⟩
abbrev S152x256x1024 : Shape := ⟨3, ![152, 256, 1024]⟩
abbrev S1x16x1024x512 : Shape := ⟨4, ![1, 16, 1024, 512]⟩
abbrev S16x1024x512 : Shape := ⟨3, ![16, 1024, 512]⟩
abbrev S_ : Shape := ⟨0, ![]⟩
abbrev S152x1 : Shape := ⟨2, ![152, 1]⟩
abbrev S152x1024x512 : Shape := ⟨3, ![152, 1024, 512]⟩
abbrev S152x256x512 : Shape := ⟨3, ![152, 256, 512]⟩
abbrev S1x16x512x1024 : Shape := ⟨4, ![1, 16, 512, 1024]⟩
abbrev S16x512x1024 : Shape := ⟨3, ![16, 512, 1024]⟩
abbrev S152x512x1024 : Shape := ⟨3, ![152, 512, 1024]⟩
abbrev S152x256x1 : Shape := ⟨3, ![152, 256, 1]⟩
abbrev S152x1x1 : Shape := ⟨3, ![152, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S311296x128, .f32⟩
  | .hbm, ⟨1, _⟩ => ⟨S38912x1, .f32⟩
  | .hbm, ⟨2, _⟩ => ⟨S38912x1, .f32⟩
  | .hbm, ⟨3, _⟩ => ⟨S152, .i32⟩
  | .hbm, ⟨4, _⟩ => ⟨S152, .i32⟩
  | .hbm, ⟨5, _⟩ => ⟨S1, .i32⟩
  | .hbm, ⟨6, _⟩ => ⟨S4x16x1024x512, .f32⟩
  | .hbm, ⟨7, _⟩ => ⟨S4x16x1024x512, .f32⟩
  | .hbm, ⟨8, _⟩ => ⟨S4x16x512x1024, .f32⟩
  | .hbm, ⟨9, _⟩ => ⟨S152x256x1024, .f32⟩
  | .hbm, ⟨10, _⟩ => ⟨S1x16x1024x512, .f32⟩
  | .hbm, ⟨11, _⟩ => ⟨S16x1024x512, .f32⟩
  | .hbm, ⟨12, _⟩ => ⟨S_, .i32⟩
  | .hbm, ⟨13, _⟩ => ⟨S152, .i32⟩
  | .hbm, ⟨14, _⟩ => ⟨S152, .i1⟩
  | .hbm, ⟨15, _⟩ => ⟨S_, .i32⟩
  | .hbm, ⟨16, _⟩ => ⟨S152, .i32⟩
  | .hbm, ⟨17, _⟩ => ⟨S152, .i32⟩
  | .hbm, ⟨18, _⟩ => ⟨S152, .i32⟩
  | .hbm, ⟨19, _⟩ => ⟨S152x1, .i32⟩
  | .hbm, ⟨20, _⟩ => ⟨S152x1024x512, .f32⟩
  | .hbm, ⟨21, _⟩ => ⟨S152x256x512, .f32⟩
  | .hbm, ⟨22, _⟩ => ⟨S152x256x512, .f32⟩
  | .hbm, ⟨23, _⟩ => ⟨S152x256x512, .f32⟩
  | .hbm, ⟨24, _⟩ => ⟨S_, .f32⟩
  | .hbm, ⟨25, _⟩ => ⟨S152x256x512, .f32⟩
  | .hbm, ⟨26, _⟩ => ⟨S152x256x512, .f32⟩
  | .hbm, ⟨27, _⟩ => ⟨S_, .f32⟩
  | .hbm, ⟨28, _⟩ => ⟨S152x256x512, .f32⟩
  | .hbm, ⟨29, _⟩ => ⟨S152x256x512, .f32⟩
  | .hbm, ⟨30, _⟩ => ⟨S152x256x512, .f32⟩
  | .hbm, ⟨31, _⟩ => ⟨S1x16x1024x512, .f32⟩
  | .hbm, ⟨32, _⟩ => ⟨S16x1024x512, .f32⟩
  | .hbm, ⟨33, _⟩ => ⟨S_, .i32⟩
  | .hbm, ⟨34, _⟩ => ⟨S152, .i32⟩
  | .hbm, ⟨35, _⟩ => ⟨S152, .i1⟩
  | .hbm, ⟨36, _⟩ => ⟨S_, .i32⟩
  | .hbm, ⟨37, _⟩ => ⟨S152, .i32⟩
  | .hbm, ⟨38, _⟩ => ⟨S152, .i32⟩
  | .hbm, ⟨39, _⟩ => ⟨S152, .i32⟩
  | .hbm, ⟨40, _⟩ => ⟨S152x1, .i32⟩
  | .hbm, ⟨41, _⟩ => ⟨S152x1024x512, .f32⟩
  | .hbm, ⟨42, _⟩ => ⟨S152x256x512, .f32⟩
  | .hbm, ⟨43, _⟩ => ⟨S152x256x512, .f32⟩
  | .hbm, ⟨44, _⟩ => ⟨S1x16x512x1024, .f32⟩
  | .hbm, ⟨45, _⟩ => ⟨S16x512x1024, .f32⟩
  | .hbm, ⟨46, _⟩ => ⟨S_, .i32⟩
  | .hbm, ⟨47, _⟩ => ⟨S152, .i32⟩
  | .hbm, ⟨48, _⟩ => ⟨S152, .i1⟩
  | .hbm, ⟨49, _⟩ => ⟨S_, .i32⟩
  | .hbm, ⟨50, _⟩ => ⟨S152, .i32⟩
  | .hbm, ⟨51, _⟩ => ⟨S152, .i32⟩
  | .hbm, ⟨52, _⟩ => ⟨S152, .i32⟩
  | .hbm, ⟨53, _⟩ => ⟨S152x1, .i32⟩
  | .hbm, ⟨54, _⟩ => ⟨S152x512x1024, .f32⟩
  | .hbm, ⟨55, _⟩ => ⟨S152x256x1024, .f32⟩
  | .hbm, ⟨56, _⟩ => ⟨S152x256x1, .f32⟩
  | .hbm, ⟨57, _⟩ => ⟨S152x256x1024, .f32⟩
  | .hbm, ⟨58, _⟩ => ⟨S152x256x1024, .f32⟩
  | .hbm, ⟨59, _⟩ => ⟨S1x16x1024x512, .f32⟩
  | .hbm, ⟨60, _⟩ => ⟨S16x1024x512, .f32⟩
  | .hbm, ⟨61, _⟩ => ⟨S_, .i32⟩
  | .hbm, ⟨62, _⟩ => ⟨S152, .i32⟩
  | .hbm, ⟨63, _⟩ => ⟨S152, .i1⟩
  | .hbm, ⟨64, _⟩ => ⟨S_, .i32⟩
  | .hbm, ⟨65, _⟩ => ⟨S152, .i32⟩
  | .hbm, ⟨66, _⟩ => ⟨S152, .i32⟩
  | .hbm, ⟨67, _⟩ => ⟨S152, .i32⟩
  | .hbm, ⟨68, _⟩ => ⟨S152x1, .i32⟩
  | .hbm, ⟨69, _⟩ => ⟨S152x1024x512, .f32⟩
  | .hbm, ⟨70, _⟩ => ⟨S152x256x512, .f32⟩
  | .hbm, ⟨71, _⟩ => ⟨S152x256x512, .f32⟩
  | .hbm, ⟨72, _⟩ => ⟨S152x256x512, .f32⟩
  | .hbm, ⟨73, _⟩ => ⟨S_, .f32⟩
  | .hbm, ⟨74, _⟩ => ⟨S152x256x512, .f32⟩
  | .hbm, ⟨75, _⟩ => ⟨S152x256x512, .f32⟩
  | .hbm, ⟨76, _⟩ => ⟨S_, .f32⟩
  | .hbm, ⟨77, _⟩ => ⟨S152x256x512, .f32⟩
  | .hbm, ⟨78, _⟩ => ⟨S152x256x512, .f32⟩
  | .hbm, ⟨79, _⟩ => ⟨S152x256x512, .f32⟩
  | .hbm, ⟨80, _⟩ => ⟨S1x16x1024x512, .f32⟩
  | .hbm, ⟨81, _⟩ => ⟨S16x1024x512, .f32⟩
  | .hbm, ⟨82, _⟩ => ⟨S_, .i32⟩
  | .hbm, ⟨83, _⟩ => ⟨S152, .i32⟩
  | .hbm, ⟨84, _⟩ => ⟨S152, .i1⟩
  | .hbm, ⟨85, _⟩ => ⟨S_, .i32⟩
  | .hbm, ⟨86, _⟩ => ⟨S152, .i32⟩
  | .hbm, ⟨87, _⟩ => ⟨S152, .i32⟩
  | .hbm, ⟨88, _⟩ => ⟨S152, .i32⟩
  | .hbm, ⟨89, _⟩ => ⟨S152x1, .i32⟩
  | .hbm, ⟨90, _⟩ => ⟨S152x1024x512, .f32⟩
  | .hbm, ⟨91, _⟩ => ⟨S152x256x512, .f32⟩
  | .hbm, ⟨92, _⟩ => ⟨S152x256x512, .f32⟩
  | .hbm, ⟨93, _⟩ => ⟨S1x16x512x1024, .f32⟩
  | .hbm, ⟨94, _⟩ => ⟨S16x512x1024, .f32⟩
  | .hbm, ⟨95, _⟩ => ⟨S_, .i32⟩
  | .hbm, ⟨96, _⟩ => ⟨S152, .i32⟩
  | .hbm, ⟨97, _⟩ => ⟨S152, .i1⟩
  | .hbm, ⟨98, _⟩ => ⟨S_, .i32⟩
  | .hbm, ⟨99, _⟩ => ⟨S152, .i32⟩
  | .hbm, ⟨100, _⟩ => ⟨S152, .i32⟩
  | .hbm, ⟨101, _⟩ => ⟨S152, .i32⟩
  | .hbm, ⟨102, _⟩ => ⟨S152x1, .i32⟩
  | .hbm, ⟨103, _⟩ => ⟨S152x512x1024, .f32⟩
  | .hbm, ⟨104, _⟩ => ⟨S152x256x1024, .f32⟩
  | .hbm, ⟨105, _⟩ => ⟨S152x256x1, .f32⟩
  | .hbm, ⟨106, _⟩ => ⟨S152x256x1024, .f32⟩
  | .hbm, ⟨107, _⟩ => ⟨S152x256x1024, .f32⟩
  | .hbm, ⟨108, _⟩ => ⟨S152x256x1024, .f32⟩
  | .hbm, ⟨109, _⟩ => ⟨S152, .i32⟩
  | .hbm, ⟨110, _⟩ => ⟨S152x1x1, .i32⟩
  | .hbm, ⟨111, _⟩ => ⟨S_, .i32⟩
  | .hbm, ⟨112, _⟩ => ⟨S152x1x1, .i32⟩
  | .hbm, ⟨113, _⟩ => ⟨S152x1x1, .i1⟩
  | .hbm, ⟨114, _⟩ => ⟨S_, .f32⟩
  | .hbm, ⟨115, _⟩ => ⟨S_, .f32⟩
  | .hbm, ⟨116, _⟩ => ⟨S152x256x1024, .i1⟩
  | .hbm, ⟨117, _⟩ => ⟨S152x256x1024, .f32⟩
  | .hbm, ⟨118, _⟩ => ⟨S152x256x1024, .f32⟩
  | .hbm, ⟨119, _⟩ => ⟨S311296x128, .f32⟩
  | _, _ => ⟨S311296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_7 : Ref sig .tc := ⟨.hbm, 82, rfl⟩
abbrev main_v49 : Ref sig .tc := ⟨.hbm, 83, rfl⟩
abbrev main_v50 : Ref sig .tc := ⟨.hbm, 84, rfl⟩
abbrev main_c_8 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_9 : Ref sig .tc := ⟨.hbm, 95, rfl⟩
abbrev main_v60 : Ref sig .tc := ⟨.hbm, 96, rfl⟩
abbrev main_v61 : Ref sig .tc := ⟨.hbm, 97, rfl⟩
abbrev main_c_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v77 : Ref sig .tc := ⟨.hbm, 118, rfl⟩
abbrev main_v78 : Ref sig .tc := ⟨.hbm, 119, rfl⟩

abbrev nD : Nat := 1
abbrev τ : Topo := Topo.v7x

variable {F : FTy → Type} [FloatOps F]
-- ==== OutProj.lean ====
abbrev S8x4096x1024 : Shape := ⟨3, ![8, 4096, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x1024 : Shape := ⟨2, ![16, 1024]⟩
abbrev S16x1 : Shape := ⟨2, ![16, 1]⟩
abbrev S32768x1024 : Shape := ⟨2, ![32768, 1024]⟩
abbrev S1x1024 : Shape := ⟨2, ![1, 1024]⟩
abbrev S262144x128 : Shape := ⟨2, ![262144, 128]⟩
abbrev S64x1x512 : Shape := ⟨3, ![64, 1, 512]⟩
abbrev S32x128 : Shape := ⟨2, ![32, 128]⟩
abbrev S512x1024 : Shape := ⟨2, ![512, 1024]⟩
abbrev S512x256 : Shape := ⟨2, ![512, 256]⟩
abbrev S4096x128 : Shape := ⟨2, ![4096, 128]⟩
abbrev S1x1x512 : Shape := ⟨3, ![1, 1, 512]⟩
abbrev S256x1024 : Shape := ⟨2, ![256, 1024]⟩
abbrev S512x128 : Shape := ⟨2, ![512, 128]⟩
abbrev S16x512 : Shape := ⟨2, ![16, 512]⟩
abbrev S32x512 : Shape := ⟨2, ![32, 512]⟩
abbrev S32x1 : Shape := ⟨2, ![32, 1]⟩

abbrev nBuf : Space → Nat
  | .hbm => 30
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S512, .i32⟩
  | .hbm, ⟨10, _⟩ => ⟨S512x1, .i32⟩
  | .hbm, ⟨11, _⟩ => ⟨S512, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S16x1024, .f32⟩
  | .hbm, ⟨18, _⟩ => ⟨S16x1024, .bf16⟩
  | .hbm, ⟨19, _⟩ => ⟨S16x1, .f32⟩
  | .hbm, ⟨20, _⟩ => ⟨S32768x1024, .f32⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S262144x128, .f32⟩
  | .hbm, ⟨25, _⟩ => ⟨S64x1x512, .i32⟩
  | .hbm, ⟨26, _⟩ => ⟨S64x1x512, .i32⟩
  | .hbm, ⟨27, _⟩ => ⟨S64x1x512, .f32⟩
  | .hbm, ⟨28, _⟩ => ⟨S64x1x512, .f32⟩
  | .hbm, ⟨29, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S16x1024, .bf16⟩
  | .local _ .vmem, ⟨12, _⟩ => ⟨S16x1, .f32⟩
  | .local _ .vmem, ⟨13, _⟩ => ⟨S512x512, .bf16⟩
  | .local _ .vmem, ⟨14, _⟩ => ⟨S4096x128, .f32⟩
  | .local _ .vmem, ⟨15, _⟩ => ⟨S4096x128, .f32⟩
  | .local _ .vmem, ⟨16, _⟩ => ⟨S1x1x512, .i32⟩
  | .local _ .vmem, ⟨17, _⟩ => ⟨S1x1x512, .i32⟩
  | .local _ .vmem, ⟨18, _⟩ => ⟨S1x1x512, .i32⟩
  | .local _ .vmem, ⟨19, _⟩ => ⟨S1x1x512, .i32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S32x128, .f32⟩
  | .local _ .vmem, ⟨25, _⟩ => ⟨S32x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OutProjRefIdeal.lean ====
abbrev S8x4096x1024 : Shape := ⟨3, ![8, 4096, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S262144x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Ln2.lean ====
abbrev S262144x128 : Shape := ⟨2, ![262144, 128]⟩
abbrev S1024 : Shape := ⟨1, ![1024]⟩
abbrev S1x1024 : Shape := ⟨2, ![1, 1024]⟩
abbrev S32768x1024 : Shape := ⟨2, ![32768, 1024]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Ln2RefIdeal.lean ====
abbrev S262144x128 : Shape := ⟨2, ![262144, 128]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Weights.lean ====
/- Arithmetic of the extended reals used by both attention proofs.

   An attention row has scores `l t`, a maximum `M`, weights `exp (l t - M)` and the denominator
   `D = ∑ t, exp (l t - M)`. One program divides the weighted sum of the values by `D` at the end, another one
   divides every weight by `D` first. This module shows that the two agree whenever `D` is a positive real number,
   and that it is one as soon as no score is `⊤` and some score is a real number. Nothing is assumed of the values. -/
module

public import Idealize.ShloMosaic.PureOps.Ideal

@[expose] public section

noncomputable section

open Idealize.ShloMosaic

namespace Weights

/-- The word of `+∞` in float32 is read as `⊤`. -/
theorem ofBits_inf : Ideal.ofBits FTy.f32 0x7F800000#32 = ⊤ := by
  simp [Ideal.ofBits, Ideal.ieee]

/-- The word of `-∞` in float32 is read as `⊥`. -/
theorem ofBits_neg_inf : Ideal.ofBits FTy.f32 0xFF800000#32 = ⊥ := by
  simp [Ideal.ofBits, Ideal.ieee]

/-- `x` is a real number. -/
def Fin' (x : EReal) : Prop := ∃ r : ℝ, x = r

theorem Fin'.add {x y : EReal} : Fin' x → Fin' y → Fin' (x + y) := by
  rintro ⟨r, rfl⟩ ⟨s, rfl⟩; exact ⟨r + s, by norm_cast⟩

theorem Fin'.mul {x y : EReal} : Fin' x → Fin' y → Fin' (x * y) := by
  rintro ⟨r, rfl⟩ ⟨s, rfl⟩; exact ⟨r * s, by norm_cast⟩

theorem Fin'.sum {ι : Type} [DecidableEq ι] (s : Finset ι) {f : ι → EReal} (h : ∀ i, Fin' (f i)) : Fin' (∑ i ∈ s, f i) := by
  induction s using Finset.induction_on with
  | empty => exact ⟨0, by simp⟩
  | insert a s ha ih => rw [Finset.sum_insert ha]; exact (h a).add ih

theorem Fin'.ne_top {x : EReal} : Fin' x → x ≠ ⊤ := by
  rintro ⟨r, rfl⟩; exact EReal.coe_ne_top r

theorem Fin'.ne_bot {x : EReal} : Fin' x → x ≠ ⊥ := by
  rintro ⟨r, rfl⟩; exact EReal.coe_ne_bot r

theorem fin'_of_ne {x : EReal} (ht : x ≠ ⊤) (hb : x ≠ ⊥) : Fin' x :=
  ⟨x.toReal, (EReal.coe_toReal ht hb).symm⟩

/-- A number whose absolute value, `max x (-x)`, compares below `+∞` is real. -/
theorem fin'_of_abs {x : EReal} (h : Ideal.cmp .olt (max x (-x)) ⊤ = 1#1) : Fin' x := by
  have h' : max x (-x) < ⊤ := by
    by_contra hn
    simp [Ideal.cmp, hn] at h
  refine fin'_of_ne (fun he => ?_) (fun he => ?_) <;> subst he <;> simp at h'

/-- The maximum over a finite family, started at `⊥`, is real if no member is `⊤` and one is real. -/
theorem fold_max_fin' {ι : Type} [Fintype ι] [DecidableEq ι] {l : ι → EReal} (ht : ∀ i, l i ≠ ⊤) (i₀ : ι) (h₀ : Fin' (l i₀)) :
    Fin' (Finset.univ.fold max ⊥ l) := by
  refine fin'_of_ne ?_ ?_
  · have : Finset.univ.fold max ⊥ l < ⊤ := by
      rw [Finset.fold_max_lt]
      exact ⟨bot_lt_top, fun i _ => lt_top_iff_ne_top.mpr (ht i)⟩
    exact this.ne
  · have : l i₀ ≤ Finset.univ.fold max ⊥ l := by
      rw [Finset.le_fold_max]
      exact Or.inr ⟨i₀, Finset.mem_univ _, le_rfl⟩
    intro he
    rw [he] at this
    exact h₀.ne_bot (le_bot_iff.mp this)

/-- A nonnegative real number. -/
def Nonneg (x : EReal) : Prop := ∃ r : ℝ, 0 ≤ r ∧ x = r

/-- A positive real number. -/
def Pos (x : EReal) : Prop := ∃ r : ℝ, 0 < r ∧ x = r

theorem Nonneg.add {x y : EReal} : Nonneg x → Nonneg y → Nonneg (x + y) := by
  rintro ⟨r, hr, rfl⟩ ⟨s, hs, rfl⟩; exact ⟨r + s, by positivity, by norm_cast⟩

theorem Pos.add_nonneg {x y : EReal} : Pos x → Nonneg y → Pos (x + y) := by
  rintro ⟨r, hr, rfl⟩ ⟨s, hs, rfl⟩; exact ⟨r + s, by positivity, by norm_cast⟩

theorem Nonneg.sum {ι : Type} [DecidableEq ι] (s : Finset ι) {f : ι → EReal} (h : ∀ i, Nonneg (f i)) : Nonneg (∑ i ∈ s, f i) := by
  induction s using Finset.induction_on with
  | empty => exact ⟨0, le_rfl, by simp⟩
  | insert a s ha ih => rw [Finset.sum_insert ha]; exact (h a).add ih

/-- The weight of a score that is not `⊤`, against a real maximum, is a nonnegative real number. -/
theorem exp_nonneg {x M : EReal} (hx : x ≠ ⊤) (hM : Fin' M) : Nonneg (Ideal.exp (x - M)) := by
  obtain ⟨r, rfl⟩ := hM
  induction x using EReal.rec with
  | bot => exact ⟨0, le_rfl, by simp [EReal.bot_sub]⟩
  | top => exact absurd rfl hx
  | coe y => exact ⟨Real.exp (y - r), (Real.exp_pos _).le, by rw [← EReal.coe_sub]; rfl⟩

/-- The weight of a real score, against a real maximum, is a positive real number. -/
theorem exp_pos {x M : EReal} (hx : Fin' x) (hM : Fin' M) : Pos (Ideal.exp (x - M)) := by
  obtain ⟨r, rfl⟩ := hM
  obtain ⟨y, rfl⟩ := hx
  exact ⟨Real.exp (y - r), Real.exp_pos _, by rw [← EReal.coe_sub]; rfl⟩

/-- The denominator is a positive real number. -/
theorem denom_pos {ι : Type} [Fintype ι] [DecidableEq ι] {l : ι → EReal} {M : EReal} (hM : Fin' M) (ht : ∀ i, l i ≠ ⊤) (i₀ : ι)
    (h₀ : Fin' (l i₀)) : Pos (∑ i, Ideal.exp (l i - M)) := by
  rw [← Finset.add_sum_erase _ _ (Finset.mem_univ i₀)]
  exact (exp_pos h₀ hM).add_nonneg (Nonneg.sum _ fun i => exp_nonneg (ht i) hM)

/-- Multiplication by a nonnegative real number distributes over every finite sum. -/
theorem sum_mul_real {ι : Type} [DecidableEq ι] (s : Finset ι) (f : ι → EReal) {r : ℝ} (hr : 0 ≤ r) :
    (∑ i ∈ s, f i) * (r : EReal) = ∑ i ∈ s, f i * (r : EReal) := by
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hr) (EReal.coe_ne_top r) _ _

/-- Dividing the weighted sum is weighting with the divided weights. -/
theorem div_sum {ι : Type} [Fintype ι] [DecidableEq ι] (e v : ι → EReal) {D : EReal} (hD : Pos D) :
    Ideal.div (∑ i, e i * v i) D = ∑ i, v i * Ideal.div (e i) D := by
  obtain ⟨d, hd, rfl⟩ := hD
  rw [Ideal.div_coe hd.ne', sum_mul_real _ _ (by positivity)]
  refine Finset.sum_congr rfl fun i _ => ?_
  rw [Ideal.div_coe hd.ne', mul_comm (e i) (v i), mul_assoc]

/-- The word of `1/8` in float32 is read as a real number. -/
theorem ofBits_eighth : Fin' (Ideal.ofBits FTy.f32 0x3E000000#32) :=
  ⟨1 / 8, by simp [Ideal.ofBits, Ideal.ieee, -EReal.coe_mul]; norm_num⟩

/-- The scaled product of a query and a key. -/
def score (q k : Fin 64 → EReal) : EReal := (∑ d, q d * k d) * Ideal.ofBits FTy.f32 0x3E000000#32

theorem score_fin' {q k : Fin 64 → EReal} (hq : ∀ d, Fin' (q d)) (hk : ∀ d, Fin' (k d)) : Fin' (score q k) :=
  (Fin'.sum _ fun d => (hq d).mul (hk d)).mul ofBits_eighth

/-- Softmax attention over `n` scores, divided at the end. -/
def late {n : Nat} (l v : Fin n → EReal) : EReal :=
  Ideal.div (∑ t, Ideal.exp (l t - Finset.univ.fold max ⊥ l) * v t) (∑ t, Ideal.exp (l t - Finset.univ.fold max ⊥ l))

/-- Softmax attention over `n` scores, every weight divided first. -/
def early {n : Nat} (l v : Fin n → EReal) : EReal :=
  ∑ t, v t * Ideal.div (Ideal.exp (l t - Finset.univ.fold max ⊥ l)) (∑ t, Ideal.exp (l t - Finset.univ.fold max ⊥ l))

/-- The same with one more weight, the sink's, in the maximum and in the denominator, divided at the end. -/
def lateSink {n : Nat} (l : Fin n → EReal) (s : EReal) (v : Fin n → EReal) : EReal :=
  Ideal.div (∑ t, Ideal.exp (l t - max (Finset.univ.fold max ⊥ l) s) * v t)
    ((∑ t, Ideal.exp (l t - max (Finset.univ.fold max ⊥ l) s)) + Ideal.exp (s - max (Finset.univ.fold max ⊥ l) s))

/-- The same, every weight divided first. -/
def earlySink {n : Nat} (l : Fin n → EReal) (s : EReal) (v : Fin n → EReal) : EReal :=
  ∑ t, v t * Ideal.div (Ideal.exp (l t - max (Finset.univ.fold max ⊥ l) s))
    ((∑ t, Ideal.exp (l t - max (Finset.univ.fold max ⊥ l) s)) + Ideal.exp (s - max (Finset.univ.fold max ⊥ l) s))

theorem fold_max_ne_top {n : Nat} {l : Fin n → EReal} (ht : ∀ i, l i ≠ ⊤) : Finset.univ.fold max ⊥ l ≠ ⊤ := by
  refine ne_of_lt ?_
  rw [Finset.fold_max_lt]
  exact ⟨bot_lt_top, fun i _ => lt_top_iff_ne_top.mpr (ht i)⟩

/-- A masked score may be `-∞`; the sink, a real number, keeps the maximum and the denominator real. -/
theorem max_sink_fin' {n : Nat} {l : Fin n → EReal} {s : EReal} (ht : ∀ i, l i ≠ ⊤) (hs : Fin' s) :
    Fin' (max (Finset.univ.fold max ⊥ l) s) := by
  refine fin'_of_ne ?_ ?_
  · rcases max_choice (Finset.univ.fold max ⊥ l) s with h | h <;> rw [h]
    · exact fold_max_ne_top ht
    · exact hs.ne_top
  · exact ne_of_gt (lt_of_lt_of_le (bot_lt_iff_ne_bot.mpr hs.ne_bot) (le_max_right _ _))

theorem lateSink_eq_earlySink {n : Nat} {l : Fin n → EReal} {s : EReal} (v : Fin n → EReal) (ht : ∀ i, l i ≠ ⊤)
    (hs : Fin' s) : lateSink l s v = earlySink l s v := by
  have hM := max_sink_fin' ht hs
  refine div_sum _ _ ?_
  rw [add_comm]
  exact (exp_pos hs hM).add_nonneg (Nonneg.sum _ fun t => exp_nonneg (ht t) hM)

/-- A value whose score is `-∞` does not matter. -/
theorem lateSink_congr {n : Nat} {l : Fin n → EReal} {s : EReal} {v v' : Fin n → EReal}
    (h : ∀ t, l t = ⊥ ∨ v t = v' t) : lateSink l s v = lateSink l s v' := by
  unfold lateSink
  congr 1
  refine Finset.sum_congr rfl fun t _ => ?_
  rcases h t with h | h
  · rw [h, EReal.bot_sub]; simp
  · rw [h]

/-- The maximum over one more term. -/
theorem fold_max_last {n : Nat} (f : Fin (n + 1) → EReal) :
    Finset.univ.fold max ⊥ f = max (Finset.univ.fold max ⊥ fun t : Fin n => f t.castSucc) (f (Fin.last n)) := by
  rw [Fin.univ_castSuccEmb, Finset.fold_cons, Finset.fold_map, max_comm]
  rfl

/-- The two agree when every score is a real number. -/
theorem late_eq_early {n : Nat} (l v : Fin (n + 1) → EReal) (h : ∀ t, Fin' (l t)) : late l v = early l v :=
  div_sum _ _ (denom_pos (fold_max_fin' (fun t => (h t).ne_top) 0 (h 0)) (fun t => (h t).ne_top) 0 (h 0))

end Weights
end
-- ==== Proof.SwaBlock.lean ====
/- What one grid point of the windowed attention computes: eight heads of 64 columns, each the softmax attention, with
   one more weight for the sink, of 128 query rows over 256 key rows, divided by the denominator at the end. -/
module

public import proofs.«01_k».proof.Proof.Gen.SwaIdeal.Value
public import proofs.«01_k».proof.Proof.Weights
public import Idealize.ShloMosaic.Lib.Pointwise
public import Idealize.ShloMosaic.Lib.Pipeline.ValueKit

@[expose] public section

set_option maxRecDepth 16384
set_option Elab.async false

noncomputable section

open Idealize.ShloMosaic Idealize.ShloMosaic.TcCoe Idealize.SL.Sem

namespace SwaBlock
open Cert.SwaIdeal Cert.SwaIdeal.Gen

/-- The score of a key that belongs to the first half of the key columns. -/
def sc (q : Fin 64 → EReal) (K : Fin 256 → Fin 64 → EReal) (b p : Fin 256 → EReal) (t : Fin 256) : EReal :=
  Weights.score q (K t) + b t + p t

/-- A head reading key columns 0 to 63. -/
theorem head0_apply (K V : FVec Ideal S256x128 .bf16) (p : FVec Ideal S1x256 .f32) (q : Vec Ideal S128x64 .bf16)
    (b : Vec Ideal S1x128x256 .f32) (s : Elt Ideal .f32) (r : Fin 128) (d : Fin 64) :
    k0_pay10 K V p q b s (ix2 r d)
      = Weights.lateSink (sc (fun e => q (ix2 r e)) (fun t e => K (ix2 t ⟨e.val, by omega⟩)) (fun t => b (ix3 0 r t))
          (fun t => p (ix2 0 t))) s (fun t => V (ix2 t ⟨d.val, by omega⟩)) := by
  unfold Weights.lateSink sc Weights.score
  rw [← Weights.ofBits_neg_inf]
  pointwise [k0_pay10]

/-- A head reading key columns 64 to 127. -/
theorem head1_apply (K V : FVec Ideal S256x128 .bf16) (p : FVec Ideal S1x256 .f32) (q : Vec Ideal S128x64 .bf16)
    (b : Vec Ideal S1x128x256 .f32) (s : Elt Ideal .f32) (r : Fin 128) (d : Fin 64) :
    k0_pay20 K V p q b s (ix2 r d)
      = Weights.lateSink (sc (fun e => q (ix2 r e)) (fun t e => K (ix2 t ⟨64 + e.val, by omega⟩)) (fun t => b (ix3 0 r t))
          (fun t => p (ix2 0 t))) s (fun t => V (ix2 t ⟨64 + d.val, by omega⟩)) := by
  unfold Weights.lateSink sc Weights.score
  rw [← Weights.ofBits_neg_inf]
  pointwise [k0_pay20]

/-- The stored block is the eight heads side by side. -/
theorem payload_eq (i : grid0.Coords) (x2 x3 x4 x5 : Vec Ideal S128x128 .bf16) (q0 q1 q2 q3 q4 q5 q6 q7 : Vec Ideal S128x64 .bf16)
    (b0 b1 b2 b3 b4 b5 b6 b7 : Vec Ideal S1x128x256 .f32) (s0 s1 s2 s3 s4 s5 s6 s7 : Elt Ideal .f32) :
    k0_pay33 (k0_pay9 (k0_pay4 x4 x5) s0 (k0_pay6 i x2 x3 q0 b0 s0) (k0_pay7 i x2 x3 q0 b0 s0)
        (k0_pay8 i x2 x3 q0 b0 s0))
      (k0_pay10 (k0_pay1 x2 x3) (k0_pay2 x4 x5) (k0_pay3 i) q1 b1 s1)
      (k0_pay13 (k0_pay3 i) (k0_pay11 (k0_pay2 x4 x5)) (k0_pay12 (k0_pay1 x2 x3) q2) b2 s2)
      (k0_pay19 (k0_pay14 (k0_pay2 x4 x5)) s3 (k0_pay16 (k0_pay1 x2 x3) (k0_pay3 i) q3 b3 s3)
        (k0_pay17 (k0_pay1 x2 x3) (k0_pay3 i) q3 b3 s3) (k0_pay18 (k0_pay1 x2 x3) (k0_pay3 i) q3 b3 s3))
      (k0_pay20 (k0_pay1 x2 x3) (k0_pay2 x4 x5) (k0_pay3 i) q4 b4 s4)
      (k0_pay23 (k0_pay3 i) (k0_pay21 (k0_pay2 x4 x5)) (k0_pay22 (k0_pay1 x2 x3) q5) b5 s5)
      (k0_pay24 (k0_pay2 x4 x5)) s6 (k0_pay26 (k0_pay1 x2 x3) (k0_pay3 i) q6 b6 s6)
      (k0_pay27 (k0_pay1 x2 x3) (k0_pay3 i) q6 b6 s6) (k0_pay28 (k0_pay1 x2 x3) (k0_pay3 i) q6 b6 s6) s7
      (k0_pay30 (k0_pay1 x2 x3) (k0_pay3 i) q7 b7 s7)
      (k0_pay31 (k0_pay1 x2 x3) (k0_pay3 i) q7 b7 (k0_pay30 (k0_pay1 x2 x3) (k0_pay3 i) q7 b7 s7))
      (k0_pay32 (k0_pay2 x4 x5) (k0_pay31 (k0_pay1 x2 x3) (k0_pay3 i) q7 b7
        (k0_pay30 (k0_pay1 x2 x3) (k0_pay3 i) q7 b7 s7)))
    = truncf .bf16 (concatenate S128x512 1
        [⟨S128x64, k0_pay10 (k0_pay1 x2 x3) (k0_pay2 x4 x5) (k0_pay3 i) q0 b0 s0⟩, ⟨S128x64, k0_pay10 (k0_pay1 x2 x3) (k0_pay2 x4 x5) (k0_pay3 i) q1 b1 s1⟩
         , ⟨S128x64, k0_pay10 (k0_pay1 x2 x3) (k0_pay2 x4 x5) (k0_pay3 i) q2 b2 s2⟩, ⟨S128x64, k0_pay10 (k0_pay1 x2 x3) (k0_pay2 x4 x5) (k0_pay3 i) q3 b3 s3⟩
         , ⟨S128x64, k0_pay20 (k0_pay1 x2 x3) (k0_pay2 x4 x5) (k0_pay3 i) q4 b4 s4⟩, ⟨S128x64, k0_pay20 (k0_pay1 x2 x3) (k0_pay2 x4 x5) (k0_pay3 i) q5 b5 s5⟩
         , ⟨S128x64, k0_pay20 (k0_pay1 x2 x3) (k0_pay2 x4 x5) (k0_pay3 i) q6 b6 s6⟩, ⟨S128x64, k0_pay20 (k0_pay1 x2 x3) (k0_pay2 x4 x5) (k0_pay3 i) q7 b7 s7⟩]
        concatenates_S128x64_S128x64_S128x64_S128x64_S128x64_S128x64_S128x64_S128x64_S128x512_d1) bitsLt_bf16_f32 :=
  rfl

/-- Row `u` of the 256 keys (or values): the previous block's 128 rows, then the own block's. -/
def row (x y : Vec Ideal S128x128 .bf16) (u : Fin 256) (e : Fin 128) : EReal :=
  if h : u.val < 128 then x (ix2 ⟨u.val, h⟩ e) else y (ix2 ⟨u.val - 128, by omega⟩ e)

theorem k0_pay1_apply (x y : Vec Ideal S128x128 .bf16) (u : Fin 256) (e : Fin 128) :
    k0_pay1 x y (ix2 u e) = row x y u e := by
  unfold row
  pointwise [k0_pay1]

theorem k0_pay2_apply (x y : Vec Ideal S128x128 .bf16) (u : Fin 256) (e : Fin 128) :
    k0_pay2 x y (ix2 u e) = row x y u e := k0_pay1_apply x y u e

/-- What is added to the scores of the 256 keys in the block `n` of a sequence: `-∞` on the previous block's keys when
    there is no previous block. -/
def pad (n : Nat) (u : Fin 256) : EReal := if u.val < 128 ∧ n = 0 then ⊥ else 0

theorem head_congr {q q' : Fin 64 → EReal} {K K' : Fin 256 → Fin 64 → EReal} {b b' p v v' : Fin 256 → EReal} {s s' : EReal}
    (hq : ∀ e, q e = q' e) (hK : ∀ u e, K u e = K' u e) (hb : ∀ u, b u = b' u) (hs : s = s') (hv : ∀ u, v u = v' u) :
    Weights.lateSink (sc q K b p) s v = Weights.lateSink (sc q' K' b' p) s' v' := by
  rw [funext hq, funext fun u => funext (hK u), funext hb, hs, funext hv]

/-- The eight heads of a block. -/
theorem outs_apply (m : (ℓ : Loc nD τ sig) → Buf (Elt Ideal) ℓ) (c : Dev nD) (t : Fin cfg0.N) (r : Fin 128) (k : Fin 512) :
    outsAt0 m c t (ix2 r k)
      = Weights.lateSink (sc (fun e => iblk m c 1 t (ix2 r ⟨k.val / 64 * 64 + e.val, by omega⟩))
            (fun u e => row (iblk m c 2 t) (iblk m c 3 t) u ⟨k.val / 256 * 64 + e.val, by omega⟩)
            (fun u => iblk m c 6 t (ix3 ⟨k.val / 64, by omega⟩ r u)) (fun u => k0_pay3 (F := Ideal) (grid0.coords t) (ix2 0 u)))
          (iblk m c 0 t (ix1 ⟨k.val / 64, by omega⟩))
          (fun u => row (iblk m c 4 t) (iblk m c 5 t) u ⟨k.val / 256 * 64 + k.val % 64, by omega⟩) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  frame_out
  rw [payload_eq]
  pointwise
  split_ifs <;> first
    | exact absurd rfl ‹_›
    | rw [head0_apply]
    | rw [head1_apply]
  all_goals
    simp only [k0_pay1_apply, k0_pay2_apply]
    refine head_congr (fun e => ?_) (fun u e => ?_) (fun u => ?_) ?_ (fun u => ?_)
  all_goals pointwise
  all_goals first
    | (congr 2; apply Fin.ext; simp only []; omega)
    | (congr 1; apply Fin.ext; simp only []; omega)
    | (congr 2; apply Fin.ext; show _ = k.val / 64; simp; omega)

theorem own_key (u : Fin 256) : IntOp.cmpi .sge (BitVec.ofNat 32 u.val) 128#32 = if u.val < 128 then 0#1 else 1#1 := by
  revert u; decide

theorem has_prev (n : Fin 32) : Scalar.cmpi .sgt (BitVec.ofNat 32 n.val) 0#32 = if n.val = 0 then 0#1 else 1#1 := by
  revert n; decide

/-- The padding term of a grid point depends on its second coordinate alone. -/
theorem pad_apply (i : grid0.Coords) (u : Fin 256) :
    k0_pay3 (F := Ideal) i (ix2 0 u) = pad (i 1).val u := by
  pointwise [k0_pay3]
  rw [own_key, show Scalar.cmpi .sgt (BitVec.ofNat 32 (i 1).val) 0#32 = _ from has_prev (i 1), Weights.ofBits_neg_inf]
  unfold pad
  by_cases h : u.val < 128 <;> by_cases h' : (i 1).val = 0 <;> simp [h, h', Scalar.select]

end SwaBlock
end
-- ==== Proof.SwaRef.lean ====
/- What the reference of the windowed attention computes, index by index. Row `b * 4096 + n * 128 + i` of the queries is
   row `i` of block `n` of batch `b`; it meets 256 keys, the 128 rows of the block before and its own block's. Head
   `g * 4 + h` reads the key columns of group `g`. A position outside the window, or before the sequence, has the score
   `-∞`; the sink is one more score; every weight is divided by the denominator before it meets its value. -/
module

public import proofs.«01_k».proof.Proof.Gen.SwaRefIdeal.Read
public import proofs.«01_k».proof.Proof.Weights
public import Idealize.ShloMosaic.Lib.Pointwise

@[expose] public section

set_option maxRecDepth 16384
set_option Elab.async false

noncomputable section

open Idealize.ShloMosaic Idealize.ShloMosaic.TcCoe Idealize.SL.Sem

namespace SwaRef
open Cert.SwaRefIdeal Cert.SwaRefIdeal.Gen Cert.SwaRefIdeal.Read

variable (q : FVec Ideal S32768x512 .bf16) (k v : FVec Ideal S32768x128 .bf16) (s : FVec Ideal S8 .f32)
  (w : FVec Ideal S32x8 .f32)

/-- Key (or value) row `u` of the 256 that block `n` of batch `b` meets; zero before the sequence. -/
def prow (x : FVec Ideal S32768x128 .bf16) (b : Fin 8) (n : Fin 32) (u : Fin 256) (e : Fin 128) : EReal :=
  if hu : u.val < 128 then
    if n.val = 0 then 0 else x (ix2 ⟨b.val * 4096 + (n.val - 1) * 128 + u.val, by omega⟩ e)
  else x (ix2 ⟨b.val * 4096 + n.val * 128 + (u.val - 128), by omega⟩ e)

theorem v43_apply (b : Fin 8) (n : Fin 32) (u : Fin 256) (g : Fin 2) (e : Fin 64) :
    val_main_v43 (F := Ideal) k (ix5 b n u g e) = prow k b n u ⟨g.val * 64 + e.val, by omega⟩ := by
  unfold prow
  pointwise [val_main_v43, val_main_v42, val_main_v41, val_main_call1_v0, val_main_c_9, val_main_v40, val_main_v39]
  have hz : FloatOps.sitofp (F := Ideal) FTy.f32 0#32 = (0 : EReal) := by
    show (((0#32).toInt : ℝ) : EReal) = 0
    simp
  split_ifs <;> first | rfl | exact hz | omega

/-- The scores before the mask. -/
theorem v56_apply (b : Fin 8) (n : Fin 32) (g : Fin 2) (h : Fin 4) (i : Fin 128) (u : Fin 256) :
    val_main_v56 (F := Ideal) q k w (ix6 b n g h i u)
      = Weights.score (fun e => q (ix2 ⟨b.val * 4096 + n.val * 128 + i.val, by omega⟩ ⟨g.val * 256 + h.val * 64 + e.val, by omega⟩))
          (fun e => prow k b n u ⟨g.val * 64 + e.val, by omega⟩) + val_main_v36 (F := Ideal) w (ix3 ⟨g.val * 4 + h.val, by omega⟩ i u) := by
  unfold Weights.score
  pointwise [val_main_v56, val_main_v55, val_main_v54, val_main_v53, val_main_v52, val_main_v51, val_main_v50, val_main_v49,
    val_main_v38, val_main_v37, val_main_cst_11]
  simp only [v43_apply]
  refine congrArg (fun z => z * _ + _) (Finset.sum_congr rfl fun e _ => mul_comm _ _)

/-- The masked scores. -/
theorem v77_apply (b : Fin 8) (n : Fin 32) (g : Fin 2) (h : Fin 4) (i : Fin 128) (u : Fin 256) :
    val_main_v77 (F := Ideal) q k w (ix6 b n g h i u)
      = Scalar.select (IntOp.andi (val_main_v61 (F := Ideal) (ix2 i u))
          (IntOp.ori (IntOp.cmpi .sgt (BitVec.ofNat 32 n.val) 0#32) (IntOp.cmpi .sge (BitVec.ofNat 32 u.val) 128#32)))
          (val_main_v56 (F := Ideal) q k w (ix6 b n g h i u)) (⊥ : EReal) := by
  rw [← Weights.ofBits_neg_inf]
  pointwise [val_main_v77, val_main_call3_v0, val_main_call3_v1, val_main_call3_v2, val_main_v76, val_main_v75, val_main_v74,
    val_main_v73, val_main_v72, val_main_v71, val_main_v70, val_main_v69, val_main_v68, val_main_v67, val_main_v66, val_main_v65,
    val_main_v64, val_main_v63, val_main_v62, val_main_v3, val_main_v2, val_main_c_14, val_main_c_15, val_main_cst_16]
  rfl

/-- The scores of one row, without the sink's. -/
def lrow (b : Fin 8) (n : Fin 32) (g : Fin 2) (h : Fin 4) (i : Fin 128) (u : Fin 256) : EReal :=
  val_main_v77 (F := Ideal) q k w (ix6 b n g h i u)

/-- With the sink's, as the last one. -/
theorem v80_apply (b : Fin 8) (n : Fin 32) (g : Fin 2) (h : Fin 4) (i : Fin 128) (t : Fin 257) :
    val_main_v80 (F := Ideal) q k s w (ix6 b n g h i t)
      = if ht : t.val < 256 then lrow q k w b n g h i ⟨t.val, ht⟩ else s (ix1 ⟨g.val * 4 + h.val, by omega⟩) := by
  unfold lrow
  pointwise [val_main_v80, val_main_v79, val_main_v78]

theorem v80_score (b : Fin 8) (n : Fin 32) (g : Fin 2) (h : Fin 4) (i : Fin 128) (t : Fin 256) :
    val_main_v80 (F := Ideal) q k s w (ix6 b n g h i t.castSucc) = lrow q k w b n g h i t := by
  rw [v80_apply, dif_pos (show t.castSucc.val < 256 from t.isLt)]
  rfl

theorem v80_sink (b : Fin 8) (n : Fin 32) (g : Fin 2) (h : Fin 4) (i : Fin 128) :
    val_main_v80 (F := Ideal) q k s w (ix6 b n g h i (Fin.last 256)) = s (ix1 ⟨g.val * 4 + h.val, by omega⟩) := by
  rw [v80_apply, dif_neg (by simp)]

/-- The host's maximum over the last axis. -/
theorem rowMax_apply (x : FVec Ideal S8x32x2x4x128x257 .f32) (b : Fin 8) (n : Fin 32) (g : Fin 2) (h : Fin 4) (i : Fin 128) :
    Host.reduce FloatOps.maximumf x (constant (F := Ideal) S_ .f32 0xFF800000#32) reducesTo_S8x32x2x4x128x257_S8x32x2x4x128_d5 h_S_
        (ix5 b n g h i)
      = Finset.univ.fold max ⊥ fun t : Fin 257 => x (ix6 b n g h i t) := by
  rw [← Weights.ofBits_neg_inf, Host.reduce_eq_fold_single FloatOps.maximumf x _ _
    (by decide : S8x32x2x4x128x257.Reduces [5] S8x32x2x4x128)]
  refine congrArg (fun f : Fin 257 → EReal => Finset.univ.fold max (Ideal.ofBits FTy.f32 0xFF800000#32) f) (funext fun t => congrArg x ?_)
  exact funext fun a => Fin.ext (by match a with | ⟨0, _⟩ => rfl | ⟨1, _⟩ => rfl | ⟨2, _⟩ => rfl | ⟨3, _⟩ => rfl | ⟨4, _⟩ => rfl | ⟨5, _⟩ => rfl)

/-- The maximum of a row: of its scores and the sink. -/
theorem v83_apply (b : Fin 8) (n : Fin 32) (g : Fin 2) (h : Fin 4) (i : Fin 128) :
    val_main_v83 (F := Ideal) q k s w (ix5 b n g h i)
      = max (Finset.univ.fold max ⊥ (lrow q k w b n g h i)) (s (ix1 ⟨g.val * 4 + h.val, by omega⟩)) := by
  have hm : val_main_v81 (F := Ideal) q k s w (ix5 b n g h i)
      = Finset.univ.fold max ⊥ fun t : Fin 257 => val_main_v80 (F := Ideal) q k s w (ix6 b n g h i t) := rowMax_apply _ b n g h i
  rw [val_main_v83_apply, hm, val_main_v82_apply, Weights.fold_max_last]
  simp only [v80_score, v80_sink]
  show max (Ideal.ofBits FTy.f32 0xFF800000#32) _ = _
  rw [Weights.ofBits_neg_inf, bot_sup_eq]

/-- The weights before the division. -/
theorem v87_apply (b : Fin 8) (n : Fin 32) (g : Fin 2) (h : Fin 4) (i : Fin 128) (t : Fin 257) :
    val_main_v87 (F := Ideal) q k s w (ix6 b n g h i t)
      = Ideal.exp (val_main_v80 (F := Ideal) q k s w (ix6 b n g h i t)
          - max (Finset.univ.fold max ⊥ (lrow q k w b n g h i)) (s (ix1 ⟨g.val * 4 + h.val, by omega⟩))) := by
  pointwise [val_main_v87, val_main_v86, val_main_v85, val_main_v84]
  rw [v83_apply]

/-- The weights. -/
theorem v91_apply (b : Fin 8) (n : Fin 32) (g : Fin 2) (h : Fin 4) (i : Fin 128) (t : Fin 257) :
    val_main_v91 (F := Ideal) q k s w (ix6 b n g h i t)
      = Ideal.div (val_main_v87 (F := Ideal) q k s w (ix6 b n g h i t))
          (∑ t : Fin 257, val_main_v87 (F := Ideal) q k s w (ix6 b n g h i t)) := by
  have hs : val_main_v88 (F := Ideal) q k s w (ix5 b n g h i)
      = ∑ t : Fin 257, val_main_v87 (F := Ideal) q k s w (ix6 b n g h i t) := by
    rw [val_main_v88_apply]
    show Ideal.ofBits FTy.f32 0x00000000#32 + _ = _
    rw [show Ideal.ofBits FTy.f32 0x00000000#32 = 0 by simp [Ideal.ofBits, Ideal.ieee], zero_add]
    refine Finset.sum_congr rfl fun t _ => congrArg _ ?_
    exact funext fun a => by match a with | ⟨0, _⟩ => rfl | ⟨1, _⟩ => rfl | ⟨2, _⟩ => rfl | ⟨3, _⟩ => rfl | ⟨4, _⟩ => rfl | ⟨5, _⟩ => rfl
  rw [← hs]
  pointwise [val_main_v91, val_main_v90, val_main_v89]

/-- The weights of the keys alone. -/
theorem v92_apply (b : Fin 8) (n : Fin 32) (g : Fin 2) (h : Fin 4) (i : Fin 128) (t : Fin 256) :
    val_main_v92 (F := Ideal) q k s w (ix6 b n g h i t) = val_main_v91 (F := Ideal) q k s w (ix6 b n g h i t.castSucc) := by
  pointwise [val_main_v92]
  rfl

theorem v48_apply (b : Fin 8) (n : Fin 32) (u : Fin 256) (g : Fin 2) (e : Fin 64) :
    val_main_v48 (F := Ideal) v (ix5 b n u g e) = prow v b n u ⟨g.val * 64 + e.val, by omega⟩ :=
  v43_apply v b n u g e

/-- The result at one row of one block and one column of one head. -/
theorem v94_apply (b : Fin 8) (n : Fin 32) (i : Fin 128) (g : Fin 2) (h : Fin 4) (d : Fin 64) :
    val_main_v94 (F := Ideal) q k v s w (ix6 b n i g h d)
      = Weights.earlySink (lrow q k w b n g h i) (s (ix1 ⟨g.val * 4 + h.val, by omega⟩))
          (fun u => prow v b n u ⟨g.val * 64 + d.val, by omega⟩) := by
  pointwise [val_main_v94, val_main_v93]
  simp only [v92_apply, v48_apply, v91_apply, v87_apply, Fin.sum_univ_castSucc (n := 256), v80_score, v80_sink]
  rfl

/-- The result. -/
theorem v96_apply (r : Fin 32768) (c : Fin 512) :
    val_main_v96 (F := Ideal) q k v s w (ix2 r c)
      = val_main_v94 (F := Ideal) q k v s w (ix6 ⟨r.val / 4096, by omega⟩ ⟨r.val / 128 % 32, by omega⟩ ⟨r.val % 128, by omega⟩
          ⟨c.val / 256, by omega⟩ ⟨c.val / 64 % 4, by omega⟩ ⟨c.val % 64, by omega⟩) := by
  pointwise [val_main_v96, val_main_v95]

end SwaRef
end
-- ==== Proof.SwaBias.lean ====
/- The table of position terms that the kernel's host code prepares: the reference's, with `-∞` outside the window. -/
module

public import proofs.«01_k».proof.Proof.Gen.SwaIdeal.Value
public import proofs.«01_k».proof.Proof.SwaRef
public import Idealize.ShloMosaic.Lib.StableHlo.ReadAt

@[expose] public section

set_option maxRecDepth 16384
set_option Elab.async false

noncomputable section

open Idealize.ShloMosaic Idealize.ShloMosaic.TcCoe Idealize.SL.Sem

namespace SwaBias
open Cert.SwaIdeal Cert.SwaIdeal.Gen Cert.SwaRefIdeal.Read

variable (m : (ℓ : Loc nD τ sig) → Buf (Elt Ideal) ℓ)

/-- The whole table. -/
theorem table_eq (c : Dev nD) :
    V m c main_v43 = select (broadcastInDim S8x128x256 ![0, 1, 2] bcast_S1x128x256_S8x128x256_0_1_2
        (broadcastInDim S1x128x256 ![1, 2] bcast_S128x256_S1x128x256_1_2 (val_main_v61 (F := Ideal))))
      (val_main_v36 (F := Ideal) (m (c.tc.loc main_arg4)))
      (broadcastInDim S8x128x256 ![] bcast_S_S8x128x256 (constant (F := Ideal) S_ .f32 0xFF800000#32)) := by
  unfold V
  after_reads_simp
  simp -implicitDefEqProofs only [StableHlo.TRef.toBuf, StableHlo.TRef.ofBuf, cast_cast, cast_eq, id]
  simp only [
    val_main_v61, val_main_v60, val_main_v59, val_main_c_13, val_main_v58, val_main_v57, val_main_c_12,
    val_main_v36, val_main_v35, val_main_v34, val_main_v33, val_main_v32, val_main_v31, val_main_c_8,
    val_main_v30, val_main_v29, val_main_c_7, val_main_v28, val_main_v27, val_main_v26, val_main_c_6,
    val_main_v25, val_main_v24, val_main_c_5, val_main_v23, val_main_v22, val_main_c_4, val_main_v21,
    val_main_v20, val_main_v19, val_main_cst_3, val_main_v18, val_main_v17, val_main_cst_2, val_main_v16,
    val_main_v15, val_main_v14, val_main_cst, val_main_v13, val_main_v12, val_main_v11, val_main_c_1,
    val_main_v10, val_main_v9, val_main_c_0, val_main_v8, val_main_v7, val_main_v6, val_main_v5, val_main_v4,
    val_main_c, val_main_v3, val_main_v2, val_main_v1, val_main_v0]
  rfl

/-- One entry of the table. -/
theorem table_apply (c : Dev nD) (h : Fin 8) (r : Fin 128) (u : Fin 256) :
    V m c main_v43 (ix3 h r u)
      = Scalar.select (val_main_v61 (F := Ideal) (ix2 r u)) (val_main_v36 (F := Ideal) (m (c.tc.loc main_arg4)) (ix3 h r u)) (⊥ : EReal) := by
  rw [table_eq, ← Weights.ofBits_neg_inf]
  generalize val_main_v61 (F := Ideal) = x
  generalize val_main_v36 (F := Ideal) (m (c.tc.loc main_arg4)) = y
  pointwise

/-- An unmasked entry is an entry of the argument: a real number where all of those are. -/
theorem entry_fin' (w : FVec Ideal Cert.SwaRefIdeal.S32x8 .f32) (hw : ∀ i, Weights.Fin' (w i)) (h : Fin 8) (r : Fin 128) (u : Fin 256) :
    Weights.Fin' (val_main_v36 (F := Ideal) w (ix3 h r u)) := by
  rw [val_main_v36_apply]
  exact hw _

end SwaBias
end
-- ==== Proof.SwaValue.lean ====
/- The windowed attention's result array as one function of its arguments. -/
module

public import proofs.«01_k».proof.Proof.SwaBlock
public import proofs.«01_k».proof.Proof.SwaBias

@[expose] public section

set_option maxRecDepth 16384
set_option Elab.async false

noncomputable section

open Idealize.ShloMosaic Idealize.ShloMosaic.TcCoe Idealize.SL.Sem Idealize.ShloMosaic.Pipeline

namespace SwaValue
open Cert.SwaIdeal Cert.SwaIdeal.Gen SwaBlock

/-- Key (or value) row `u` of the 256 that the 128-row block `t` of the whole array meets: the block before (the first
    block of a sequence meets itself there), then its own. -/
def brow (x : FVec Ideal S32768x128 .bf16) (t : Fin 256) (u : Fin 256) (e : Fin 128) : EReal :=
  if h : u.val < 128 then x (ix2 ⟨(t.val / 32 * 32 + (t.val % 32 - 1)) * 128 + u.val, by omega⟩ e)
  else x (ix2 ⟨t.val * 128 + (u.val - 128), by omega⟩ e)

/-- The scores of row `r` in the head of column `c`. -/
def lrow (q : FVec Ideal S32768x512 .bf16) (k : FVec Ideal S32768x128 .bf16) (w : FVec Ideal S32x8 .f32) (r : Fin 32768) (c : Fin 512) :
    Fin 256 → EReal :=
  sc (fun e => q (ix2 r ⟨c.val / 64 * 64 + e.val, by omega⟩))
    (fun u e => brow k ⟨r.val / 128, by omega⟩ u ⟨c.val / 256 * 64 + e.val, by omega⟩)
    (fun u => Scalar.select (Cert.SwaRefIdeal.Read.val_main_v61 (F := Ideal) (ix2 ⟨r.val % 128, by omega⟩ u))
      (Cert.SwaRefIdeal.Read.val_main_v36 (F := Ideal) w (ix3 ⟨c.val / 64, by omega⟩ ⟨r.val % 128, by omega⟩ u)) (⊥ : EReal))
    (pad (r.val / 128 % 32))

/-- The result at row `r` and column `c`. -/
def Gat (q : FVec Ideal S32768x512 .bf16) (k v : FVec Ideal S32768x128 .bf16) (s : FVec Ideal S8 .f32) (w : FVec Ideal S32x8 .f32)
    (r : Fin 32768) (c : Fin 512) : EReal :=
  Weights.lateSink (lrow q k w r c) (s (ix1 ⟨c.val / 64, by omega⟩))
    (fun u => brow v ⟨r.val / 128, by omega⟩ u ⟨c.val / 256 * 64 + c.val % 64, by omega⟩)

/-- The result array. -/
def G (q : FVec Ideal S32768x512 .bf16) (k v : FVec Ideal S32768x128 .bf16) (s : FVec Ideal S8 .f32) (w : FVec Ideal S32x8 .f32) :
    FVec Ideal S32768x512 .bf16 :=
  fun i => Gat q k v s w (i 0) (i 1)

variable (m : (ℓ : Loc nD τ sig) → Buf (Elt Ideal) ℓ)

/-- The block indices at grid point `t`: 256 row blocks, 32 to a sequence. -/
theorem idx_facts : ∀ t : Fin cfg0.N,
    (win0_1.index t 0 = t.val ∧ win0_1.index t 1 = 0)
    ∧ (win0_2.index t 0 = t.val / 32 * 32 + (t.val % 32 - 1) ∧ win0_2.index t 1 = 0)
    ∧ (win0_3.index t 0 = t.val ∧ win0_3.index t 1 = 0)
    ∧ (win0_4.index t 0 = t.val / 32 * 32 + (t.val % 32 - 1) ∧ win0_4.index t 1 = 0)
    ∧ (win0_5.index t 0 = t.val ∧ win0_5.index t 1 = 0)
    ∧ (win0_6.index t 0 = 0 ∧ win0_6.index t 1 = 0 ∧ win0_6.index t 2 = 0)
    ∧ win0_0.index t 0 = 0
    ∧ (grid0.coords t 1).val = t.val % 32 :=
  (by decide +kernel : ∀ t : Fin grid0.N, _)

theorem out_facts : ∀ t : Fin cfg0.N,
    win0_7.index t 0 * win0_7.size 0 = t.val * 128 ∧ win0_7.xsize (grid0.coords t) 0 = 128
      ∧ win0_7.index t 1 * win0_7.size 1 = 0 ∧ win0_7.xsize (grid0.coords t) 1 = 512 :=
  (by decide +kernel : ∀ t : Fin grid0.N, _)

theorem lt_N (t : Fin cfg0.N) : t.val < 256 := t.isLt

/-- The query block of a grid point. -/
theorem q_read (c : Dev nD) (t : Fin cfg0.N) (r : Fin 128) (e : Fin 512) :
    iblk m c 1 t (ix2 r e) = m (c.tc.loc main_arg0) (ix2 ⟨t.val * 128 + r.val, by have := lt_N t; omega⟩ e) := by
  unfold iblk
  rw [View.read_apply]
  show V m c main_arg0 _ = m (c.tc.loc main_arg0) _
  rw [V_main_arg0]
  congr 1
  funext a
  apply Fin.ext
  have hi := (idx_facts t).1
  match a with
  | ⟨0, _⟩ => show win0_1.index t 0 * 128 + 1 * r.val = t.val * 128 + r.val; rw [hi.1]; omega
  | ⟨1, _⟩ => show win0_1.index t 1 * 512 + 1 * e.val = e.val; rw [hi.2]; omega

/-- The key block before. -/
theorem kp_read (c : Dev nD) (t : Fin cfg0.N) (r : Fin 128) (e : Fin 128) :
    iblk m c 2 t (ix2 r e) = m (c.tc.loc main_arg1) (ix2 ⟨(t.val / 32 * 32 + (t.val % 32 - 1)) * 128 + r.val, by have := lt_N t; omega⟩ e) := by
  unfold iblk
  rw [View.read_apply]
  show V m c main_arg1 _ = m (c.tc.loc main_arg1) _
  rw [V_main_arg1]
  congr 1
  funext a
  apply Fin.ext
  have hi := (idx_facts t).2.1
  match a with
  | ⟨0, _⟩ => show win0_2.index t 0 * 128 + 1 * r.val = (t.val / 32 * 32 + (t.val % 32 - 1)) * 128 + r.val; rw [hi.1]; omega
  | ⟨1, _⟩ => show win0_2.index t 1 * 128 + 1 * e.val = e.val; rw [hi.2]; omega

/-- The key block. -/
theorem k_read (c : Dev nD) (t : Fin cfg0.N) (r : Fin 128) (e : Fin 128) :
    iblk m c 3 t (ix2 r e) = m (c.tc.loc main_arg1) (ix2 ⟨t.val * 128 + r.val, by have := lt_N t; omega⟩ e) := by
  unfold iblk
  rw [View.read_apply]
  show V m c main_arg1 _ = m (c.tc.loc main_arg1) _
  rw [V_main_arg1]
  congr 1
  funext a
  apply Fin.ext
  have hi := (idx_facts t).2.2.1
  match a with
  | ⟨0, _⟩ => show win0_3.index t 0 * 128 + 1 * r.val = t.val * 128 + r.val; rw [hi.1]; omega
  | ⟨1, _⟩ => show win0_3.index t 1 * 128 + 1 * e.val = e.val; rw [hi.2]; omega

/-- The value block before. -/
theorem vp_read (c : Dev nD) (t : Fin cfg0.N) (r : Fin 128) (e : Fin 128) :
    iblk m c 4 t (ix2 r e) = m (c.tc.loc main_arg2) (ix2 ⟨(t.val / 32 * 32 + (t.val % 32 - 1)) * 128 + r.val, by have := lt_N t; omega⟩ e) := by
  unfold iblk
  rw [View.read_apply]
  show V m c main_arg2 _ = m (c.tc.loc main_arg2) _
  rw [V_main_arg2]
  congr 1
  funext a
  apply Fin.ext
  have hi := (idx_facts t).2.2.2.1
  match a with
  | ⟨0, _⟩ => show win0_4.index t 0 * 128 + 1 * r.val = (t.val / 32 * 32 + (t.val % 32 - 1)) * 128 + r.val; rw [hi.1]; omega
  | ⟨1, _⟩ => show win0_4.index t 1 * 128 + 1 * e.val = e.val; rw [hi.2]; omega

/-- The value block. -/
theorem v_read (c : Dev nD) (t : Fin cfg0.N) (r : Fin 128) (e : Fin 128) :
    iblk m c 5 t (ix2 r e) = m (c.tc.loc main_arg2) (ix2 ⟨t.val * 128 + r.val, by have := lt_N t; omega⟩ e) := by
  unfold iblk
  rw [View.read_apply]
  show V m c main_arg2 _ = m (c.tc.loc main_arg2) _
  rw [V_main_arg2]
  congr 1
  funext a
  apply Fin.ext
  have hi := (idx_facts t).2.2.2.2.1
  match a with
  | ⟨0, _⟩ => show win0_5.index t 0 * 128 + 1 * r.val = t.val * 128 + r.val; rw [hi.1]; omega
  | ⟨1, _⟩ => show win0_5.index t 1 * 128 + 1 * e.val = e.val; rw [hi.2]; omega

/-- The table of position terms. -/
theorem b_read (c : Dev nD) (t : Fin cfg0.N) (h : Fin 8) (r : Fin 128) (u : Fin 256) :
    iblk m c 6 t (ix3 h r u) = V m c main_v43 (ix3 h r u) := by
  unfold iblk
  rw [View.read_apply]
  show V m c main_v43 _ = V m c main_v43 _
  generalize V m c main_v43 = x
  congr 1
  funext a
  apply Fin.ext
  have hi := (idx_facts t).2.2.2.2.2.1
  match a with
  | ⟨0, _⟩ => show win0_6.index t 0 * 8 + 1 * h.val = h.val; rw [hi.1]; omega
  | ⟨1, _⟩ => show win0_6.index t 1 * 128 + 1 * r.val = r.val; rw [hi.2.1]; omega
  | ⟨2, _⟩ => show win0_6.index t 2 * 256 + 1 * u.val = u.val; rw [hi.2.2]; omega

/-- The sinks. -/
theorem s_read (c : Dev nD) (t : Fin cfg0.N) (h : Fin 8) :
    iblk m c 0 t (ix1 h) = m (c.tc.loc main_arg3) (ix1 h) := by
  unfold iblk
  rw [View.read_apply]
  show V m c main_arg3 _ = m (c.tc.loc main_arg3) _
  rw [V_main_arg3]
  congr 1
  funext a
  apply Fin.ext
  have hi := (idx_facts t).2.2.2.2.2.2.1
  match a with
  | ⟨0, _⟩ => show win0_0.index t 0 * 8 + 1 * h.val = h.val; rw [hi]; omega

/-- The two key blocks of a grid point are the 256 rows. -/
theorem row_k (c : Dev nD) (t : Fin cfg0.N) (u : Fin 256) (e : Fin 128) :
    row (iblk m c 2 t) (iblk m c 3 t) u e = brow (m (c.tc.loc main_arg1)) ⟨t.val, lt_N t⟩ u e := by
  unfold row brow
  simp only [kp_read, k_read]

theorem row_v (c : Dev nD) (t : Fin cfg0.N) (u : Fin 256) (e : Fin 128) :
    row (iblk m c 4 t) (iblk m c 5 t) u e = brow (m (c.tc.loc main_arg2)) ⟨t.val, lt_N t⟩ u e := by
  unfold row brow
  simp only [vp_read, v_read]

/-- What a grid point stores. -/
theorem outs_eq (c : Dev nD) (t : Fin cfg0.N) (r : Fin 128) (k : Fin 512) :
    outsAt0 m c t (ix2 r k)
      = Gat (m (c.tc.loc main_arg0)) (m (c.tc.loc main_arg1)) (m (c.tc.loc main_arg2)) (m (c.tc.loc main_arg3))
          (m (c.tc.loc main_arg4)) ⟨t.val * 128 + r.val, by have := lt_N t; omega⟩ k := by
  rw [outs_apply]
  simp only [q_read, row_k, row_v, b_read, s_read, SwaBlock.pad_apply, (idx_facts t).2.2.2.2.2.2.2]
  unfold Gat lrow
  have h1 : (t.val * 128 + r.val) / 128 = t.val := by omega
  have h2 : (t.val * 128 + r.val) % 128 = r.val := by omega
  simp only [h1, h2]
  exact congrArg (fun z => Weights.lateSink (sc _ _ z _) _ _) (funext fun u => SwaBias.table_apply m c _ r u)

/-- The result array on device `c`. -/
abbrev Gm (c : Dev nD) : Buf (Elt Ideal) ((c : Thread nD τ).loc main_v44) :=
  G (m (c.tc.loc main_arg0)) (m (c.tc.loc main_arg1)) (m (c.tc.loc main_arg2)) (m (c.tc.loc main_arg3)) (m (c.tc.loc main_arg4))

/-- A grid point writes its block of the result array. -/
theorem flushed_eq (c : Dev nD) (t : Fin cfg0.N) :
    (dats m 0 c).flushed 7 t = (win0_7.blk t).view.read (Elt Ideal) (Gm m c) := by
  rw [Cert.SwaIdeal.Value.flushed7]
  funext j
  obtain ⟨r, e, rfl⟩ : ∃ (r : Fin 128) (e : Fin 512), j = ix2 r e := ⟨j 0, j 1, by funext a; fin_cases a <;> rfl⟩
  have h0 : (((win0_7.blk t).view.emb (ix2 r e)) 0 : Nat) = t.val * 128 + r.val := by
    show win0_7.index t 0 * win0_7.size 0 + 1 * r.val = _
    rw [(out_facts t).1]; omega
  have h1 : (((win0_7.blk t).view.emb (ix2 r e)) 1 : Nat) = e.val := by
    show win0_7.index t 1 * win0_7.size 1 + 1 * e.val = _
    rw [(out_facts t).2.2.1]; omega
  rw [View.read_apply]
  show outsAt0 m c t (ix2 r e) = Gat _ _ _ _ _ ((win0_7.blk t).view.emb (ix2 r e) 0) ((win0_7.blk t).view.emb (ix2 r e) 1)
  rw [show ((win0_7.blk t).view.emb (ix2 r e)) 0 = (⟨t.val * 128 + r.val, by have := lt_N t; omega⟩ : Fin 32768) from Fin.ext h0,
    show ((win0_7.blk t).view.emb (ix2 r e)) 1 = e from Fin.ext h1, outs_eq]

/-- Which rows a grid point's block holds. -/
theorem mem_blk (t : Fin cfg0.N) (i : S32768x512.Idx) :
    i ∈ ((cfg0.win 7).blk t).view.set ↔ t.val * 128 ≤ (i 0 : Nat) ∧ (i 0 : Nat) < t.val * 128 + 128 := by
  show i ∈ ((View.whole main_v44).slice (win0_7.rect t)).set ↔ _
  rw [View.set_slice_whole, Rect.mem_set_unit]
  have h1 : (i 1 : Nat) < 512 := (i 1).isLt
  obtain ⟨e0, e1, e2, e3⟩ := out_facts t
  refine ⟨fun h => ?_, fun h a => ?_⟩
  · have h0 : win0_7.index t 0 * win0_7.size 0 ≤ (i 0 : Nat) ∧ (i 0 : Nat) < win0_7.index t 0 * win0_7.size 0 + win0_7.xsize (grid0.coords t) 0 := h 0
    rw [e0, e1] at h0; exact h0
  · match a with
    | ⟨0, _⟩ => show win0_7.index t 0 * win0_7.size 0 ≤ (i 0 : Nat) ∧ (i 0 : Nat) < win0_7.index t 0 * win0_7.size 0 + win0_7.xsize (grid0.coords t) 0
                rw [e0, e1]; exact h
    | ⟨1, _⟩ => show win0_7.index t 1 * win0_7.size 1 ≤ (i 1 : Nat) ∧ (i 1 : Nat) < win0_7.index t 1 * win0_7.size 1 + win0_7.xsize (grid0.coords t) 1
                rw [e2, e3]; omega

/-- Every entry of the result lies in some point's block. -/
theorem cover (i : S32768x512.Idx) : ∃ t : Fin cfg0.N, (cfg0.win 7).flush t = true ∧ i ∈ ((cfg0.win 7).blk t).view.set := by
  have h0 : (i 0 : Nat) < 32768 := (i 0).isLt
  refine ⟨⟨(i 0 : Nat) / 128, by show _ < 256; omega⟩, flush0_7 _, ?_⟩
  rw [mem_blk]
  dsimp only
  omega

/-- So the array ends at `G` of the arguments. -/
theorem final (c : Dev nD) : (dats m 0 c).arrAt 7 cfg0.N = Gm m c :=
  (dats m 0 c).arrAt_eq_of_cover 7 (Gm m c) (fun t _ => flushed_eq m c t) cover

end SwaValue
end
-- ==== Proof.SwaClaim.lean ====
/- The windowed attention equals its reference where its queries, keys, sinks and position terms are real numbers. -/
module

public import proofs.«01_k».proof.Defs
public import proofs.«01_k».proof.Proof.SwaValue
public import proofs.«01_k».proof.Proof.Gen.Pre_finite_swa

@[expose] public section

set_option maxRecDepth 16384
set_option Elab.async false

noncomputable section

open Idealize.ShloMosaic Idealize.ShloMosaic.TcCoe Idealize.SL.Sem

namespace SwaClaim
open Cert.SwaIdeal Cert.SwaIdeal.Gen SwaBlock SwaValue

variable (q : FVec Ideal S32768x512 .bf16) (k v : FVec Ideal S32768x128 .bf16) (s : FVec Ideal S8 .f32) (w : FVec Ideal S32x8 .f32)

/-- The precondition in words: every query, key, sink and position term is a real number. -/
theorem finite_of_pre
    (h : (Cert.Pre_finite_swa.fn (F := Ideal) q k v s w).1 = (fun _ => 1#1)
      ∧ (Cert.Pre_finite_swa.fn (F := Ideal) q k v s w).2.1 = (fun _ => 1#1)
      ∧ (Cert.Pre_finite_swa.fn (F := Ideal) q k v s w).2.2.1 = (fun _ => 1#1)
      ∧ (Cert.Pre_finite_swa.fn (F := Ideal) q k v s w).2.2.2 = (fun _ => 1#1)) :
    (∀ i, Weights.Fin' (q i)) ∧ (∀ i, Weights.Fin' (k i)) ∧ (∀ i, Weights.Fin' (s i)) ∧ ∀ i, Weights.Fin' (w i) := by
  refine ⟨fun i => Weights.fin'_of_abs ?_, fun i => Weights.fin'_of_abs ?_, fun i => Weights.fin'_of_abs ?_,
    fun i => Weights.fin'_of_abs ?_⟩
  · rw [← Weights.ofBits_inf]; exact congrFun h.1 i
  · rw [← Weights.ofBits_inf]; exact congrFun h.2.1 i
  · rw [← Weights.ofBits_inf]; exact congrFun h.2.2.1 i
  · rw [← Weights.ofBits_inf]; exact congrFun h.2.2.2 i

/-- The rows the kernel reads are the reference's, but for those before the sequence. -/
theorem brow_eq (x : FVec Ideal S32768x128 .bf16) (r : Fin 32768) (u : Fin 256) (e : Fin 128)
    (h : ¬ (u.val < 128 ∧ r.val / 128 % 32 = 0)) :
    brow x ⟨r.val / 128, by omega⟩ u e = SwaRef.prow x ⟨r.val / 4096, by omega⟩ ⟨r.val / 128 % 32, by omega⟩ u e := by
  unfold brow SwaRef.prow
  by_cases hu : u.val < 128
  · have hn : ¬ r.val / 128 % 32 = 0 := fun hn => h ⟨hu, hn⟩
    simp only [hu, hn, dite_true, if_false]
    congr 2
    apply Fin.ext
    show (r.val / 128 / 32 * 32 + (r.val / 128 % 32 - 1)) * 128 + u.val = r.val / 4096 * 4096 + (r.val / 128 % 32 - 1) * 128 + u.val
    omega
  · simp only [hu, dite_false]
    congr 2
    apply Fin.ext
    show r.val / 128 * 128 + (u.val - 128) = r.val / 4096 * 4096 + r.val / 128 % 32 * 128 + (u.val - 128)
    omega

/-- A one-bit word is 0 or 1. -/
theorem bit (b : BitVec 1) : b = 0#1 ∨ b = 1#1 := by revert b; decide

/-- The masked scores are the same: where the reference masks, the kernel has added `-∞`. -/
theorem lrow_eq (r : Fin 32768) (c : Fin 512) (u : Fin 256) :
    lrow q k w r c u = SwaRef.lrow q k w ⟨r.val / 4096, by omega⟩ ⟨r.val / 128 % 32, by omega⟩ ⟨c.val / 256, by omega⟩
      ⟨c.val / 64 % 4, by omega⟩ ⟨r.val % 128, by omega⟩ u := by
  unfold SwaRef.lrow
  rw [SwaRef.v77_apply, SwaRef.v56_apply, own_key,
    show IntOp.cmpi .sgt (BitVec.ofNat 32 (r.val / 128 % 32)) 0#32 = _ from has_prev ⟨r.val / 128 % 32, by omega⟩]
  have hc : (⟨c.val / 256 * 4 + c.val / 64 % 4, by omega⟩ : Fin 8) = ⟨c.val / 64, by omega⟩ := Fin.ext (by show c.val / 256 * 4 + c.val / 64 % 4 = c.val / 64; omega)
  have hq : (fun e : Fin 64 => q (ix2 ⟨r.val / 4096 * 4096 + r.val / 128 % 32 * 128 + r.val % 128, by omega⟩
        ⟨c.val / 256 * 256 + c.val / 64 % 4 * 64 + e.val, by omega⟩))
      = fun e : Fin 64 => q (ix2 r ⟨c.val / 64 * 64 + e.val, by omega⟩) := by
    funext e
    refine congrArg q (congrArg₂ ix2 (Fin.ext ?_) (Fin.ext ?_))
    · show r.val / 4096 * 4096 + r.val / 128 % 32 * 128 + r.val % 128 = r.val; omega
    · show c.val / 256 * 256 + c.val / 64 % 4 * 64 + e.val = c.val / 64 * 64 + e.val; omega
  simp only [hc, hq]
  unfold SwaValue.lrow sc SwaBlock.pad
  by_cases h : u.val < 128 ∧ r.val / 128 % 32 = 0
  · have hm : IntOp.ori (if r.val / 128 % 32 = 0 then 0#1 else 1#1) (if u.val < 128 then 0#1 else 1#1) = 0#1 := by
      rw [if_pos h.1, if_pos h.2]; decide
    simp only [hm]
    rw [if_pos h, EReal.add_bot]
    rcases bit (Cert.SwaRefIdeal.Read.val_main_v61 (F := Ideal) (ix2 ⟨r.val % 128, by omega⟩ u)) with hb | hb <;> rw [hb] <;> rfl
  · have hm : IntOp.ori (if r.val / 128 % 32 = 0 then 0#1 else 1#1) (if u.val < 128 then 0#1 else 1#1) = 1#1 := by
      by_cases hu : u.val < 128
      · rw [if_neg fun hn => h ⟨hu, hn⟩, if_pos hu]; decide
      · rw [if_neg hu]; split <;> decide
    simp only [hm]
    rw [if_neg h, add_zero]
    simp only [brow_eq k r u _ h]
    rcases bit (Cert.SwaRefIdeal.Read.val_main_v61 (F := Ideal) (ix2 ⟨r.val % 128, by omega⟩ u)) with hb | hb <;> rw [hb]
    · exact EReal.add_bot _
    · rfl

/-- No score is `⊤`. -/
theorem lrow_ne_top (hq : ∀ i, Weights.Fin' (q i)) (hk : ∀ i, Weights.Fin' (k i)) (hw : ∀ i, Weights.Fin' (w i))
    (r : Fin 32768) (c : Fin 512) (u : Fin 256) : lrow q k w r c u ≠ ⊤ := by
  unfold SwaValue.lrow sc SwaBlock.pad
  have hs : Weights.Fin' (Weights.score (fun e => q (ix2 r ⟨c.val / 64 * 64 + e.val, by omega⟩))
      (fun e => brow k ⟨r.val / 128, by omega⟩ u ⟨c.val / 256 * 64 + e.val, by omega⟩)) := by
    refine Weights.score_fin' (fun _ => hq _) (fun e => ?_)
    unfold brow
    split <;> exact hk _
  have hw' := SwaBias.entry_fin' w hw ⟨c.val / 64, by omega⟩ ⟨r.val % 128, by omega⟩ u
  split
  · rw [EReal.add_bot]; exact bot_ne_top
  · rw [add_zero]
    dsimp only
    rcases bit (Cert.SwaRefIdeal.Read.val_main_v61 (F := Ideal) (ix2 ⟨r.val % 128, by omega⟩ u)) with hb | hb <;> rw [hb]
    · rw [show Scalar.select 0#1 (Cert.SwaRefIdeal.Read.val_main_v36 (F := Ideal) w (ix3 ⟨c.val / 64, by omega⟩ ⟨r.val % 128, by omega⟩ u)) (⊥ : EReal) = ⊥ from rfl,
        EReal.add_bot]
      exact bot_ne_top
    · exact (hs.add hw').ne_top

/-- The kernel's array is the reference's. -/
theorem G_eq (hq : ∀ i, Weights.Fin' (q i)) (hk : ∀ i, Weights.Fin' (k i)) (hs : ∀ i, Weights.Fin' (s i)) (hw : ∀ i, Weights.Fin' (w i)) :
    Cert.SwaRefIdeal.Read.val_main_v96 (F := Ideal) q k v s w = G q k v s w := by
  funext i
  obtain ⟨r, c, rfl⟩ : ∃ (r : Fin 32768) (c : Fin 512), i = ix2 r c := ⟨i 0, i 1, by funext a; fin_cases a <;> rfl⟩
  rw [SwaRef.v96_apply, SwaRef.v94_apply, ← funext (lrow_eq q k w r c)]
  show _ = Gat q k v s w r c
  unfold Gat
  have hc : (⟨c.val / 256 * 4 + c.val / 64 % 4, by omega⟩ : Fin 8) = ⟨c.val / 64, by omega⟩ := Fin.ext (by show c.val / 256 * 4 + c.val / 64 % 4 = c.val / 64; omega)
  simp only [hc]
  rw [← Weights.lateSink_eq_earlySink _ (lrow_ne_top q k w hq hk hw r c) (hs _)]
  refine Weights.lateSink_congr fun u => ?_
  by_cases h : u.val < 128 ∧ r.val / 128 % 32 = 0
  · left
    unfold SwaValue.lrow sc SwaBlock.pad
    rw [if_pos h, EReal.add_bot]
  · right
    rw [brow_eq v r u _ h]

/-- The value claim. -/
theorem algebraic : Cert.algebraic_SwaIdeal_SwaRefIdeal_pre_finite_swa := by
  intro m ρ m' ρ' hpre hagree
  refine ⟨fun c => Gm m c, ?_, ?_⟩
  · refine (θ_run _ _ _).mono (fun r h c => ?_) (Cert.SwaIdeal.Value.run_blocks m ρ)
    have hc := h c
    rw [final m c] at hc
    exact hc
  · refine (θ_run _ _ _).mono (fun r h c => ?_) (Cert.SwaRefIdeal.Value.run (F := Ideal) m' ρ')
    have hc := h c
    refine ⟨(hc.1.trans (Cert.SwaRefIdeal.Read.val_main_v96_eq _ _)).trans ?_, hc.2⟩
    obtain ⟨a0, a1, a2, a3, a4⟩ := hagree c
    have hf := finite_of_pre _ _ _ _ _ (hpre c)
    rw [a0, a1, a2, a3, a4]
    exact G_eq _ _ _ _ _ hf.1 hf.2.1 hf.2.2.1 hf.2.2.2

end SwaClaim
end
-- ==== Proof.InProjValue.lean ====
/- The input projection: each of the eight result arrays is a range of the 2048 columns of `x · w + b`. -/
module

public import proofs.«01_k».proof.Proof.Gen.InProjIdeal.Value
public import proofs.«01_k».proof.Proof.Gen.InProjRefIdeal.Read
public import Idealize.ShloMosaic.Lib.Pointwise
public import Idealize.ShloMosaic.Lib.Pipeline.ValueKit
public import Idealize.ShloMosaic.Lib.StableHlo.ReadAt

@[expose] public section

set_option maxRecDepth 16384
set_option Elab.async false

noncomputable section

open Idealize.ShloMosaic Idealize.ShloMosaic.TcCoe Idealize.SL.Sem Idealize.ShloMosaic.Pipeline

namespace InProjValue
open Cert.InProjIdeal Cert.InProjIdeal.Gen Cert.InProjIdeal.Value

/-- Row `r`, column `j` of `x · w + b`: row `r` is position `r % 4096` of batch `r / 4096`. -/
def H (x : FVec Ideal S8x4096x1024 .f32) (w : FVec Ideal S1024x2048 .f32) (b : FVec Ideal S2048 .f32)
    (r : Fin 32768) (j : Fin 2048) : EReal :=
  (∑ k : Fin 1024, x (ix3 ⟨r.val / 4096, by omega⟩ ⟨r.val % 4096, by omega⟩ k) * w (ix2 k j)) + b (ix1 j)

/-- A block of 512 rows: the product with the weights, plus the bias row. -/
theorem pay_apply (x : Vec Ideal S512x1024 .f32) (w : Vec Ideal S1024x2048 .bf16) (b : Vec Ideal S1x2048 .f32)
    (r : Fin 512) (j : Fin 2048) :
    k0_pay1 x w b (ix2 r j) = (∑ k : Fin 1024, x (ix2 r k) * w (ix2 k j)) + b (ix2 0 j) := by
  pointwise [k0_pay1]

variable (m : (ℓ : Loc nD τ sig) → Buf (Elt Ideal) ℓ)

/-- The block indices at grid point `t`. -/
theorem idx_facts : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

theorem lt_N (t : Fin cfg0.N) : t.val < 64 := t.isLt

/-- The rows as the kernel takes them. -/
theorem x_apply (c : Dev nD) (r : Fin 32768) (k : Fin 1024) :
    V m c main_v0 (ix2 r k) = m (c.tc.loc main_arg0) (ix3 ⟨r.val / 4096, by omega⟩ ⟨r.val % 4096, by omega⟩ k) := by
  unfold V
  after_reads_at

theorem w_apply (c : Dev nD) (k : Fin 1024) (j : Fin 2048) :
    V m c main_v1 (ix2 k j) = m (c.tc.loc main_arg1) (ix2 k j) := by
  unfold V
  after_reads_at

theorem b_apply (c : Dev nD) (j : Fin 2048) :
    V m c main_v2 (ix2 0 j) = m (c.tc.loc main_arg2) (ix1 j) := by
  unfold V
  after_reads_at

/-- What a grid point computes, before it is cut into columns. -/
theorem point (c : Dev nD) (t : Fin cfg0.N) (r : Fin 512) (j : Fin 2048) :
    k0_pay1 (iblk m c 0 t) (iblk m c 1 t) (iblk m c 2 t) (ix2 r j)
      = H (m (c.tc.loc main_arg0)) (m (c.tc.loc main_arg1)) (m (c.tc.loc main_arg2))
          ⟨t.val * 512 + r.val, by have := lt_N t; omega⟩ j := by
  rw [pay_apply]
  have hi := idx_facts t
  have h0 : ∀ k : Fin 1024, iblk m c 0 t (ix2 r k) = V m c main_v0 (ix2 ⟨t.val * 512 + r.val, by have := lt_N t; omega⟩ k) := by
    intro k; blk_ext [iblk, hi.1]
  have h1 : ∀ k : Fin 1024, iblk m c 1 t (ix2 k j) = V m c main_v1 (ix2 k j) := by
    intro k; blk_ext [iblk, hi.2.1]
  have h2 : iblk m c 2 t (ix2 0 j) = V m c main_v2 (ix2 0 j) := by
    blk_ext [iblk, hi.2.2.1]
  exact congrArg₂ (· + ·)
    (Finset.sum_congr rfl fun k _ => congrArg₂ (· * ·) ((h0 k).trans (x_apply m c _ k)) ((h1 k).trans (w_apply m c k j)))
    (h2.trans (b_apply m c j))

theorem hz : (![0, 0] : Fin 2 → Nat) = fun _ => 0 := by funext a; fin_cases a <;> rfl

/-- The same for the loads of whole blocks, at any index with these coordinates. -/
theorem cut (c : Dev nD) (t : Fin cfg0.N) (y : S512x2048.Idx) (R : Fin 32768) (J : Fin 2048)
    (hR : R.val = t.val * 512 + (y 0).val) (hJ : J.val = (y 1).val) :
    k0_pay1 (View.ld (iblk m c 0 t) r0_0) (View.ld (iblk m c 1 t) r0_1) (View.ld (iblk m c 2 t) r0_2) y
      = H (m (c.tc.loc main_arg0)) (m (c.tc.loc main_arg1)) (m (c.tc.loc main_arg2)) R J := by
  obtain ⟨r, j, rfl⟩ : ∃ (r : Fin 512) (j : Fin 2048), y = ix2 r j := ⟨y 0, y 1, by funext a; fin_cases a <;> rfl⟩
  obtain rfl : J = j := Fin.ext hJ
  rw [show R = ⟨t.val * 512 + r.val, by have := lt_N t; omega⟩ from Fin.ext hR]
  rw [show View.ld (iblk m c 0 t) r0_0 = iblk m c 0 t from View.ld_unit_zero hz _ _,
    show View.ld (iblk m c 1 t) r0_1 = iblk m c 1 t from View.ld_unit_zero hz _ _,
    show View.ld (iblk m c 2 t) r0_2 = iblk m c 2 t from View.ld_unit_zero hz _ _]
  exact point m c t r J

/-- `n` columns of `x · w + b`, from column `o` on. -/
def cols (n o : Nat) (h : o + n ≤ 2048) (x : FVec Ideal S8x4096x1024 .f32) (w : FVec Ideal S1024x2048 .f32) (b : FVec Ideal S2048 .f32) :
    (⟨2, ![32768, n]⟩ : Shape).Idx → EReal :=
  fun i => H x w b (i 0) ⟨o + (i 1).val, Nat.lt_of_lt_of_le (Nat.add_lt_add_left (i 1).isLt o) h⟩

/-- … of the arguments on device `c`. -/
abbrev colsAt (n o : Nat) (h : o + n ≤ 2048) (c : Dev nD) : (⟨2, ![32768, n]⟩ : Shape).Idx → EReal :=
  cols n o h (m (c.tc.loc main_arg0)) (m (c.tc.loc main_arg1)) (m (c.tc.loc main_arg2))

/-- Result 1: columns 0 to 511. -/
theorem final3 (c : Dev nD) : (dats m 0 c).arrAt 3 cfg0.N = colsAt m 512 0 (by decide) c := by
  refine (dats m 0 c).arrAt_eq_of_covers 3 _ (by decide +kernel) fun t hf y => ?_
  have hi := (idx_facts t).2.2.2.1
  blk_simp
  rw [after0_3]
  unfold out0_3
  rw [canon3_eq]
  refine cut m c t _ _ _ ?_ ?_ <;> blk_simp [hi] <;> first | omega | exact Nat.add_comm _ _

/-- Result 2: columns 512 to 639. -/
theorem final4 (c : Dev nD) : (dats m 0 c).arrAt 4 cfg0.N = colsAt m 128 512 (by decide) c := by
  refine (dats m 0 c).arrAt_eq_of_covers 4 _ (by decide +kernel) fun t hf y => ?_
  have hi := (idx_facts t).2.2.2.2.1
  blk_simp
  rw [after0_4]
  unfold out0_4
  rw [canon4_eq]
  refine cut m c t _ _ _ ?_ ?_ <;> blk_simp [hi] <;> first | omega | exact Nat.add_comm _ _

/-- Result 3: columns 640 to 767. -/
theorem final5 (c : Dev nD) : (dats m 0 c).arrAt 5 cfg0.N = colsAt m 128 640 (by decide) c := by
  refine (dats m 0 c).arrAt_eq_of_covers 5 _ (by decide +kernel) fun t hf y => ?_
  have hi := (idx_facts t).2.2.2.2.2.1
  blk_simp
  rw [after0_5]
  unfold out0_5
  rw [canon5_eq]
  refine cut m c t _ _ _ ?_ ?_ <;> blk_simp [hi] <;> first | omega | exact Nat.add_comm _ _

/-- Result 4: columns 768 to 1023. -/
theorem final6 (c : Dev nD) : (dats m 0 c).arrAt 6 cfg0.N = colsAt m 256 768 (by decide) c := by
  refine (dats m 0 c).arrAt_eq_of_covers 6 _ (by decide +kernel) fun t hf y => ?_
  have hi := (idx_facts t).2.2.2.2.2.2.1
  blk_simp
  rw [after0_6]
  unfold out0_6
  rw [canon6_eq]
  refine cut m c t _ _ _ ?_ ?_ <;> blk_simp [hi] <;> first | omega | exact Nat.add_comm _ _

/-- Result 5: columns 1024 to 1279. -/
theorem final7 (c : Dev nD) : (dats m 0 c).arrAt 7 cfg0.N = colsAt m 256 1024 (by decide) c := by
  refine (dats m 0 c).arrAt_eq_of_covers 7 _ (by decide +kernel) fun t hf y => ?_
  have hi := (idx_facts t).2.2.2.2.2.2.2.1
  blk_simp
  rw [after0_7]
  unfold out0_7
  rw [canon7_eq]
  refine cut m c t _ _ _ ?_ ?_ <;> blk_simp [hi] <;> first | omega | exact Nat.add_comm _ _

/-- Result 6: columns 1280 to 1535. -/
theorem final8 (c : Dev nD) : (dats m 0 c).arrAt 8 cfg0.N = colsAt m 256 1280 (by decide) c := by
  refine (dats m 0 c).arrAt_eq_of_covers 8 _ (by decide +kernel) fun t hf y => ?_
  have hi := (idx_facts t).2.2.2.2.2.2.2.2.1
  blk_simp
  rw [after0_8]
  unfold out0_8
  rw [canon8_eq]
  refine cut m c t _ _ _ ?_ ?_ <;> blk_simp [hi] <;> first | omega | exact Nat.add_comm _ _

/-- Result 7: columns 1536 to 1791. -/
theorem final9 (c : Dev nD) : (dats m 0 c).arrAt 9 cfg0.N = colsAt m 256 1536 (by decide) c := by
  refine (dats m 0 c).arrAt_eq_of_covers 9 _ (by decide +kernel) fun t hf y => ?_
  have hi := (idx_facts t).2.2.2.2.2.2.2.2.2.1
  blk_simp
  rw [after0_9]
  unfold out0_9
  rw [canon9_eq]
  refine cut m c t _ _ _ ?_ ?_ <;> blk_simp [hi] <;> first | omega | exact Nat.add_comm _ _

/-- Result 8: columns 1792 to 2047. -/
theorem final10 (c : Dev nD) : (dats m 0 c).arrAt 10 cfg0.N = colsAt m 256 1792 (by decide) c := by
  refine (dats m 0 c).arrAt_eq_of_covers 10 _ (by decide +kernel) fun t hf y => ?_
  have hi := (idx_facts t).2.2.2.2.2.2.2.2.2.2
  blk_simp
  rw [after0_10]
  unfold out0_10
  rw [canon10_eq]
  refine cut m c t _ _ _ ?_ ?_ <;> blk_simp [hi] <;> first | omega | exact Nat.add_comm _ _

end InProjValue
end
-- ==== Proof.InProjClaim.lean ====
/- The input projection equals its reference: `x · w + b`, cut into the eight ranges of columns. -/
module

public import proofs.«01_k».proof.Defs
public import proofs.«01_k».proof.Proof.InProjValue

@[expose] public section

set_option maxRecDepth 16384
set_option Elab.async false

noncomputable section

open Idealize.ShloMosaic Idealize.ShloMosaic.TcCoe Idealize.SL.Sem

namespace InProjClaim
open Cert.InProjIdeal Cert.InProjIdeal.Gen InProjValue Cert.InProjRefIdeal.Read

variable (x : FVec Ideal S8x4096x1024 .f32) (w : FVec Ideal S1024x2048 .f32) (b : FVec Ideal S2048 .f32)

/-- The reference's 2048 columns, before they are cut. -/
theorem whole (r : Fin 32768) (j : Fin 2048) : val_main_v4 (F := Ideal) x w b (ix2 r j) = H x w b r j := by
  unfold H
  pointwise [val_main_v4, val_main_v3, val_main_v2, val_main_v1, val_main_v0]

/-- At any index with these coordinates. -/
theorem whole_at (y : Cert.InProjRefIdeal.S32768x2048.Idx) (r : Fin 32768) (j : Fin 2048) (hr : (y 0).val = r.val) (hj : (y 1).val = j.val) :
    val_main_v4 (F := Ideal) x w b y = H x w b r j := by
  rw [← whole]
  exact congrArg _ (funext fun a => Fin.ext (match a with | ⟨0, _⟩ => hr | ⟨1, _⟩ => hj))

/-- The reference's columns 0 to 511. -/
theorem ref13 : val_main_v13 (F := Ideal) x w b = cols 512 0 (by decide) x w b := by
  funext i
  rw [val_main_v13_apply, val_main_v5_apply]
  exact whole_at x w b _ _ _ rfl (Nat.zero_add _).symm

/-- The reference's columns 512 to 639. -/
theorem ref14 : val_main_v14 (F := Ideal) x w b = cols 128 512 (by decide) x w b := by
  funext i
  rw [val_main_v14_apply, val_main_v6_apply]
  exact whole_at x w b _ _ _ rfl rfl

/-- The reference's columns 640 to 767. -/
theorem ref15 : val_main_v15 (F := Ideal) x w b = cols 128 640 (by decide) x w b := by
  funext i
  rw [val_main_v15_apply, val_main_v7_apply]
  exact whole_at x w b _ _ _ rfl rfl

/-- The reference's columns 768 to 1023. -/
theorem ref8 : val_main_v8 (F := Ideal) x w b = cols 256 768 (by decide) x w b := by
  funext i
  rw [val_main_v8_apply]
  exact whole_at x w b _ _ _ rfl rfl

/-- The reference's columns 1024 to 1279. -/
theorem ref9 : val_main_v9 (F := Ideal) x w b = cols 256 1024 (by decide) x w b := by
  funext i
  rw [val_main_v9_apply]
  exact whole_at x w b _ _ _ rfl rfl

/-- The reference's columns 1280 to 1535. -/
theorem ref10 : val_main_v10 (F := Ideal) x w b = cols 256 1280 (by decide) x w b := by
  funext i
  rw [val_main_v10_apply]
  exact whole_at x w b _ _ _ rfl rfl

/-- The reference's columns 1536 to 1791. -/
theorem ref11 : val_main_v11 (F := Ideal) x w b = cols 256 1536 (by decide) x w b := by
  funext i
  rw [val_main_v11_apply]
  exact whole_at x w b _ _ _ rfl rfl

/-- The reference's columns 1792 to 2047. -/
theorem ref16 : val_main_v16 (F := Ideal) x w b = cols 256 1792 (by decide) x w b := by
  funext i
  rw [val_main_v16_apply, val_main_v12_apply]
  exact whole_at x w b _ _ _ rfl rfl

/-- The value claim. -/
theorem algebraic : Cert.algebraic_InProjIdeal_InProjRefIdeal := by
  intro m ρ m' ρ' _ hagree
  refine ⟨fun c => colsAt m 512 0 (by decide) c, fun c => colsAt m 128 512 (by decide) c, fun c => colsAt m 128 640 (by decide) c, fun c => colsAt m 256 768 (by decide) c,
    fun c => colsAt m 256 1024 (by decide) c, fun c => colsAt m 256 1280 (by decide) c, fun c => colsAt m 256 1536 (by decide) c, fun c => colsAt m 256 1792 (by decide) c, ?_, ?_⟩
  · refine (θ_run _ _ _).mono (fun r h c => ?_) (Cert.InProjIdeal.Value.run_blocks m ρ)
    have hc := h c
    rw [final3 m c, final4 m c, final5 m c, final6 m c, final7 m c, final8 m c, final9 m c, final10 m c] at hc
    exact hc
  · refine (θ_run _ _ _).mono (fun r h c => ?_) (Cert.InProjRefIdeal.Value.run (F := Ideal) m' ρ')
    obtain ⟨h0, h1, h2, h3, h4, h5, h6, h7, hargs⟩ := h c
    obtain ⟨a0, a1, a2⟩ := hagree c
    simp only [colsAt]
    rw [← a0, ← a1, ← a2]
    exact ⟨h0.trans ((val_main_v13_eq _ _ _).trans (ref13 _ _ _)),
      h1.trans ((val_main_v14_eq _ _ _).trans (ref14 _ _ _)),
      h2.trans ((val_main_v15_eq _ _ _).trans (ref15 _ _ _)),
      h3.trans ((val_main_v8_eq _ _ _).trans (ref8 _ _ _)),
      h4.trans ((val_main_v9_eq _ _ _).trans (ref9 _ _ _)),
      h5.trans ((val_main_v10_eq _ _ _).trans (ref10 _ _ _)),
      h6.trans ((val_main_v11_eq _ _ _).trans (ref11 _ _ _)),
      h7.trans ((val_main_v16_eq _ _ _).trans (ref16 _ _ _)),
      hargs⟩

end InProjClaim
end
-- ==== Proof.MemKvValue.lean ====
/- The memory's keys and values: for each of the four layers, the memory rows times that layer's weights. -/
module

public import proofs.«01_k».proof.Proof.Gen.MemKvIdeal.Value
public import proofs.«01_k».proof.Proof.Gen.MemKvRefIdeal.Read
public import Idealize.ShloMosaic.Lib.Pointwise
public import Idealize.ShloMosaic.Lib.Pipeline.ValueKit
public import Idealize.ShloMosaic.Lib.StableHlo.ReadAt

@[expose] public section

set_option maxRecDepth 16384
set_option Elab.async false

noncomputable section

open Idealize.ShloMosaic Idealize.ShloMosaic.TcCoe Idealize.SL.Sem Idealize.ShloMosaic.Pipeline

namespace MemKvValue
open Cert.MemKvIdeal Cert.MemKvIdeal.Gen Cert.MemKvIdeal.Value

/-- Layer `l`, memory row `r`, column `j` of the product: row `r` is token `r % 256` of batch `r / 256`. -/
def H (x : FVec Ideal S8x256x1024 .f32) (w : FVec Ideal S4x1024x512 .f32) (l : Fin 4) (r : Fin 2048) (j : Fin 512) : EReal :=
  ∑ k : Fin 1024, x (ix3 ⟨r.val / 256, by omega⟩ ⟨r.val % 256, by omega⟩ k) * w (ix3 l k j)

/-- A block of 512 rows times one layer's weights. -/
theorem pay_apply (x : Vec Ideal S512x1024 .f32) (w : Vec Ideal S1x1024x512 .f32) (r : Fin 512) (j : Fin 512) :
    k0_pay1 x w (ix2 r j) = ∑ k : Fin 1024, x (ix2 r k) * w (ix3 0 k j) := by
  pointwise [k0_pay1]

variable (m : (ℓ : Loc nD τ sig) → Buf (Elt Ideal) ℓ)

/-- The block indices at grid point `t`: layer `t / 4`, row block `t % 4`. -/
theorem idx_facts : ∀ t : Fin cfg0.N, win0_0.index t = ![t.val % 4, 0] ∧ win0_1.index t = ![t.val / 4, 0, 0]
    ∧ win0_2.index t = ![t.val / 4, t.val % 4, 0] ∧ win0_3.index t = ![t.val / 4, t.val % 4, 0] :=
  (by decide +kernel : ∀ t : Fin grid0.N, _)

theorem lt_N (t : Fin cfg0.N) : t.val < 16 := t.isLt

/-- The memory rows as the kernel takes them. -/
theorem x_apply (c : Dev nD) (r : Fin 2048) (k : Fin 1024) :
    V m c main_v0 (ix2 r k) = m (c.tc.loc main_arg0) (ix3 ⟨r.val / 256, by omega⟩ ⟨r.val % 256, by omega⟩ k) := by
  unfold V
  after_reads_at

theorem hz2 : (![0, 0] : Fin 2 → Nat) = fun _ => 0 := by funext a; fin_cases a <;> rfl
theorem hz3 : (![0, 0, 0] : Fin 3 → Nat) = fun _ => 0 := by funext a; fin_cases a <;> rfl

/-- What a grid point computes, before it is cut into keys and values, at any index with these coordinates. -/
theorem cut (c : Dev nD) (t : Fin cfg0.N) (y : S512x512.Idx) (L : Fin 4) (R : Fin 2048) (J : Fin 512)
    (hL : L.val = t.val / 4) (hR : R.val = t.val % 4 * 512 + (y 0).val) (hJ : J.val = (y 1).val) :
    k0_pay1 (View.ld (iblk m c 0 t) r0_0) (View.ld (iblk m c 1 t) r0_1) y
      = H (m (c.tc.loc main_arg0)) (m (c.tc.loc main_arg1)) L R J := by
  obtain ⟨r, j, rfl⟩ : ∃ (r : Fin 512) (j : Fin 512), y = ix2 r j := ⟨y 0, y 1, by funext a; fin_cases a <;> rfl⟩
  obtain rfl : J = j := Fin.ext hJ
  have hr : R.val = t.val % 4 * 512 + r.val := hR
  rw [show View.ld (iblk m c 0 t) r0_0 = iblk m c 0 t from View.ld_unit_zero hz2 _ _,
    show View.ld (iblk m c 1 t) r0_1 = iblk m c 1 t from View.ld_unit_zero hz3 _ _, pay_apply]
  have hi := idx_facts t
  have h0 : ∀ k : Fin 1024, iblk m c 0 t (ix2 r k) = V m c main_v0 (ix2 R k) := by
    intro k; blk_ext [iblk, hi.1]
  have h1 : ∀ k : Fin 1024, iblk m c 1 t (ix3 0 k J) = m (c.tc.loc main_arg1) (ix3 L k J) := by
    intro k
    refine Eq.trans (?_ : _ = V m c main_arg1 (ix3 L k J)) (congrFun (V_main_arg1 m c) _)
    blk_ext [iblk, hi.2.1]
  exact Finset.sum_congr rfl fun k _ => congrArg₂ (· * ·) ((h0 k).trans (x_apply m c R k)) (h1 k)

/-- The half of the columns from column `o` on. -/
def half (o : Nat) (h : o + 256 ≤ 512) (x : FVec Ideal S8x256x1024 .f32) (w : FVec Ideal S4x1024x512 .f32) : S4x2048x256.Idx → EReal :=
  fun i => H x w (i 0) (i 1) ⟨o + (i 2).val, Nat.lt_of_lt_of_le (Nat.add_lt_add_left (i 2).isLt o) h⟩

/-- … of the arguments on device `c`. -/
abbrev halfAt (o : Nat) (h : o + 256 ≤ 512) (c : Dev nD) : S4x2048x256.Idx → EReal :=
  half o h (m (c.tc.loc main_arg0)) (m (c.tc.loc main_arg1))

/-- The keys. -/
theorem final2 (c : Dev nD) : (dats m 0 c).arrAt 2 cfg0.N = halfAt m 0 (by decide) c := by
  refine (dats m 0 c).arrAt_eq_of_covers 2 _ (by decide +kernel) fun t hf y => ?_
  have hi := (idx_facts t).2.2.1
  have hy : (y 0).val < 1 := (y 0).isLt
  blk_simp
  rw [after0_2]
  unfold out0_2
  rw [canon2_eq]
  refine cut m c t _ _ _ _ ?_ ?_ ?_ <;> blk_simp [hi] <;> first | omega | exact Nat.add_comm _ _

/-- The values. -/
theorem final3 (c : Dev nD) : (dats m 0 c).arrAt 3 cfg0.N = halfAt m 256 (by decide) c := by
  refine (dats m 0 c).arrAt_eq_of_covers 3 _ (by decide +kernel) fun t hf y => ?_
  have hi := (idx_facts t).2.2.2
  have hy : (y 0).val < 1 := (y 0).isLt
  blk_simp
  rw [after0_3]
  unfold out0_3
  rw [canon3_eq]
  refine cut m c t _ _ _ _ ?_ ?_ ?_ <;> blk_simp [hi] <;> first | omega | exact Nat.add_comm _ _

end MemKvValue
end
-- ==== Proof.MemKvClaim.lean ====
/- The memory's keys and values equal their reference. -/
module

public import proofs.«01_k».proof.Defs
public import proofs.«01_k».proof.Proof.MemKvValue

@[expose] public section

set_option maxRecDepth 16384
set_option Elab.async false

noncomputable section

open Idealize.ShloMosaic Idealize.ShloMosaic.TcCoe Idealize.SL.Sem

namespace MemKvClaim
open Cert.MemKvIdeal Cert.MemKvIdeal.Gen MemKvValue Cert.MemKvRefIdeal.Read

variable (x : FVec Ideal S8x256x1024 .f32) (w : FVec Ideal S4x1024x512 .f32)

/-- The reference's product, before it is cut. -/
theorem whole (l : Fin 4) (r : Fin 2048) (j : Fin 512) : val_main_v2 (F := Ideal) x w (ix3 l r j) = H x w l r j := by
  unfold H
  refine Eq.trans (?_ : _ = ∑ k : Fin 1024, w (ix3 l k j) * x (ix3 ⟨r.val / 256, by omega⟩ ⟨r.val % 256, by omega⟩ k))
    (Finset.sum_congr rfl fun k _ => mul_comm _ _)
  pointwise [val_main_v2, val_main_v1, val_main_v0]

/-- At any index with these coordinates. -/
theorem whole_at (y : Cert.MemKvRefIdeal.S4x2048x512.Idx) (l : Fin 4) (r : Fin 2048) (j : Fin 512) (hl : (y 0).val = l.val)
    (hr : (y 1).val = r.val) (hj : (y 2).val = j.val) : val_main_v2 (F := Ideal) x w y = H x w l r j := by
  rw [← whole]
  exact congrArg _ (funext fun a => Fin.ext (match a with | ⟨0, _⟩ => hl | ⟨1, _⟩ => hr | ⟨2, _⟩ => hj))

/-- The reference's keys. -/
theorem ref5 : val_main_v5 (F := Ideal) x w = half 0 (by decide) x w := by
  funext i
  rw [val_main_v5_apply, val_main_v3_apply]
  exact whole_at x w _ _ _ _ rfl rfl (Nat.zero_add _).symm

/-- The reference's values. -/
theorem ref6 : val_main_v6 (F := Ideal) x w = half 256 (by decide) x w := by
  funext i
  rw [val_main_v6_apply, val_main_v4_apply]
  exact whole_at x w _ _ _ _ rfl rfl rfl

/-- The value claim. -/
theorem algebraic : Cert.algebraic_MemKvIdeal_MemKvRefIdeal := by
  intro m ρ m' ρ' _ hagree
  refine ⟨fun c => halfAt m 0 (by decide) c, fun c => halfAt m 256 (by decide) c, ?_, ?_⟩
  · refine (θ_run _ _ _).mono (fun r h c => ?_) (Cert.MemKvIdeal.Value.run_blocks m ρ)
    have hc := h c
    rw [final2 m c, final3 m c] at hc
    exact hc
  · refine (θ_run _ _ _).mono (fun r h c => ?_) (Cert.MemKvRefIdeal.Value.run (F := Ideal) m' ρ')
    obtain ⟨h0, h1, hargs⟩ := h c
    obtain ⟨a0, a1⟩ := hagree c
    simp only [halfAt]
    rw [← a0, ← a1]
    exact ⟨h0.trans ((val_main_v5_eq _ _).trans (ref5 _ _)), h1.trans ((val_main_v6_eq _ _).trans (ref6 _ _)), hargs⟩

end MemKvClaim
end
-- ==== Proof.MemAttnBlock.lean ====
/- What one grid point of the memory attention computes: four heads of 64 columns, each the softmax attention of 512
   query rows over 256 memory rows, divided by the denominator at the end. -/
module

public import proofs.«01_k».proof.Proof.Gen.MemAttnIdeal.Value
public import proofs.«01_k».proof.Proof.Weights
public import Idealize.ShloMosaic.Lib.Pointwise

@[expose] public section

set_option maxRecDepth 16384
set_option Elab.async false

noncomputable section

open Idealize.ShloMosaic Idealize.ShloMosaic.TcCoe Idealize.SL.Sem

namespace MemAttnBlock
open Cert.MemAttnIdeal Cert.MemAttnIdeal.Gen

/-- One head. -/
theorem head_apply (q : Vec Ideal S512x64 .bf16) (k v : Vec Ideal S1x256x64 .bf16) (r : Fin 512) (d : Fin 64) :
    k0_pay2 q k v (ix2 r d)
      = Weights.late (fun t : Fin 256 => Weights.score (fun e => q (ix2 r e)) (fun e => k (ix3 0 t e)))
          (fun t => v (ix3 0 t d)) := by
  unfold Weights.late Weights.score
  rw [← Weights.ofBits_neg_inf]
  pointwise [k0_pay2]

/-- The stored value is the four heads side by side. -/
theorem payload_eq (q₀ q₁ q₂ q₃ : Vec Ideal S512x64 .bf16) (k₀ k₁ k₂ k₃ v₀ v₁ v₂ v₃ : Vec Ideal S1x256x64 .bf16) :
    k0_pay1 (k0_pay2 q₀ k₀ v₀) (k0_pay6 (k0_pay4 q₁ k₁) (k0_pay5 q₁ k₁) v₁) (k0_pay7 q₂ k₂ v₂) (k0_pay8 q₃ k₃)
        (k0_pay9 q₃ k₃) v₃
      = truncf .bf16 (concatenate S512x256 1 [⟨S512x64, k0_pay2 q₀ k₀ v₀⟩, ⟨S512x64, k0_pay2 q₁ k₁ v₁⟩,
          ⟨S512x64, k0_pay2 q₂ k₂ v₂⟩, ⟨S512x64, k0_pay2 q₃ k₃ v₃⟩]
          concatenates_S512x64_S512x64_S512x64_S512x64_S512x256_d1) bitsLt_bf16_f32 := rfl

theorem hz : (![0, 0] : Fin 2 → Nat) = fun _ => 0 := by funext a; fin_cases a <;> rfl

/-- The four heads of a block. -/
theorem out_apply (x0 : Vec Ideal S512x256 .bf16) (x1 x2 : Vec Ideal S1x256x256 .bf16) (r : Fin 512) (c : Fin 256) :
    out0_3 x0 x1 x2 (ix2 r c)
      = Weights.late (fun t : Fin 256 => Weights.score (fun e => x0 (ix2 r ⟨c.val / 64 * 64 + e.val, by omega⟩))
            (fun e => x1 (ix3 0 t ⟨c.val / 64 * 64 + e.val, by omega⟩)))
          (fun t => x2 (ix3 0 t c)) := by
  unfold out0_3
  rw [View.canon_unit_zero hz, payload_eq]
  pointwise [r0_0, r0_1, r0_2, r0_3, r0_4, r0_5, r0_6, r0_7]
  split_ifs <;> rw [head_apply] <;>
    refine congrArg₂ Weights.late (funext fun t => congrArg₂ Weights.score (funext fun e => ?_) (funext fun e => ?_))
      (funext fun t => ?_) <;> pointwise
  all_goals (congr 2; apply Fin.ext; simp only []; omega)

end MemAttnBlock
end
-- ==== Proof.MemAttnRef.lean ====
/- What the reference of the memory attention computes, index by index: row `r` of the queries belongs to batch
   `r / 4096`, column `c` to head `c / 64`; the result is the attention of that row over the 256 memory rows of its
   batch, every weight divided by the denominator before it meets its value. -/
module

public import proofs.«01_k».proof.Proof.Gen.MemAttnRefIdeal.Read
public import proofs.«01_k».proof.Proof.Weights
public import Idealize.ShloMosaic.Lib.Pointwise

@[expose] public section

set_option maxRecDepth 16384
set_option Elab.async false

noncomputable section

open Idealize.ShloMosaic Idealize.ShloMosaic.TcCoe Idealize.SL.Sem

namespace MemAttnRef
open Cert.MemAttnRefIdeal Cert.MemAttnRefIdeal.Gen Cert.MemAttnRefIdeal.Read

variable (q : FVec Ideal S32768x256 .bf16) (k v : FVec Ideal S4x2048x256 .bf16)

/-- Row `s` of head `h` of batch `b` of the queries, and row `t` of the same head of the keys. -/
def qrow (b : Fin 8) (h : Fin 4) (s : Fin 4096) : Fin 64 → EReal :=
  fun d => q (ix2 ⟨b.val * 4096 + s.val, by omega⟩ ⟨h.val * 64 + d.val, by omega⟩)
def krow (b : Fin 8) (h : Fin 4) (t : Fin 256) : Fin 64 → EReal :=
  fun d => k (ix3 0 ⟨b.val * 256 + t.val, by omega⟩ ⟨h.val * 64 + d.val, by omega⟩)

/-- The scores. -/
theorem v12_apply (b : Fin 8) (h : Fin 4) (s : Fin 4096) (t : Fin 256) :
    val_main_v12 (F := Ideal) q k (ix4 b h s t) = Weights.score (qrow q b h s) (krow k b h t) := by
  unfold Weights.score qrow krow
  pointwise [val_main_v12, val_main_v11, val_main_v10, val_main_v5, val_main_v4, val_main_v3, val_main_v2, val_main_v1,
    val_main_v0, val_main_cst]

/-- The host's maximum over the last axis. -/
theorem rowMax_apply (x : FVec Ideal S8x4x4096x256 .f32) (b : Fin 8) (h : Fin 4) (s : Fin 4096) :
    Host.reduce FloatOps.maximumf x (constant (F := Ideal) S_ .f32 0xFF800000#32) reducesTo_S8x4x4096x256_S8x4x4096_d3 h_S_ (ix3 b h s)
      = Finset.univ.fold max ⊥ fun t : Fin 256 => x (ix4 b h s t) := by
  rw [← Weights.ofBits_neg_inf]
  pointwise

/-- The maximum of a row of scores. -/
theorem v15_apply (b : Fin 8) (h : Fin 4) (s : Fin 4096) :
    val_main_v15 (F := Ideal) q k (ix3 b h s)
      = Finset.univ.fold max ⊥ fun t => Weights.score (qrow q b h s) (krow k b h t) := by
  have hm : val_main_v13 (F := Ideal) q k (ix3 b h s)
      = Finset.univ.fold max ⊥ fun t : Fin 256 => val_main_v12 (F := Ideal) q k (ix4 b h s t) := rowMax_apply _ b h s
  rw [val_main_v15_apply, hm, val_main_v14_apply]
  simp only [v12_apply]
  show max (Ideal.ofBits FTy.f32 0xFF800000#32) _ = _
  rw [Weights.ofBits_neg_inf, bot_sup_eq]

/-- The weights before the division. -/
theorem v19_apply (b : Fin 8) (h : Fin 4) (s : Fin 4096) (t : Fin 256) :
    val_main_v19 (F := Ideal) q k (ix4 b h s t)
      = Ideal.exp (Weights.score (qrow q b h s) (krow k b h t)
          - Finset.univ.fold max ⊥ fun t => Weights.score (qrow q b h s) (krow k b h t)) := by
  pointwise [val_main_v19, val_main_v18, val_main_v17, val_main_v16]
  rw [v12_apply, v15_apply]

/-- The weights. -/
theorem v23_apply (b : Fin 8) (h : Fin 4) (s : Fin 4096) (t : Fin 256) :
    val_main_v23 (F := Ideal) q k (ix4 b h s t)
      = Ideal.div (val_main_v19 (F := Ideal) q k (ix4 b h s t)) (∑ t, val_main_v19 (F := Ideal) q k (ix4 b h s t)) := by
  pointwise [val_main_v23, val_main_v22, val_main_v21, val_main_v20, val_main_cst_2]

/-- The result. -/
theorem v27_apply (r : Fin 32768) (c : Fin 256) :
    val_main_v27 (F := Ideal) q k v (ix2 r c)
      = Weights.early (fun t : Fin 256 => Weights.score (fun d => q (ix2 r ⟨c.val / 64 * 64 + d.val, by omega⟩))
            (fun d => k (ix3 0 ⟨r.val / 4096 * 256 + t.val, by omega⟩ ⟨c.val / 64 * 64 + d.val, by omega⟩)))
          (fun t => v (ix3 0 ⟨r.val / 4096 * 256 + t.val, by omega⟩ c)) := by
  have hq : (fun d : Fin 64 => q (ix2 r ⟨c.val / 64 * 64 + d.val, by omega⟩))
      = qrow q ⟨r.val / 4096, by omega⟩ ⟨c.val / 64, by omega⟩ ⟨r.val % 4096, by omega⟩ := by
    funext d
    unfold qrow
    congr 2
    apply Fin.ext
    show r.val = r.val / 4096 * 4096 + r.val % 4096
    omega
  rw [hq]
  pointwise [val_main_v27, val_main_v26, val_main_v25, val_main_v24, val_main_v9, val_main_v8, val_main_v7, val_main_v6]
  simp only [v23_apply, v19_apply]
  rfl

end MemAttnRef
end
-- ==== Proof.MemAttnValue.lean ====
/- The memory attention's result array as one function of its three arguments, and the equation with its reference. -/
module

public import proofs.«01_k».proof.Proof.MemAttnBlock
public import proofs.«01_k».proof.Proof.MemAttnRef

@[expose] public section

set_option maxRecDepth 16384
set_option Elab.async false

noncomputable section

open Idealize.ShloMosaic Idealize.ShloMosaic.TcCoe Idealize.SL.Sem Idealize.ShloMosaic.Pipeline

namespace MemAttnValue
open Cert.MemAttnIdeal Cert.MemAttnIdeal.Gen MemAttnBlock

/-- The result at row `r` and column `c`: row `r` belongs to batch `r / 4096`, column `c` to head `c / 64`; the row's
    attention over the 256 memory rows of its batch, divided by the denominator at the end. -/
def Gat (q : FVec Ideal S32768x256 .bf16) (k v : FVec Ideal S4x2048x256 .bf16) (r : Fin 32768) (c : Fin 256) : EReal :=
  Weights.late (fun t : Fin 256 => Weights.score (fun d => q (ix2 r ⟨c.val / 64 * 64 + d.val, by omega⟩))
      (fun d => k (ix3 0 ⟨r.val / 4096 * 256 + t.val, by omega⟩ ⟨c.val / 64 * 64 + d.val, by omega⟩)))
    (fun t => v (ix3 0 ⟨r.val / 4096 * 256 + t.val, by omega⟩ c))

/-- The result array. -/
def G (q : FVec Ideal S32768x256 .bf16) (k v : FVec Ideal S4x2048x256 .bf16) : FVec Ideal S32768x256 .bf16 :=
  fun i => Gat q k v (i 0) (i 1)

variable (m : (ℓ : Loc nD τ sig) → Buf (Elt Ideal) ℓ)

/-- The block indices at grid point `t`: 64 row blocks, eight to a batch. -/
theorem idx_facts : ∀ t : Fin cfg0.N,
    (win0_0.index t 0 = t.val ∧ win0_0.index t 1 = 0)
    ∧ (win0_1.index t 0 = 0 ∧ win0_1.index t 1 = t.val / 8 ∧ win0_1.index t 2 = 0)
    ∧ (win0_2.index t 0 = 0 ∧ win0_2.index t 1 = t.val / 8 ∧ win0_2.index t 2 = 0)
    ∧ (win0_3.index t 0 * win0_3.size 0 = t.val * 512 ∧ win0_3.xsize (grid0.coords t) 0 = 512
      ∧ win0_3.index t 1 * win0_3.size 1 = 0 ∧ win0_3.xsize (grid0.coords t) 1 = 256) :=
  (by decide +kernel : ∀ t : Fin grid0.N, _)

theorem lt_N (t : Fin cfg0.N) : t.val < 64 := t.isLt

/-- The query block of a grid point. -/
theorem q_read (c : Dev nD) (t : Fin cfg0.N) (r : Fin 512) (e : Fin 256) :
    iblk m c 0 t (ix2 r e) = m (c.tc.loc main_arg0) (ix2 ⟨t.val * 512 + r.val, by have := lt_N t; omega⟩ e) := by
  unfold iblk
  rw [View.read_apply]
  show V m c main_arg0 _ = m (c.tc.loc main_arg0) _
  rw [V_main_arg0]
  congr 1
  funext a
  apply Fin.ext
  have hi := (idx_facts t).1
  match a with
  | ⟨0, _⟩ => show win0_0.index t 0 * 512 + 1 * r.val = t.val * 512 + r.val; rw [hi.1]; omega
  | ⟨1, _⟩ => show win0_0.index t 1 * 256 + 1 * e.val = e.val; rw [hi.2]; omega

/-- The key block of a grid point. -/
theorem k_read (c : Dev nD) (t : Fin cfg0.N) (r : Fin 256) (e : Fin 256) :
    iblk m c 1 t (ix3 0 r e) = m (c.tc.loc main_arg1) (ix3 0 ⟨t.val / 8 * 256 + r.val, by have := lt_N t; omega⟩ e) := by
  unfold iblk
  rw [View.read_apply]
  show V m c main_arg1 _ = m (c.tc.loc main_arg1) _
  rw [V_main_arg1]
  congr 1
  funext a
  apply Fin.ext
  have hi := (idx_facts t).2.1
  match a with
  | ⟨0, _⟩ => show win0_1.index t 0 * 1 + 1 * 0 = 0; rw [hi.1]
  | ⟨1, _⟩ => show win0_1.index t 1 * 256 + 1 * r.val = t.val / 8 * 256 + r.val; rw [hi.2.1]; omega
  | ⟨2, _⟩ => show win0_1.index t 2 * 256 + 1 * e.val = e.val; rw [hi.2.2]; omega

/-- The value block of a grid point. -/
theorem v_read (c : Dev nD) (t : Fin cfg0.N) (r : Fin 256) (e : Fin 256) :
    iblk m c 2 t (ix3 0 r e) = m (c.tc.loc main_arg2) (ix3 0 ⟨t.val / 8 * 256 + r.val, by have := lt_N t; omega⟩ e) := by
  unfold iblk
  rw [View.read_apply]
  show V m c main_arg2 _ = m (c.tc.loc main_arg2) _
  rw [V_main_arg2]
  congr 1
  funext a
  apply Fin.ext
  have hi := (idx_facts t).2.2.1
  match a with
  | ⟨0, _⟩ => show win0_2.index t 0 * 1 + 1 * 0 = 0; rw [hi.1]
  | ⟨1, _⟩ => show win0_2.index t 1 * 256 + 1 * r.val = t.val / 8 * 256 + r.val; rw [hi.2.1]; omega
  | ⟨2, _⟩ => show win0_2.index t 2 * 256 + 1 * e.val = e.val; rw [hi.2.2]; omega

/-- The result array on device `c`. -/
abbrev Gm (c : Dev nD) : Buf (Elt Ideal) ((c : Thread nD τ).loc main_v0) :=
  G (m (c.tc.loc main_arg0)) (m (c.tc.loc main_arg1)) (m (c.tc.loc main_arg2))

/-- A grid point writes its block of the result array. -/
theorem flushed_eq (c : Dev nD) (t : Fin cfg0.N) :
    (dats m 0 c).flushed 3 t = (win0_3.blk t).view.read (Elt Ideal) (Gm m c) := by
  rw [Cert.MemAttnIdeal.Value.flushed3]
  funext j
  obtain ⟨r, e, rfl⟩ : ∃ (r : Fin 512) (e : Fin 256), j = ix2 r e := ⟨j 0, j 1, by funext a; fin_cases a <;> rfl⟩
  have h0 : (((win0_3.blk t).view.emb (ix2 r e)) 0 : Nat) = t.val * 512 + r.val := by
    show win0_3.index t 0 * win0_3.size 0 + 1 * r.val = _
    rw [(idx_facts t).2.2.2.1]; omega
  have h1 : (((win0_3.blk t).view.emb (ix2 r e)) 1 : Nat) = e.val := by
    show win0_3.index t 1 * win0_3.size 1 + 1 * e.val = _
    rw [(idx_facts t).2.2.2.2.2.1]; omega
  rw [View.read_apply]
  show out0_3 (iblk m c 0 t) (iblk m c 1 t) (iblk m c 2 t) (ix2 r e) = Gat _ _ _ ((win0_3.blk t).view.emb (ix2 r e) 0) ((win0_3.blk t).view.emb (ix2 r e) 1)
  rw [show ((win0_3.blk t).view.emb (ix2 r e)) 0 = (⟨t.val * 512 + r.val, by have := lt_N t; omega⟩ : Fin 32768) from Fin.ext h0,
    show ((win0_3.blk t).view.emb (ix2 r e)) 1 = e from Fin.ext h1, out_apply]
  simp only [q_read, k_read, v_read]
  unfold Gat
  have hb : (t.val * 512 + r.val) / 4096 = t.val / 8 := by omega
  simp only [hb]

/-- Which rows a grid point's block holds. -/
theorem mem_blk (t : Fin cfg0.N) (i : S32768x256.Idx) :
    i ∈ ((cfg0.win 3).blk t).view.set ↔ t.val * 512 ≤ (i 0 : Nat) ∧ (i 0 : Nat) < t.val * 512 + 512 := by
  show i ∈ ((View.whole main_v0).slice (win0_3.rect t)).set ↔ _
  rw [View.set_slice_whole, Rect.mem_set_unit]
  have h1 : (i 1 : Nat) < 256 := (i 1).isLt
  obtain ⟨e0, e1, e2, e3⟩ := (idx_facts t).2.2.2
  refine ⟨fun h => ?_, fun h a => ?_⟩
  · have h0 : win0_3.index t 0 * win0_3.size 0 ≤ (i 0 : Nat) ∧ (i 0 : Nat) < win0_3.index t 0 * win0_3.size 0 + win0_3.xsize (grid0.coords t) 0 := h 0
    rw [e0, e1] at h0; exact h0
  · match a with
    | ⟨0, _⟩ => show win0_3.index t 0 * win0_3.size 0 ≤ (i 0 : Nat) ∧ (i 0 : Nat) < win0_3.index t 0 * win0_3.size 0 + win0_3.xsize (grid0.coords t) 0
                rw [e0, e1]; exact h
    | ⟨1, _⟩ => show win0_3.index t 1 * win0_3.size 1 ≤ (i 1 : Nat) ∧ (i 1 : Nat) < win0_3.index t 1 * win0_3.size 1 + win0_3.xsize (grid0.coords t) 1
                rw [e2, e3]; omega

/-- Every entry of the result lies in some point's block. -/
theorem cover (i : S32768x256.Idx) : ∃ t : Fin cfg0.N, (cfg0.win 3).flush t = true ∧ i ∈ ((cfg0.win 3).blk t).view.set := by
  have h0 : (i 0 : Nat) < 32768 := (i 0).isLt
  refine ⟨⟨(i 0 : Nat) / 512, by show _ < 64; omega⟩, flush0_3 _, ?_⟩
  rw [mem_blk]
  dsimp only
  omega

/-- So the array ends at `G` of the arguments. -/
theorem final (c : Dev nD) : (dats m 0 c).arrAt 3 cfg0.N = Gm m c :=
  (dats m 0 c).arrAt_eq_of_cover 3 (Gm m c) (fun t _ => flushed_eq m c t) cover

end MemAttnValue
end
-- ==== Proof.MemAttnClaim.lean ====
/- The memory attention equals its reference on finite queries and keys. -/
module

public import proofs.«01_k».proof.Defs
public import proofs.«01_k».proof.Proof.MemAttnValue
public import proofs.«01_k».proof.Proof.Gen.Pre_finite_mem

@[expose] public section

set_option maxRecDepth 16384
set_option Elab.async false

noncomputable section

open Idealize.ShloMosaic Idealize.ShloMosaic.TcCoe Idealize.SL.Sem

namespace MemAttnClaim
open Cert.MemAttnIdeal Cert.MemAttnIdeal.Gen MemAttnValue

/-- The precondition in words: every query and every key is a real number. -/
theorem finite_of_pre (q : FVec Ideal S32768x256 .bf16) (k v : FVec Ideal S4x2048x256 .bf16)
    (h : (Cert.Pre_finite_mem.fn (F := Ideal) q k v).1 = (fun _ => 1#1)
      ∧ (Cert.Pre_finite_mem.fn (F := Ideal) q k v).2 = (fun _ => 1#1)) :
    (∀ i, Weights.Fin' (q i)) ∧ ∀ i, Weights.Fin' (k i) := by
  refine ⟨fun i => Weights.fin'_of_abs ?_, fun i => Weights.fin'_of_abs ?_⟩
  · rw [← Weights.ofBits_inf]; exact congrFun h.1 i
  · rw [← Weights.ofBits_inf]; exact congrFun h.2 i

/-- The kernel's array is the reference's. -/
theorem G_eq (q : FVec Ideal S32768x256 .bf16) (k v : FVec Ideal S4x2048x256 .bf16)
    (hq : ∀ i, Weights.Fin' (q i)) (hk : ∀ i, Weights.Fin' (k i)) :
    Cert.MemAttnRefIdeal.Read.val_main_v27 (F := Ideal) q k v = G q k v := by
  funext i
  obtain ⟨r, c, rfl⟩ : ∃ (r : Fin 32768) (c : Fin 256), i = ix2 r c := ⟨i 0, i 1, by funext a; fin_cases a <;> rfl⟩
  rw [MemAttnRef.v27_apply]
  exact (Weights.late_eq_early _ _ fun t => Weights.score_fin' (fun _ => hq _) (fun _ => hk _)).symm

/-- The value claim. -/
theorem algebraic : Cert.algebraic_MemAttnIdeal_MemAttnRefIdeal_pre_finite_mem := by
  intro m ρ m' ρ' hpre hagree
  refine ⟨fun c => Gm m c, ?_, ?_⟩
  · refine (θ_run _ _ _).mono (fun r h c => ?_) (Cert.MemAttnIdeal.Value.run_blocks m ρ)
    have hc := h c
    rw [final m c] at hc
    exact hc
  · refine (θ_run _ _ _).mono (fun r h c => ?_) (Cert.MemAttnRefIdeal.Value.run (F := Ideal) m' ρ')
    have hc := h c
    refine ⟨(hc.1.trans (Cert.MemAttnRefIdeal.Read.val_main_v27_eq _ _ _)).trans ?_, hc.2⟩
    obtain ⟨a0, a1, a2⟩ := hagree c
    have hf := finite_of_pre _ _ _ (hpre c)
    rw [a0, a1, a2]
    exact G_eq _ _ _ hf.1 hf.2

end MemAttnClaim
end
-- ==== Proof.ExpertsBlock.lean ====
/- One block of 256 slots in the experts' call: the layout of its rows, and the result as a function of what it reads. -/
module

public import proofs.«01_k».proof.Proof.Gen.ExpertsIdeal.Skeleton
public import Idealize.ShloMosaic.Lib.Pipeline.FrameBody
public import Idealize.ShloMosaic.Lib.Pipeline.ValueKit
public import Idealize.ShloMosaic.Lib.Pointwise

@[expose] public section

set_option maxRecDepth 16384
set_option Elab.async false

noncomputable section

open Idealize.ShloMosaic Idealize.ShloMosaic.TcCoe

namespace ExpertsBlock
open Cert.ExpertsIdeal Cert.ExpertsIdeal.Gen

variable {F : FTy → Type} [FloatOps F]

/-- Every eighth row, from row `k` on, stays within the 2048 rows of a block. -/
theorem rows_inb (k : Fin 8) : ∀ a, S256x128.size a = 0 ∨
    (![k.val, 0] : Fin 2 → ℕ) a + (![8, 1] : Fin 2 → ℕ) a * (S256x128.size a - 1) < S2048x128.size a := by
  revert k; decide

/-- Every eighth row, from row `k` on. -/
def rowsRect (k : Fin 8) : Rect S2048x128 := ⟨⟨![k.val, 0], S256x128.size, ![8, 1], rows_inb k⟩, spos_8_1⟩

/-- The rows a slot's `k`-th eighth is in. -/
def rows (k : Fin 8) (x : Vec F S2048x128 .f32) : Vec F S256x128 .f32 := fun j => x ((rowsRect k).idx j)

/-- Slot `r`, lane `l` of the `k`-th eighth is row `8 r + k`. -/
theorem rows_apply (k : Fin 8) (x : Vec F S2048x128 .f32) (r : Fin 256) (l : Fin 128) :
    rows k x (ix2 r l) = x (ix2 ⟨8 * r.val + k.val, by omega⟩ l) := by
  unfold rows
  congr 1
  funext a
  refine Fin.ext ?_
  match a with
  | ⟨0, _⟩ => exact Nat.add_comm k.val (8 * r.val)
  | ⟨1, _⟩ => show 0 + 1 * l.val = l.val; omega

/-- Row `R` belongs to the `R % 8`-th eighth only. -/
theorem not_mem (k : Fin 8) (y : S2048x128.Idx) (h : (y 0).val % 8 ≠ k.val) : y ∉ (rowsRect k).set := by
  intro hm
  obtain ⟨j, hj, e⟩ := (rowsRect k).mem_set.mp hm 0
  have e' : (y 0).val = k.val + 8 * j := e
  have := k.isLt
  omega

/-- The place of row `8 r + k` in its eighth. -/
theorem emb_eq (k : Fin 8) (y : S2048x128.Idx) (h : (y 0).val % 8 = k.val) :
    (rowsRect k).emb (ix2 (⟨(y 0).val / 8, by have := (y 0).isLt; change _ < 2048 at this; omega⟩ : Fin 256) (y 1)) = y := by
  funext a
  refine Fin.ext ?_
  match a with
  | ⟨0, _⟩ => show k.val + 8 * ((y 0).val / 8) = (y 0).val; omega
  | ⟨1, _⟩ => show 0 + 1 * (y 1).val = (y 1).val; omega

/-- The eight payloads, interleaved: row `8 r + k` is row `r` of the `k`-th. -/
def weave (w : Fin 8 → Vec F S256x128 .f32) : Vec F S2048x128 .f32 := fun y =>
  w ⟨(y 0).val % 8, Nat.mod_lt _ (by decide)⟩
    (ix2 (⟨(y 0).val / 8, by have := (y 0).isLt; change _ < 2048 at this; omega⟩ : Fin 256) (y 1))

/-- The eight stores, the last first. -/
def pieces (w : Fin 8 → Vec F S256x128 .f32) : List (View.Piece (Elt F) S2048x128 .f32) :=
  [⟨rowsRect 7, w 7⟩, ⟨rowsRect 6, w 6⟩, ⟨rowsRect 5, w 5⟩, ⟨rowsRect 4, w 4⟩, ⟨rowsRect 3, w 3⟩, ⟨rowsRect 2, w 2⟩,
    ⟨rowsRect 1, w 1⟩, ⟨rowsRect 0, w 0⟩]

/-- A store to another eighth does not matter, and one to this eighth decides. -/
theorem read_cons {κ : Kind} {sp : Space} (v : View sig κ sp S2048x128 .f32) (f : v.ty.Contents (Elt F))
    (w : Fin 8 → Vec F S256x128 .f32) (k : Fin 8) (L : List (View.Piece (Elt F) S2048x128 .f32)) (y : S2048x128.Idx)
    (h : (y 0).val % 8 ≠ k.val → v.read (Elt F) (v.writes (Elt F) f L) y = weave w y) :
    v.read (Elt F) (v.writes (Elt F) f (⟨rowsRect k, w k⟩ :: L)) y = weave w y := by
  by_cases hk : (y 0).val % 8 = k.val
  · have e : weave w y = w k (ix2 (⟨(y 0).val / 8, by have := (y 0).isLt; change _ < 2048 at this; omega⟩ : Fin 256) (y 1)) := by
      unfold weave
      rw [show (⟨(y 0).val % 8, Nat.mod_lt _ (by decide)⟩ : Fin 8) = k from Fin.ext hk]
    rw [e]
    conv_lhs => rw [← emb_eq k y hk]
    exact View.read_writes_cons_emb v f (rowsRect k) (w k) L _
  · rw [View.read_writes_cons_miss v f ⟨rowsRect k, w k⟩ L y (not_mem k y hk)]
    exact h hk

/-- After the eight stores the block is the payloads interleaved. -/
theorem read_pieces {κ : Kind} {sp : Space} (v : View sig κ sp S2048x128 .f32) (f : v.ty.Contents (Elt F))
    (w : Fin 8 → Vec F S256x128 .f32) : v.read (Elt F) (v.writes (Elt F) f (pieces w)) = weave w := by
  funext y
  unfold pieces
  refine read_cons v f w 7 _ y fun h7 => read_cons v f w 6 _ y fun h6 => read_cons v f w 5 _ y fun h5 =>
    read_cons v f w 4 _ y fun h4 => read_cons v f w 3 _ y fun h3 => read_cons v f w 2 _ y fun h2 =>
    read_cons v f w 1 _ y fun h1 => read_cons v f w 0 _ y fun h0 => absurd ?_ h0
  simp only [Fin.isValue, Fin.val_zero, Fin.val_one, ne_eq] at *
  simp only [show ((7 : Fin 8) : ℕ) = 7 from rfl, show ((6 : Fin 8) : ℕ) = 6 from rfl, show ((5 : Fin 8) : ℕ) = 5 from rfl,
    show ((4 : Fin 8) : ℕ) = 4 from rfl, show ((3 : Fin 8) : ℕ) = 3 from rfl, show ((2 : Fin 8) : ℕ) = 2 from rfl] at *
  omega

/-- The first condition fails exactly when the second holds. -/
theorem cond2_iff (i : grid0.Coords) (n : BitVec 32) : k0_cond2 i n = 1#1 ↔ ¬ k0_cond1 i n = 1#1 := by
  unfold k0_cond1 k0_cond2 Scalar.cmpi Scalar.extui IntOp.cmpi
  simp only [BitVec.sle_eq_not_slt]
  cases h : BitVec.slt (BitVec.ofNat 32 (i 0).val) n <;> simp [h]

/-- What is in the block of results after both branches: the interleaved payloads, or zeros. -/
theorem read_branches {κ : Kind} {sp : Space} (v : View sig κ sp S2048x128 .f32) (f : v.ty.Contents (Elt F))
    (i : grid0.Coords) (n : BitVec 32) (w : Fin 8 → Vec F S256x128 .f32) (z : Vec F S2048x128 .f32) :
    v.read (Elt F)
      (if _hc : k0_cond2 i n = 1#1 then
        v.writes (Elt F) (if _hc : k0_cond1 i n = 1#1 then v.writes (Elt F) f (pieces w) else f)
          [⟨Rect.unit ![0, 0] ![2048, 128] inb_S2048x128_S2048x128_0_0, z⟩]
      else if _hc : k0_cond1 i n = 1#1 then v.writes (Elt F) f (pieces w) else f)
      = if k0_cond1 i n = 1#1 then weave w else z := by
  by_cases h1 : k0_cond1 i n = 1#1
  · have h2 : ¬ k0_cond2 i n = 1#1 := fun h => (cond2_iff i n).mp h h1
    rw [dif_neg h2, dif_pos h1, if_pos h1]
    exact read_pieces v f w
  · have h2 := (cond2_iff i n).mpr h1
    rw [dif_pos h2, dif_neg h1, if_neg h1]
    funext y
    have r := View.read_writes_cons_emb v (Val := Elt F) f
      (Rect.unit (s := S2048x128) ![0, 0] ![2048, 128] inb_S2048x128_S2048x128_0_0) z [] y
    have e : (Rect.unit (s := S2048x128) ![0, 0] ![2048, 128] inb_S2048x128_S2048x128_0_0).emb y = y := by
      funext a
      refine Fin.ext ?_
      match a with
      | ⟨0, _⟩ => show 0 + 1 * (y 0).val = (y 0).val; omega
      | ⟨1, _⟩ => show 0 + 1 * (y 1).val = (y 1).val; omega
    rw [e] at r
    exact r

/-- The block's activations: the sum of both experts' results, slot by slot, all 1024 columns. -/
def acts (x0 : Vec F S2048x128 .f32) (x1 x2 : Vec F S256x1 .f32) (x3 x4 : Vec F S1x1x1024x512 .bf16)
    (x5 : Vec F S1x1x512x1024 .bf16) (x6 x7 : Vec F S1x1x1024x512 .bf16) (x8 : Vec F S1x1x512x1024 .bf16) :
    FVec F S256x1024 .f32 :=
  k0_pay6 (k0_pay4 (rows 0 x0) (rows 1 x0) (rows 2 x0) (rows 3 x0) (rows 4 x0) (rows 5 x0) (rows 6 x0) (rows 7 x0))
    (k0_pay5 (rows 0 x0) (rows 1 x0) (rows 2 x0) (rows 3 x0) (rows 4 x0) (rows 5 x0) (rows 6 x0) (rows 7 x0) x1 x3 x4 x5)
    x2 x6 x7 x8

/-- The columns from `128 k` on. -/
def cols (y : FVec F S256x1024 .f32) (k : Fin 8) : Vec F S256x128 .f32 := fun j =>
  y (ix2 (j 0) (⟨128 * k.val + (j 1).val, by have := (j 1).isLt; change _ < 128 at this; omega⟩ : Fin 1024))

/-- What the body leaves in the block of results. -/
def outBlk (i : grid0.Coords) (n : BitVec 32) (x0 : Vec F S2048x128 .f32) (x1 x2 : Vec F S256x1 .f32)
    (x3 x4 : Vec F S1x1x1024x512 .bf16) (x5 : Vec F S1x1x512x1024 .bf16) (x6 x7 : Vec F S1x1x1024x512 .bf16)
    (x8 : Vec F S1x1x512x1024 .bf16) : Vec F S2048x128 .f32 :=
  if k0_cond1 i n = 1#1 then weave (cols (acts x0 x1 x2 x3 x4 x5 x6 x7 x8)) else k0_pay3

theorem slice_cols (y : FVec F S256x1024 .f32) (k : Fin 8) (o : Fin 2 → ℕ) (ho : o = ![0, 128 * k.val])
    (h : S256x1024.Slices o S256x128) : extractStridedSlice S256x128 o y h = cols y k := by
  subst ho
  funext j
  refine extractStridedSlice_apply _ _ _ _ _ fun a => ?_
  match a with
  | ⟨0, _⟩ => show (j 0).val = 0 + (j 0).val; omega
  | ⟨1, _⟩ => rfl

/-- A strided load reads one eighth of the rows. -/
theorem readAt_rows {κ : Kind} {sp : Space} (v : View sig κ sp S2048x128 .f32) (f : v.ty.Contents (Elt F))
    (x : Vec F S2048x128 .f32) (hf : v.read (Elt F) f = x) (k : Fin 8) :
    v.readAt (Elt F) (rowsRect k).toLoadRect f = rows k x := by
  subst hf
  rfl

theorem pay1_eq (y : FVec F S256x1024 .f32) : k0_pay1 y = cols y 6 := slice_cols y 6 _ rfl slices_S256x1024_o0_768_S256x128
theorem pay2_eq (y : FVec F S256x1024 .f32) : k0_pay2 y = cols y 7 := slice_cols y 7 _ rfl slices_S256x1024_o0_896_S256x128
section
variable (a : FVec F S256x1024 .bf16) (b : FVec F S256x1024 .f32) (x2 : Vec F S256x1 .f32)
  (x6 x7 : Vec F S1x1x1024x512 .bf16) (x8 : Vec F S1x1x512x1024 .bf16)
theorem pay7_eq : k0_pay7 a b x2 x6 x7 x8 = cols (k0_pay6 a b x2 x6 x7 x8) 0 := slice_cols _ 0 _ rfl slices_S256x1024_o0_0_S256x128
theorem pay8_eq : k0_pay8 a b x2 x6 x7 x8 = cols (k0_pay6 a b x2 x6 x7 x8) 1 := slice_cols _ 1 _ rfl slices_S256x1024_o0_128_S256x128
theorem pay9_eq : k0_pay9 a b x2 x6 x7 x8 = cols (k0_pay6 a b x2 x6 x7 x8) 2 := slice_cols _ 2 _ rfl slices_S256x1024_o0_256_S256x128
theorem pay10_eq : k0_pay10 a b x2 x6 x7 x8 = cols (k0_pay6 a b x2 x6 x7 x8) 3 := slice_cols _ 3 _ rfl slices_S256x1024_o0_384_S256x128
theorem pay11_eq : k0_pay11 a b x2 x6 x7 x8 = cols (k0_pay6 a b x2 x6 x7 x8) 4 := slice_cols _ 4 _ rfl slices_S256x1024_o0_512_S256x128
theorem pay12_eq : k0_pay12 a b x2 x6 x7 x8 = cols (k0_pay6 a b x2 x6 x7 x8) 5 := slice_cols _ 5 _ rfl slices_S256x1024_o0_640_S256x128
end

end ExpertsBlock
-- ==== Proof.ExpertsRun.lean ====
/- The experts' body on one block of 256 slots: what it leaves in the block of results. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.ExpertsBlock

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace ExpertsRun
open Cert.ExpertsIdeal Cert.ExpertsIdeal.Gen

variable {F : FTy → Type} [FloatOps F]

/-- Propositions of the logic over this program's machine. -/
abbrev SP (F : FTy → Type) [FloatOps F] : Type := sProp (MT nD τ sig Unit (Elt F) ℕ (UR sig nD τ) ℕ)

/-- A table held for reading: half of the full share. -/
abbrev held (c : Dev nD) {S : Shape} {e : EltTy} (M : Memref sig .tc .smem S e)
    (f : Buf (Elt F) (M.view.loc (c : Thread nD τ))) : SP F :=
  M.view.loc (c : Thread nD τ) ↦{fullShare.right} f

/-- The number of blocks in use, as a memory reference and its word. -/
abbrev nblkRef : Memref sig .tc .smem S1 .i32 := Memref.whole main_arg5

theorem one_idx (x y : S1.Idx) : x = y := by
  funext a
  match a with
  | ⟨0, _⟩ => exact Subsingleton.elim (α := Fin 1) (x 0) (y 0)

/-- The word in it. -/
def word (n : Vec F S1 .i32) : BitVec 32 := n (ix1 (0 : Fin 1))

set_option maxHeartbeats 2000000 in
theorem body_run (c : Dev nD) (i : grid0.Coords)
    (a1 : Memref sig .tc .smem S152 .i32) (h1 : a1.IsWhole) (a2 : Memref sig .tc .smem S152 .i32) (h2 : a2.IsWhole)
    (a4 : Memref sig .tc .vmem S2048x128 .f32) (h4 : a4.IsWhole)
    (a5 : Memref sig .tc .vmem S256x1 .f32) (h5 : a5.IsWhole) (a6 : Memref sig .tc .vmem S256x1 .f32) (h6 : a6.IsWhole)
    (a7 : Memref sig .tc .vmem S1x1x1024x512 .bf16) (h7 : a7.IsWhole)
    (a8 : Memref sig .tc .vmem S1x1x1024x512 .bf16) (h8 : a8.IsWhole)
    (a9 : Memref sig .tc .vmem S1x1x512x1024 .bf16) (h9 : a9.IsWhole)
    (a10 : Memref sig .tc .vmem S1x1x1024x512 .bf16) (h10 : a10.IsWhole)
    (a11 : Memref sig .tc .vmem S1x1x1024x512 .bf16) (h11 : a11.IsWhole)
    (a12 : Memref sig .tc .vmem S1x1x512x1024 .bf16) (h12 : a12.IsWhole)
    (a13 : Memref sig .tc .vmem S2048x128 .f32) (h13 : a13.IsWhole)
    (x0 : Vec F S2048x128 .f32) (x1 x2 : Vec F S256x1 .f32) (x3 x4 : Vec F S1x1x1024x512 .bf16)
    (x5 : Vec F S1x1x512x1024 .bf16) (x6 x7 : Vec F S1x1x1024x512 .bf16) (x8 : Vec F S1x1x512x1024 .bf16)
    (n : Vec F S1 .i32) (E : Set ℕ) (K : PUnit → SP F) :
    iprop(owns (c : Thread nD τ) a4 fullShare x0 ∗ owns (c : Thread nD τ) a5 fullShare x1
        ∗ owns (c : Thread nD τ) a6 fullShare x2 ∗ owns (c : Thread nD τ) a7 fullShare x3
        ∗ owns (c : Thread nD τ) a8 fullShare x4 ∗ owns (c : Thread nD τ) a9 fullShare x5
        ∗ owns (c : Thread nD τ) a10 fullShare x6 ∗ owns (c : Thread nD τ) a11 fullShare x7
        ∗ owns (c : Thread nD τ) a12 fullShare x8 ∗ (∃ d, owns (c : Thread nD τ) a13 fullShare d) ∗ held c nblkRef n
        ∗ (iprop(owns (c : Thread nD τ) a4 fullShare x0 ∗ owns (c : Thread nD τ) a5 fullShare x1
            ∗ owns (c : Thread nD τ) a6 fullShare x2 ∗ owns (c : Thread nD τ) a7 fullShare x3
            ∗ owns (c : Thread nD τ) a8 fullShare x4 ∗ owns (c : Thread nD τ) a9 fullShare x5
            ∗ owns (c : Thread nD τ) a10 fullShare x6 ∗ owns (c : Thread nD τ) a11 fullShare x7
            ∗ owns (c : Thread nD τ) a12 fullShare x8
            ∗ owns (c : Thread nD τ) a13 fullShare (ExpertsBlock.outBlk i (word n) x0 x1 x2 x3 x4 x5 x6 x7 x8)
            ∗ held c nblkRef n) -∗ K ⟨⟩))
      ⊢ wp frame (wpE (defs₀ (F := F)) Variants.none c none) E
          (cc0_experts i a1 h1 a2 h2 nblkRef (Memref.isWhole_whole _) a4 h4 a5 h5 a6 h6 a7 h7 a8 h8 a9 h9 a10 h10 a11 h11
            a12 h12 a13 h13) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, HT, Hk⟩
  obtain rfl := h4.eq_unread hf0
  obtain rfl := h5.eq_unread hf1
  obtain rfl := h6.eq_unread hf2
  obtain rfl := h7.eq_unread hf3
  obtain rfl := h8.eq_unread hf4
  obtain rfl := h9.eq_unread hf5
  obtain rfl := h10.eq_unread hf6
  obtain rfl := h11.eq_unread hf7
  obtain rfl := h12.eq_unread hf8
  sl_exec
  have hw : body_run.sl.r n = word n := by
    unfold body_run.sl.r word
    show n _ = n _
    exact congrArg (α := S1.Idx) n (one_idx _ _)
  have r := ExpertsBlock.readAt_rows a4.view (h4.unread x0) x0 hf0
  have l1 : View.readAt (Elt F) a5.view (Rect.unit ![0, 0] S256x1.size inb_S256x1_S256x1_0_0).toLoadRect (h5.unread x1) = x1 := by
    rw [View.readAt_eq_ld, hf1]; exact View.ld_unit_zero (by decide) _ _
  have l2 : View.readAt (Elt F) a6.view (Rect.unit ![0, 0] S256x1.size inb_S256x1_S256x1_0_0).toLoadRect (h6.unread x2) = x2 := by
    rw [View.readAt_eq_ld, hf2]; exact View.ld_unit_zero (by decide) _ _
  have l3 : View.readAt (Elt F) a7.view (Rect.unit ![0, 0, 0, 0] S1x1x1024x512.size inb_S1x1x1024x512_S1x1x1024x512_0_0_0_0).toLoadRect (h7.unread x3) = x3 := by
    rw [View.readAt_eq_ld, hf3]; exact View.ld_unit_zero (by decide) _ _
  have l4 : View.readAt (Elt F) a8.view (Rect.unit ![0, 0, 0, 0] S1x1x1024x512.size inb_S1x1x1024x512_S1x1x1024x512_0_0_0_0).toLoadRect (h8.unread x4) = x4 := by
    rw [View.readAt_eq_ld, hf4]; exact View.ld_unit_zero (by decide) _ _
  have l5 : View.readAt (Elt F) a9.view (Rect.unit ![0, 0, 0, 0] S1x1x512x1024.size inb_S1x1x512x1024_S1x1x512x1024_0_0_0_0).toLoadRect (h9.unread x5) = x5 := by
    rw [View.readAt_eq_ld, hf5]; exact View.ld_unit_zero (by decide) _ _
  have l6 : View.readAt (Elt F) a10.view (Rect.unit ![0, 0, 0, 0] S1x1x1024x512.size inb_S1x1x1024x512_S1x1x1024x512_0_0_0_0).toLoadRect (h10.unread x6) = x6 := by
    rw [View.readAt_eq_ld, hf6]; exact View.ld_unit_zero (by decide) _ _
  have l7 : View.readAt (Elt F) a11.view (Rect.unit ![0, 0, 0, 0] S1x1x1024x512.size inb_S1x1x1024x512_S1x1x1024x512_0_0_0_0).toLoadRect (h11.unread x7) = x7 := by
    rw [View.readAt_eq_ld, hf7]; exact View.ld_unit_zero (by decide) _ _
  have l8 : View.readAt (Elt F) a12.view (Rect.unit ![0, 0, 0, 0] S1x1x512x1024.size inb_S1x1x512x1024_S1x1x512x1024_0_0_0_0).toLoadRect (h12.unread x8) = x8 := by
    rw [View.readAt_eq_ld, hf8]; exact View.ld_unit_zero (by decide) _ _
  have e1 : body_run.sl.r_1 c a4 h4 x0 = k0_pay4 (ExpertsBlock.rows 0 x0) (ExpertsBlock.rows 1 x0) (ExpertsBlock.rows 2 x0)
      (ExpertsBlock.rows 3 x0) (ExpertsBlock.rows 4 x0) (ExpertsBlock.rows 5 x0) (ExpertsBlock.rows 6 x0)
      (ExpertsBlock.rows 7 x0) := by
    rw [← r 0, ← r 1, ← r 2, ← r 3, ← r 4, ← r 5, ← r 6, ← r 7]
    rfl
  have e2 : body_run.sl.r_2 c a4 h4 a5 h5 a7 h7 a8 h8 a9 h9 x0 x1 x3 x4 x5 = k0_pay5 (ExpertsBlock.rows 0 x0)
      (ExpertsBlock.rows 1 x0) (ExpertsBlock.rows 2 x0) (ExpertsBlock.rows 3 x0) (ExpertsBlock.rows 4 x0)
      (ExpertsBlock.rows 5 x0) (ExpertsBlock.rows 6 x0) (ExpertsBlock.rows 7 x0) x1 x3 x4 x5 := by
    conv_rhs => rw [← r 0, ← r 1, ← r 2, ← r 3, ← r 4, ← r 5, ← r 6, ← r 7, ← l1, ← l3, ← l4, ← l5]
    rfl
  have e3 : body_run.sl.r_3 c a4 h4 a5 h5 a6 h6 a7 h7 a8 h8 a9 h9 a10 h10 a11 h11 a12 h12 x0 x1 x2 x3 x4 x5 x6 x7 x8
      = ExpertsBlock.acts x0 x1 x2 x3 x4 x5 x6 x7 x8 := by
    unfold body_run.sl.r_3 ExpertsBlock.acts
    rw [e1, e2, l2, l6, l7, l8]
  have e4 : body_run.sl.r_4 c a4 h4 a5 h5 a6 h6 a7 h7 a8 h8 a9 h9 a10 h10 a11 h11 a12 h12 x0 x1 x2 x3 x4 x5 x6 x7 x8
      = ExpertsBlock.cols (ExpertsBlock.acts x0 x1 x2 x3 x4 x5 x6 x7 x8) 5 := by
    unfold body_run.sl.r_4 ExpertsBlock.acts
    rw [e1, e2, l2, l6, l7, l8, ExpertsBlock.pay12_eq]
  sl_step
  iapply Hk
  isplitl [H0]
  · iexists _
    isplitr
    · ipureintro; exact h4.read_unread _
    iexact H0
  isplitl [H1]
  · iexists _
    isplitr
    · ipureintro; exact h5.read_unread _
    iexact H1
  isplitl [H2]
  · iexists _
    isplitr
    · ipureintro; exact h6.read_unread _
    iexact H2
  isplitl [H3]
  · iexists _
    isplitr
    · ipureintro; exact h7.read_unread _
    iexact H3
  isplitl [H4]
  · iexists _
    isplitr
    · ipureintro; exact h8.read_unread _
    iexact H4
  isplitl [H5]
  · iexists _
    isplitr
    · ipureintro; exact h9.read_unread _
    iexact H5
  isplitl [H6]
  · iexists _
    isplitr
    · ipureintro; exact h10.read_unread _
    iexact H6
  isplitl [H7]
  · iexists _
    isplitr
    · ipureintro; exact h11.read_unread _
    iexact H7
  isplitl [H8]
  · iexists _
    isplitr
    · ipureintro; exact h12.read_unread _
    iexact H8
  isplitl [H9]
  · iexists _
    isplitr
    on_goal 2 => iexact H9
    ipureintro
    simp only [hw, e1, e2, e3, e4, l2, l6, l7, l8, ExpertsBlock.pay1_eq, ExpertsBlock.pay2_eq, ExpertsBlock.pay7_eq,
      ExpertsBlock.pay8_eq, ExpertsBlock.pay9_eq, ExpertsBlock.pay10_eq, ExpertsBlock.pay11_eq]
    exact ExpertsBlock.read_branches a13.view f9 i (word n)
      (ExpertsBlock.cols (ExpertsBlock.acts x0 x1 x2 x3 x4 x5 x6 x7 x8)) k0_pay3
  iexact HT

end ExpertsRun
-- ==== Proof.ExpertsFrame.lean ====
/- The experts' call runs: from tables in range it terminates, leaves its arguments unchanged, and its result is written
   block by block. -/
module

public import proofs.«01_k».proof.Proof.ExpertsRun
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace ExpertsFrame
open Cert.ExpertsIdeal Cert.ExpertsIdeal.Gen ExpertsRun

variable {F : FTy → Type} [FloatOps F]
variable (m : (ℓ : Loc nD τ sig) → Buf (Elt F) ℓ) (ρ : Dev nD → PrngReg)

/-- The buffers as the call finds them: the three weight arrays rounded, everything else as given. -/
abbrev V (c : Dev nD) (b : Ref sig .tc) : Buf (Elt F) ((c : Thread nD τ).loc b) :=
  StableHlo.after hostOps0 (fun b => m (c, b)) b

/-- Only the three rounded arrays are written before the call. -/
theorem V_kept (c : Dev nD) (b : Ref sig .tc) (h0 : b ≠ main_v0) (h1 : b ≠ main_v1) (h2 : b ≠ main_v2) :
    V m c b = m ((c : Thread nD τ).loc b) := by
  refine StableHlo.after_of_forall_not_mem (b := Proc.devRef .tc b) _ _ (List.forall_iff_forall_mem.mp ?_)
  simp only [hostOps0, List.Forall, StableHlo.unary_writes, Finset.mem_singleton]
  exact ⟨StableHlo.devRef_ne_of_ne h0, StableHlo.devRef_ne_of_ne h1, StableHlo.devRef_ne_of_ne h2⟩

set_option maxHeartbeats 800000 in
/-- The host's three operations, then the call. -/
theorem main_run : Pipeline.HMainP (Ix := Unit) (Name := ℕ) (U := UR sig nD τ) (Lvl := ℕ) pcfgs 0 defs₀ Variants.none m
    (main (F := F)) (V m) :=
  Pipeline.hmainP_prefix pcfgs 0 defs₀ Variants.none m main hostOps0 hostOps0_sub
    (by simp only [List.Forall]; repeat' constructor) main_chain

/-- The three tables as the call finds them. -/
def tbl : pre0.Contents (Elt F) := fun j => V m (0 : Dev nD) (pre0.ref j)

theorem V_tbl (c : Dev nD) (j : Fin 3) : V m c (pre0.ref j) = tbl m j := by
  obtain rfl : c = 0 := Subsingleton.elim _ _
  rfl

/-- Every block the tables name lies inside its array. -/
abbrev Ok : Prop := ok0 (F := F) (tbl m)

variable (hO : Ok m)

abbrev adm : (pcfg0 (F := F)).Adm := ⟨tbl m, hO⟩
abbrev cfgM : Cfg sig Λ₀ := cfg0 (adm m hO)

/-- The number of blocks in use, as the call reads it. -/
abbrev nblk : BitVec 32 := word (tbl m 2)

/-- The tables are held while the body runs. -/
theorem tables_eq (c : Dev nD) : (Pipeline.ΦT pre0 (tbl m) c : SP F)
    = iprop(held c (Memref.whole main_arg3) (tbl m 0) ∗ held c (Memref.whole main_arg4) (tbl m 1)
        ∗ held c nblkRef (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the block of results at point `t`. -/
def left (c : Dev nD) (t : Fin (cfgM m hO).N) : Vec F S2048x128 .f32 :=
  ExpertsBlock.outBlk (grid0.coords t) (nblk m) (iblk m hO c 0 t) (iblk m hO c 1 t) (iblk m hO c 2 t) (iblk m hO c 3 t)
    (iblk m hO c 4 t) (iblk m hO c 5 t) (iblk m hO c 6 t) (iblk m hO c 7 t) (iblk m hO c 8 t)

/-- The proof data of the call: its arrays, what each point leaves in every window, and what is held throughout. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => left m hO c t
  Φ _ := iprop(Pipeline.ΦA spec0 c ∗ Pipeline.ΦT pre0 (tbl m) c)
  q w := Pipeline.shareOf spec0 w
  owed _ := 0

theorem A_eq (c : Dev nD) (w : Fin (cfgM m hO).W) : (dats m hO 0 c).A w = V m c (Pipeline.arrRef spec0 w) := by
  dsimp only [dats]

section
variable (c : Dev nD) (t : Fin (cfgM m hO).N)
theorem after0 : (dats m hO 0 c).after 0 t = iblk m hO c 0 t := by dsimp only [dats]; try rfl
theorem after1 : (dats m hO 0 c).after 1 t = iblk m hO c 1 t := by dsimp only [dats]; try rfl
theorem after2 : (dats m hO 0 c).after 2 t = iblk m hO c 2 t := by dsimp only [dats]; try rfl
theorem after3 : (dats m hO 0 c).after 3 t = iblk m hO c 3 t := by dsimp only [dats]; try rfl
theorem after4 : (dats m hO 0 c).after 4 t = iblk m hO c 4 t := by dsimp only [dats]; try rfl
theorem after5 : (dats m hO 0 c).after 5 t = iblk m hO c 5 t := by dsimp only [dats]; try rfl
theorem after6 : (dats m hO 0 c).after 6 t = iblk m hO c 6 t := by dsimp only [dats]; try rfl
theorem after7 : (dats m hO 0 c).after 7 t = iblk m hO c 7 t := by dsimp only [dats]; try rfl
theorem after8 : (dats m hO 0 c).after 8 t = iblk m hO c 8 t := by dsimp only [dats]; try rfl
theorem after9 : (dats m hO 0 c).after 9 t = left m hO c t := by dsimp only [dats]; try rfl
end

/-! An input's buffer holds its block whenever the body starts, also where the block was already there. -/
section
variable (c : Dev nD) (t : Fin (cfgM m hO).N)
theorem before0 (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (d) : (dats m hO 0 c).before 5 t d = iblk m hO c 5 t :=
  ((dats m hO 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (d) : (dats m hO 0 c).before 6 t d = iblk m hO c 6 t :=
  ((dats m hO 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (d) : (dats m hO 0 c).before 7 t d = iblk m hO c 7 t :=
  ((dats m hO 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (d) : (dats m hO 0 c).before 8 t d = iblk m hO c 8 t :=
  ((dats m hO 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)
end

theorem not_both (a b : BitVec 1) (h : b = 1#1 ↔ ¬ a = 1#1) : (!(a == 1#1) && !(b == 1#1)) = false := by
  by_cases ha : a = 1#1
  · simp [ha]
  · simp [h.mpr ha]

/-- The body always writes the block of results: one of its two conditions holds. -/
theorem idle0_9 (pf : pre0.Contents (Elt F)) (i : grid0.Coords) : idle0 pf 9 i = false :=
  not_both _ _ (ExpertsBlock.cond2_iff i _)

/-- No window is ever left alone. -/
theorem live (pf : pre0.Contents (Elt F)) : idle0 pf = fun _ _ => false := by
  funext w i
  match w with
  | ⟨0, _⟩ | ⟨1, _⟩ | ⟨2, _⟩ | ⟨3, _⟩ | ⟨4, _⟩ | ⟨5, _⟩ | ⟨6, _⟩ | ⟨7, _⟩ | ⟨8, _⟩ => rfl
  | ⟨9, _⟩ => exact idle0_9 pf i

/-- The buffer window `w` uses at point `t`. -/
abbrev buf (t : Fin (cfgM m hO).N) (w : Fin 10) := (spec0 w).stage ((cfgM m hO).slots t w)

/-- What the body starts from. -/
def bodyPre (c : Dev nD) (t : Fin (cfgM m hO).N) : SP F :=
  iprop((dats m hO 0 c).Φ t.castSucc ∗ (dats m hO 0 c).owesAt () t.castSucc
    ∗ (∃ d, owns (c : Thread nD τ) (buf m hO t 0) fullShare ((dats m hO 0 c).before 0 t d))
    ∗ (∃ d, owns (c : Thread nD τ) (buf m hO t 1) fullShare ((dats m hO 0 c).before 1 t d))
    ∗ (∃ d, owns (c : Thread nD τ) (buf m hO t 2) fullShare ((dats m hO 0 c).before 2 t d))
    ∗ (∃ d, owns (c : Thread nD τ) (buf m hO t 3) fullShare ((dats m hO 0 c).before 3 t d))
    ∗ (∃ d, owns (c : Thread nD τ) (buf m hO t 4) fullShare ((dats m hO 0 c).before 4 t d))
    ∗ (∃ d, owns (c : Thread nD τ) (buf m hO t 5) fullShare ((dats m hO 0 c).before 5 t d))
    ∗ (∃ d, owns (c : Thread nD τ) (buf m hO t 6) fullShare ((dats m hO 0 c).before 6 t d))
    ∗ (∃ d, owns (c : Thread nD τ) (buf m hO t 7) fullShare ((dats m hO 0 c).before 7 t d))
    ∗ (∃ d, owns (c : Thread nD τ) (buf m hO t 8) fullShare ((dats m hO 0 c).before 8 t d))
    ∗ (∃ d, owns (c : Thread nD τ) (buf m hO t 9) fullShare ((dats m hO 0 c).before 9 t d)))

/-- What it ends with. -/
def bodyPost (c : Dev nD) (t : Fin (cfgM m hO).N) : SP F :=
  iprop((dats m hO 0 c).Φ t.succ ∗ (dats m hO 0 c).owesAt () t.succ
    ∗ owns (c : Thread nD τ) (buf m hO t 0) fullShare ((dats m hO 0 c).after 0 t)
    ∗ owns (c : Thread nD τ) (buf m hO t 1) fullShare ((dats m hO 0 c).after 1 t)
    ∗ owns (c : Thread nD τ) (buf m hO t 2) fullShare ((dats m hO 0 c).after 2 t)
    ∗ owns (c : Thread nD τ) (buf m hO t 3) fullShare ((dats m hO 0 c).after 3 t)
    ∗ owns (c : Thread nD τ) (buf m hO t 4) fullShare ((dats m hO 0 c).after 4 t)
    ∗ owns (c : Thread nD τ) (buf m hO t 5) fullShare ((dats m hO 0 c).after 5 t)
    ∗ owns (c : Thread nD τ) (buf m hO t 6) fullShare ((dats m hO 0 c).after 6 t)
    ∗ owns (c : Thread nD τ) (buf m hO t 7) fullShare ((dats m hO 0 c).after 7 t)
    ∗ owns (c : Thread nD τ) (buf m hO t 8) fullShare ((dats m hO 0 c).after 8 t)
    ∗ owns (c : Thread nD τ) (buf m hO t 9) fullShare ((dats m hO 0 c).after 9 t))

/-- The body as the call runs it at point `t`. -/
abbrev bodyAt (t : Fin (cfgM m hO).N) : Prog (TpuEff nD τ sig (Elt F) Λ₀ .tc) PUnit :=
  cc0_experts (grid0.coords t) (Memref.whole main_arg3) (Memref.isWhole_whole _) (Memref.whole main_arg4)
    (Memref.isWhole_whole _) nblkRef (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))
    (spec0_8.stage ((cfgM m hO).slots t 8)) (hstage0_8 (((cfgM m hO).slots t 8).cast nbuf0_8))
    (spec0_9.stage ((cfgM m hO).slots t 9)) (hstage0_9 (((cfgM m hO).slots t 9).cast nbuf0_9))

theorem row_eq (t : Fin (cfgM m hO).N) :
    defs₀ (F := F) .tc (cfgM m hO).body ((cfgM m hO).bodyArgs t ((cfgM m hO).slots t)) = bodyAt m hO t := by
  unfold defs₀
  rw [Defs.onTc_tc]

set_option maxHeartbeats 800000 in
/-- The body at a point: `ExpertsRun.body_run` on the point's blocks. -/
theorem body_at (c : Dev nD) (t : Fin (cfgM m hO).N) :
    bodyPre m hO c t ⊢ wp frame (wpE (defs₀ (F := F)) Variants.none c none) Set.univ (bodyAt m hO t)
      (fun _ => bodyPost m hO c t) := by
  unfold bodyPre bodyPost
  simp only [before0, before1, before2, before3, before4, before5, before6, before7, before8]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9]
  rw [show (dats m hO 0 c).Φ t.castSucc = iprop(Pipeline.ΦA spec0 c ∗ Pipeline.ΦT pre0 (tbl m) c) from rfl, tables_eq]
  iintro ⟨⟨HA, T0, T1, T2⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩⟩
  iapply (body_run c (grid0.coords t) _ (Memref.isWhole_whole _) _ (Memref.isWhole_whole _) _ _ _ _ _ _ _ _ _ _ _ _ _ _ _ _
    _ _ _ _ (iblk m hO c 0 t) (iblk m hO c 1 t) (iblk m hO c 2 t) (iblk m hO c 3 t) (iblk m hO c 4 t) (iblk m hO c 5 t)
    (iblk m hO c 6 t) (iblk m hO c 7 t) (iblk m hO c 8 t) (tbl m 2) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    iexact H9
  isplitl [T2]
  · iexact T2
  iintro ⟨H0, H1, H2, H3, H4, H5, H6, H7, H8, H9, T2⟩
  isplitl [HA T0 T1 T2]
  · isplitl [HA]
    · iexact HA
    isplitl [T0]
    · iexact T0
    isplitl [T1]
    · iexact T1
    iexact T2
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

/-- The same for every point, as the call asks for it. -/
theorem body_ok (c : Dev nD) :
    BodyObligation (dats (F := F) m hO 0 c) (defs₀ (F := F)) Variants.none () Set.univ := fun t => by
  rw [show (cfgM m hO).idle = fun _ _ => false from live (tbl m)]
  rw [bigSep_W0, bigSep_W0, row_eq m hO]
  exact triple_restated (body_at m hO c t) rfl .rfl fun _ => .rfl

-- the theorem's hidden arguments are found by unfolding the definitions above
set_option backward.isDefEq.respectTransparency.types false in
/-- The whole run: every array ends as the write-backs leave it, every other buffer as the call found it, and every
    semaphore at zero. -/
theorem run_main : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_ok m hO c).loose) (hq := fun _ _ _ => rfl) (howed := fun _ _ => rfl) (V := V m)
    (hmain := main_run m) (hA := A_eq m hO) (hpf := V_tbl m) (hΦ := fun _ _ => rfl)

/-- The arguments end as they began. -/
theorem kept {r : PUnit × MemSt nD τ sig (Elt F)}
    (h : Pipeline.FramePost (Pipeline.pin pcfgs fun _ => adm m hO) (dats m hO) 0 (V m) r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) :=
  have win (w : Fin 10) (hw : ((cfgM m hO).win w).isOut = false) :=
    ((h c).1 w).trans (((dats m hO 0 c).arrAt_in w hw (cfgM m hO).N).trans (A_eq m hO c w))
  have kept (b : Ref sig .tc) (h0 : b ≠ main_v0) (h1 : b ≠ main_v1) (h2 : b ≠ main_v2)
      (hb : b ∈ Pipeline.restRefs sig spec0) := ((h c).2 b hb).trans (V_kept m c b h0 h1 h2)
  ⟨(win 0 rfl).trans (V_kept m c main_arg0 (by decide) (by decide) (by decide)),
    (win 1 rfl).trans (V_kept m c main_arg1 (by decide) (by decide) (by decide)),
    (win 2 rfl).trans (V_kept m c main_arg2 (by decide) (by decide) (by decide)),
    kept main_arg3 (by decide) (by decide) (by decide) (by decide),
    kept main_arg4 (by decide) (by decide) (by decide) (by decide),
    kept main_arg5 (by decide) (by decide) (by decide) (by decide),
    kept main_arg6 (by decide) (by decide) (by decide) (by decide),
    kept main_arg7 (by decide) (by decide) (by decide) (by decide),
    kept main_arg8 (by decide) (by decide) (by decide) (by decide)⟩

/-- Termination, the arguments unchanged and every semaphore at zero. -/
theorem unchanged (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  (θ_run defs _ _).mono (fun _ h => ⟨fun c => kept m hO h.1 c, h.2⟩) (run_main m ρ hO)

end ExpertsFrame
-- ==== Proof.ExpertsWord.lean ====
/- Words of the experts' tables: what the precondition's comparisons say of them, and the arithmetic the index maps do. -/
module

public import Idealize.ShloMosaic.PureOps

@[expose] public section

noncomputable section

open Idealize.ShloMosaic

namespace ExpertsWord

/-- A small number is its word's value, also as a signed one. -/
theorem toInt_ofNat {n : ℕ} (h : n < 2 ^ 31) : (BitVec.ofNat 32 n).toInt = n := by
  rw [BitVec.toInt_eq_toNat_of_lt (by rw [BitVec.toNat_ofNat]; omega), BitVec.toNat_ofNat]
  omega

/-- A word between two small bounds, as signed comparisons say it, read as a natural number. -/
theorem range_of {x : BitVec 32} {a b : ℕ} (ha : a < 2 ^ 31) (hb : b < 2 ^ 31)
    (h1 : IntOp.cmpi .sge x (BitVec.ofNat 32 a) = 1#1) (h2 : IntOp.cmpi .sle x (BitVec.ofNat 32 b) = 1#1) :
    a ≤ x.toNat ∧ x.toNat ≤ b := by
  have e1 : (BitVec.ofNat 32 a).sle x = true := by
    have := h1
    simp only [IntOp.cmpi] at this
    revert this
    cases (BitVec.ofNat 32 a).sle x <;> decide
  have e2 : x.sle (BitVec.ofNat 32 b) = true := by
    have := h2
    simp only [IntOp.cmpi] at this
    revert this
    cases x.sle (BitVec.ofNat 32 b) <;> decide
  rw [BitVec.sle_iff_toInt_le, toInt_ofNat ‹_›] at e1 e2
  have hx : x.toInt = x.toNat := by
    rw [BitVec.toInt_eq_toNat_cond] at e1 ⊢
    split at e1 <;> split <;> omega
  rw [hx] at e1 e2
  omega

/-- The strict form. -/
theorem range_lt {x : BitVec 32} {b : ℕ} (hb : b < 2 ^ 31)
    (h1 : IntOp.cmpi .sge x (0#32) = 1#1) (h2 : IntOp.cmpi .slt x (BitVec.ofNat 32 b) = 1#1) : x.toNat < b := by
  have e1 : (0#32 : BitVec 32).sle x = true := by
    have := h1
    simp only [IntOp.cmpi] at this
    revert this
    cases (0#32 : BitVec 32).sle x <;> decide
  have e2 : x.slt (BitVec.ofNat 32 b) = true := by
    have := h2
    simp only [IntOp.cmpi] at this
    revert this
    cases x.slt (BitVec.ofNat 32 b) <;> decide
  rw [BitVec.sle_iff_toInt_le] at e1
  rw [BitVec.slt_iff_toInt_lt] at e2
  rw [toInt_ofNat hb] at e2
  rw [show (0#32 : BitVec 32).toInt = 0 from by decide] at e1
  rw [BitVec.toInt_eq_toNat_cond] at e1 e2
  split at e1 <;> omega

/-- A small word is its natural number, also as a signed one. -/
theorem toInt_small {x : BitVec 32} (h : x.toNat < 2 ^ 31) : x.toInt = x.toNat :=
  BitVec.toInt_eq_toNat_of_lt (by omega)

/-- Comparing a small number with a small word. -/
theorem slt_small {b : ℕ} {x : BitVec 32} (hb : b < 2 ^ 31) (h : x.toNat < 2 ^ 31) :
    (BitVec.ofNat 32 b).slt x = decide (b < x.toNat) := by
  rw [Bool.eq_iff_iff, BitVec.slt_iff_toInt_lt, toInt_small h, toInt_ofNat hb, decide_eq_true_iff]
  omega

/-- The smaller of a small number and one less than a small positive word. -/
theorem min_pred {b : ℕ} {n : BitVec 32} (hb : b < 2 ^ 31) (h1 : 1 ≤ n.toNat) (h2 : n.toNat < 2 ^ 31) :
    (Scalar.minsi (BitVec.ofNat 32 b) (Scalar.subi n 1#32)).toNat = min b (n.toNat - 1) := by
  have hs : (Scalar.subi n 1#32).toNat = n.toNat - 1 := by
    show (n - 1#32).toNat = _
    rw [BitVec.toNat_sub, show (1#32 : BitVec 32).toNat = 1 from rfl]
    omega
  show (if (BitVec.ofNat 32 b).slt (Scalar.subi n 1#32) then BitVec.ofNat 32 b else Scalar.subi n 1#32).toNat = _
  rw [slt_small hb (by omega), hs]
  by_cases h : b < n.toNat - 1
  · rw [if_pos (by simpa using h), BitVec.toNat_ofNat]; omega
  · rw [if_neg (by simpa using h), hs]; omega

/-- A condition on a bit widened and compared with zero is the bit. -/
theorem cond_eq (p : Bool) : (Scalar.cmpi .ne (Scalar.extui (BitVec.ofBool p) : BitVec 32) (0#32) = 1#1) ↔ p = true := by
  cases p <;> decide

end ExpertsWord
-- ==== Proof.ExpertsTables.lean ====
/- The experts' call reads its tables in range: where each window's block lies, and that it lies inside its array. -/
module

public import proofs.«01_k».proof.Proof.ExpertsFrame
public import proofs.«01_k».proof.Proof.ExpertsWord

@[expose] public section

set_option maxRecDepth 16384

noncomputable section

open Idealize.ShloMosaic Idealize.ShloMosaic.TcCoe

namespace ExpertsTables
open Cert.ExpertsIdeal Cert.ExpertsIdeal.Gen ExpertsRun

variable {F : FTy → Type} [FloatOps F]

/-- Block `b`'s word of a table. -/
def entry (x : Vec F S152 .i32) (b : Fin 152) : BitVec 32 := x (ix1 b)

/-- The tables in range: two of the sixteen experts for each block, and between 1 and all blocks used. -/
structure InRange (pf : pre0.Contents (Elt F)) : Prop where
  lo : ∀ b : Fin 152, (entry (pf 0) b).toNat < 16
  hi : ∀ b : Fin 152, (entry (pf 1) b).toNat < 16
  some : 1 ≤ (word (pf 2)).toNat
  all : (word (pf 2)).toNat ≤ 152

/-- The coordinate of a grid point as a block. -/
def block (i : grid0.Coords) : Fin 152 := i 0

variable (pf : pre0.Contents (Elt F)) (i : grid0.Coords)

theorem at_lo : (pf.at 0 (Rect.unit (s := S152) ![(Scalar.indexCast (BitVec.ofNat 32 (i 0).val)).toNat] S1.size (k0_off1_inb i))
    numel1_S1 : BitVec 32) = entry (pf 0) (block i) := by
  refine congrArg (pf 0 : S152.Idx → BitVec 32) (funext fun a => Fin.ext ?_)
  match a with
  | ⟨0, _⟩ =>
    show (BitVec.ofNat 32 (i 0).val).toNat + 1 * 0 = (i 0).val
    have : (i 0).val < 152 := (i 0).isLt
    rw [BitVec.toNat_ofNat]; omega

theorem at_hi : (pf.at 1 (Rect.unit (s := S152) ![(Scalar.indexCast (BitVec.ofNat 32 (i 0).val)).toNat] S1.size (k0_off1_inb i))
    numel1_S1 : BitVec 32) = entry (pf 1) (block i) := by
  refine congrArg (pf 1 : S152.Idx → BitVec 32) (funext fun a => Fin.ext ?_)
  match a with
  | ⟨0, _⟩ =>
    show (BitVec.ofNat 32 (i 0).val).toNat + 1 * 0 = (i 0).val
    have : (i 0).val < 152 := (i 0).isLt
    rw [BitVec.toNat_ofNat]; omega

theorem at_used : (pf.at 2 (Rect.unit (s := S1) ![0] S1.size inb_S1_S1_0) numel1_S1 : BitVec 32) = word (pf 2) :=
  congrArg (pf 2 : S1.Idx → BitVec 32) (one_idx _ _)

/-- The block of rows a grid point reads: its own, or the last used one. -/
theorem rows_at (h : InRange pf) :
    cc0_transform_0 inb_S1_S1_0 numel1_S1 pf i = ![min (i 0).val ((word (pf 2)).toNat - 1), 0] := by
  have hi : (i 0).val < 152 := (i 0).isLt
  have ha := h.all
  have e := ExpertsWord.min_pred (b := (i 0).val) (n := word (pf 2)) (by omega) h.some (by omega)
  rw [← at_used] at e ⊢
  unfold cc0_transform_0
  exact congrArg (fun k : ℕ => (![k, 0] : Fin 2 → ℕ)) e

theorem rows_at1 : cc0_transform_1 inb_S1_S1_0 numel1_S1 pf i = cc0_transform_0 inb_S1_S1_0 numel1_S1 pf i := rfl
theorem rows_at2 : cc0_transform_2 inb_S1_S1_0 numel1_S1 pf i = cc0_transform_0 inb_S1_S1_0 numel1_S1 pf i := rfl

/-- The first expert's weights a grid point reads. -/
theorem lo_at : cc0_transform_3 k0_off1_inb numel1_S1 pf i = ![0, (entry (pf 0) (block i)).toNat, 0, 0] := by
  unfold cc0_transform_3
  exact congrArg (fun k : BitVec 32 => (![0, k.toNat, 0, 0] : Fin 4 → ℕ)) (at_lo pf i)

theorem lo_at4 : cc0_transform_4 k0_off1_inb numel1_S1 pf i = cc0_transform_3 k0_off1_inb numel1_S1 pf i := rfl
theorem lo_at5 : cc0_transform_5 k0_off1_inb numel1_S1 pf i = cc0_transform_3 k0_off1_inb numel1_S1 pf i := rfl

/-- The second expert's. -/
theorem hi_at : cc0_transform_6 k0_off1_inb numel1_S1 pf i = ![0, (entry (pf 1) (block i)).toNat, 0, 0] := by
  unfold cc0_transform_6
  exact congrArg (fun k : BitVec 32 => (![0, k.toNat, 0, 0] : Fin 4 → ℕ)) (at_hi pf i)

theorem hi_at7 : cc0_transform_7 k0_off1_inb numel1_S1 pf i = cc0_transform_6 k0_off1_inb numel1_S1 pf i := rfl
theorem hi_at8 : cc0_transform_8 k0_off1_inb numel1_S1 pf i = cc0_transform_6 k0_off1_inb numel1_S1 pf i := rfl

theorem ok_of_inRange (h : InRange pf) : ok0 pf := by
  have hs := h.some
  have ha := h.all
  have rows (i : grid0.Coords) (B C : Fin 2 → ℕ) (h0 : 152 * B 0 ≤ C 0) (h1 : B 1 ≤ C 1) :
      ∀ a, (cc0_transform_0 inb_S1_S1_0 numel1_S1 pf i a + 1) * B a ≤ C a := by
    rw [rows_at pf i h]
    intro a
    match a with
    | ⟨0, _⟩ =>
      show (min (i 0).val ((word (pf 2)).toNat - 1) + 1) * B 0 ≤ C 0
      exact (Nat.mul_le_mul_right _ (by omega)).trans h0
    | ⟨1, _⟩ => show (0 + 1) * B 1 ≤ C 1; omega
  have slab (k : ℕ) (hk : k < 16) (B C : Fin 4 → ℕ) (h0 : B 0 ≤ C 0) (h1 : 16 * B 1 ≤ C 1) (h2 : B 2 ≤ C 2) (h3 : B 3 ≤ C 3) :
      ∀ a, ((![0, k, 0, 0] : Fin 4 → ℕ) a + 1) * B a ≤ C a := by
    intro a
    match a with
    | ⟨0, _⟩ => show (0 + 1) * B 0 ≤ C 0; omega
    | ⟨1, _⟩ => exact (Nat.mul_le_mul_right _ (show k + 1 ≤ 16 by omega)).trans h1
    | ⟨2, _⟩ => show (0 + 1) * B 2 ≤ C 2; omega
    | ⟨3, _⟩ => show (0 + 1) * B 3 ≤ C 3; omega
  unfold ok0
  refine ⟨fun i => ⟨rows i _ _ (by decide) (by decide), .inl rfl⟩,
    fun i => ⟨by rw [rows_at1]; exact rows i _ _ (by decide) (by decide), .inl rfl⟩,
    fun i => ⟨by rw [rows_at2]; exact rows i _ _ (by decide) (by decide), .inl rfl⟩,
    fun i => ⟨by rw [lo_at]; exact slab _ (h.lo _) _ _ (by decide) (by decide) (by decide) (by decide),
      .inr (Affine.block_words_rows (by decide) rfl)⟩,
    fun i => ⟨by rw [lo_at4, lo_at]; exact slab _ (h.lo _) _ _ (by decide) (by decide) (by decide) (by decide),
      .inr (Affine.block_words_rows (by decide) rfl)⟩,
    fun i => ⟨by rw [lo_at5, lo_at]; exact slab _ (h.lo _) _ _ (by decide) (by decide) (by decide) (by decide),
      .inr (Affine.block_words_rows (by decide) rfl)⟩,
    fun i => ⟨by rw [hi_at]; exact slab _ (h.hi _) _ _ (by decide) (by decide) (by decide) (by decide),
      .inr (Affine.block_words_rows (by decide) rfl)⟩,
    fun i => ⟨by rw [hi_at7, hi_at]; exact slab _ (h.hi _) _ _ (by decide) (by decide) (by decide) (by decide),
      .inr (Affine.block_words_rows (by decide) rfl)⟩,
    fun i => ⟨by rw [hi_at8, hi_at]; exact slab _ (h.hi _) _ _ (by decide) (by decide) (by decide) (by decide),
      .inr (Affine.block_words_rows (by decide) rfl)⟩⟩

/-- Which of the two branches a grid point takes. -/
theorem used_iff (h : InRange pf) : k0_cond1 i (word (pf 2)) = 1#1 ↔ (i 0).val < (word (pf 2)).toNat := by
  have hi : (i 0).val < 152 := (i 0).isLt
  have ha := h.all
  have e := ExpertsWord.slt_small (b := (i 0).val) (x := word (pf 2)) (by omega) (by omega)
  exact (ExpertsWord.cond_eq _).trans (by rw [e, decide_eq_true_iff])

end ExpertsTables

end
-- ==== Proof.ExpertsRef.lean ====
/- The reference of the experts' call, read at an element. -/
module

public import proofs.«01_k».proof.Proof.Gen.ExpertsRefIdeal.Read
public import proofs.«01_k».proof.Proof.Gen.ExpertsRefIdeal.Run
public import proofs.«01_k».proof.Proof.ExpertsWord
public import Idealize.ShloMosaic.Lib.Pointwise

@[expose] public section

set_option maxRecDepth 16384
set_option Elab.async false

noncomputable section

open Idealize.ShloMosaic Idealize.ShloMosaic.TcCoe

namespace ExpertsRef
open Cert.ExpertsRefIdeal Cert.ExpertsRefIdeal.Gen Cert.ExpertsRefIdeal.Read

/-- Column `d` of slot `r` of block `b`: eight rows of 128 lanes hold a slot. -/
def xs (x : FVec Ideal S311296x128 .f32) (b : Fin 152) (r : Fin 256) (d : Fin 1024) : EReal :=
  x (ix2 ⟨8 * (256 * b.val + r.val) + d.val / 128, by omega⟩ ⟨d.val % 128, by omega⟩)

/-- The expert a table names for block `b`. -/
def expert (e : IVec S152 32) (b : Fin 152) : Fin 16 := ⟨min (e (ix1 b)).toNat 15, by omega⟩

/-- One column of a slot's product with one of an expert's two input matrices. -/
def lin (x : FVec Ideal S311296x128 .f32) (w : FVec Ideal S4x16x1024x512 .f32) (e : Fin 16) (b : Fin 152) (r : Fin 256)
    (h : Fin 512) : EReal :=
  ∑ d : Fin 1024, xs x b r d * w (ix4 0 e d h)

/-- `g` times the logistic function of `g`. -/
def silu (g : EReal) : EReal := g * Ideal.div 1 (1 + Ideal.exp (-g))

/-- An expert's hidden activation. -/
def hid (x : FVec Ideal S311296x128 .f32) (wg wu : FVec Ideal S4x16x1024x512 .f32) (e : Fin 16) (b : Fin 152) (r : Fin 256)
    (h : Fin 512) : EReal :=
  silu (lin x wg e b r h) * lin x wu e b r h

/-- An expert's output, before the slot's weight. -/
def ffn (x : FVec Ideal S311296x128 .f32) (wg wu : FVec Ideal S4x16x1024x512 .f32) (wd : FVec Ideal S4x16x512x1024 .f32)
    (e : Fin 16) (b : Fin 152) (r : Fin 256) (d : Fin 1024) : EReal :=
  ∑ h : Fin 512, hid x wg wu e b r h * wd (ix4 0 e h d)

/-- The weight of slot `r` of block `b`. -/
def wt (w : FVec Ideal S38912x1 .f32) (b : Fin 152) (r : Fin 256) : EReal := w (ix2 ⟨256 * b.val + r.val, by omega⟩ 0)

/-- A gathered stack of matrices, read at an element: the matrix of the block's index. -/
theorem gather_in (x : FVec Ideal S16x1024x512 .f32) (e : IVec S152x1 32) (b : Fin 152) (d : Fin 1024) (h : Fin 512) :
    Host.gather gather_S16x1024x512_S152x1_S152x1024x512_12_0_n_n_0_1_11024512 x e (ix3 b d h)
      = x (ix3 ⟨min (e (ix2 b 0)).toInt.toNat 15, by omega⟩ d h) := by
  unfold Host.gather
  refine congrArg x (funext fun a => Fin.ext ?_)
  let D := gather_S16x1024x512_S152x1_S152x1024x512_12_0_n_n_0_1_11024512
  show D.start (ix3 b d h) e a + D.batchCoord (ix3 b d h) a + D.offCoord (ix3 b d h) a = _
  rw [D.batchCoord_eq_zero _ _ List.not_mem_nil, Nat.add_zero]
  match a with
  | ⟨0, _⟩ =>
    rw [show D.offCoord (ix3 b d h) ⟨0, by decide⟩ = 0 from
      D.offCoord_eq_zero _ _ (fun k => ((D.mem_sKept _).mp k).1 (List.mem_singleton.mpr rfl)), Nat.add_zero]
    unfold GatherDims.start
    rw [dif_pos (show (⟨0, by decide⟩ : Fin 3) ∈ D.startIndexMap from List.mem_singleton.mpr rfl)]
    have hs : D.siIdx (ix3 b d h) ⟨List.idxOf (⟨0, by decide⟩ : Fin 3) D.startIndexMap,
        List.idxOf_lt_length_iff.2 (List.mem_singleton.mpr rfl)⟩ = ix2 b 0 := by
      funext a
      refine Fin.ext ?_
      match a with
      | ⟨0, _⟩ => rfl
      | ⟨1, _⟩ => rfl
    rw [hs]
    rfl
  | ⟨1, _⟩ =>
    unfold GatherDims.start GatherDims.offCoord
    rw [dif_neg (show ¬(⟨1, by decide⟩ : Fin 3) ∈ D.startIndexMap by decide),
      dif_pos (show (⟨1, by decide⟩ : Fin 3) ∈ D.sKept by decide), Nat.zero_add]
    rfl
  | ⟨2, _⟩ =>
    unfold GatherDims.start GatherDims.offCoord
    rw [dif_neg (show ¬(⟨2, by decide⟩ : Fin 3) ∈ D.startIndexMap by decide),
      dif_pos (show (⟨2, by decide⟩ : Fin 3) ∈ D.sKept by decide), Nat.zero_add]
    rfl

theorem gather_out (x : FVec Ideal S16x512x1024 .f32) (e : IVec S152x1 32) (b : Fin 152) (h : Fin 512) (d : Fin 1024) :
    Host.gather gather_S16x512x1024_S152x1_S152x512x1024_12_0_n_n_0_1_15121024 x e (ix3 b h d)
      = x (ix3 ⟨min (e (ix2 b 0)).toInt.toNat 15, by omega⟩ h d) := by
  unfold Host.gather
  refine congrArg x (funext fun a => Fin.ext ?_)
  let D := gather_S16x512x1024_S152x1_S152x512x1024_12_0_n_n_0_1_15121024
  show D.start (ix3 b h d) e a + D.batchCoord (ix3 b h d) a + D.offCoord (ix3 b h d) a = _
  rw [D.batchCoord_eq_zero _ _ List.not_mem_nil, Nat.add_zero]
  match a with
  | ⟨0, _⟩ =>
    rw [show D.offCoord (ix3 b h d) ⟨0, by decide⟩ = 0 from
      D.offCoord_eq_zero _ _ (fun k => ((D.mem_sKept _).mp k).1 (List.mem_singleton.mpr rfl)), Nat.add_zero]
    unfold GatherDims.start
    rw [dif_pos (show (⟨0, by decide⟩ : Fin 3) ∈ D.startIndexMap from List.mem_singleton.mpr rfl)]
    have hs : D.siIdx (ix3 b h d) ⟨List.idxOf (⟨0, by decide⟩ : Fin 3) D.startIndexMap,
        List.idxOf_lt_length_iff.2 (List.mem_singleton.mpr rfl)⟩ = ix2 b 0 := by
      funext a
      refine Fin.ext ?_
      match a with
      | ⟨0, _⟩ => rfl
      | ⟨1, _⟩ => rfl
    rw [hs]
    rfl
  | ⟨1, _⟩ =>
    unfold GatherDims.start GatherDims.offCoord
    rw [dif_neg (show ¬(⟨1, by decide⟩ : Fin 3) ∈ D.startIndexMap by decide),
      dif_pos (show (⟨1, by decide⟩ : Fin 3) ∈ D.sKept by decide), Nat.zero_add]
    rfl
  | ⟨2, _⟩ =>
    unfold GatherDims.start GatherDims.offCoord
    rw [dif_neg (show ¬(⟨2, by decide⟩ : Fin 3) ∈ D.startIndexMap by decide),
      dif_pos (show (⟨2, by decide⟩ : Fin 3) ∈ D.sKept by decide), Nat.zero_add]
    rfl

/-- An index in range is not counted from the end. -/
theorem index_apply (e : IVec S152 32) (b : Fin 152) (he : (e (ix1 b)).toNat < 16) :
    (⟨min (val_main_v8 (F := Ideal) e (ix2 b 0)).toInt.toNat 15, by omega⟩ : Fin 16) = expert e b := by
  have hi : idx_main_v8 (ix2 b 0) = ix1 b := by
    funext a
    match a with
    | ⟨0, _⟩ => rfl
  have h0 : IntOp.cmpi .slt (e (ix1 b)) (0#32) = 0#1 := by
    show BitVec.ofBool ((e (ix1 b)).slt (0#32)) = _
    rw [show (e (ix1 b)).slt (0#32) = false from ?_]
    · rfl
    · rw [← Bool.not_eq_true, BitVec.slt_iff_toInt_lt, ExpertsWord.toInt_small (by omega)]
      simp
  have hv : val_main_v8 (F := Ideal) e (ix2 b 0) = e (ix1 b) := by
    rw [val_main_v8_apply, hi, val_main_v7_apply, val_main_v4_apply, val_main_v3_apply, val_main_c_apply, h0]
    rfl
  refine Fin.ext ?_
  show min (val_main_v8 (F := Ideal) e (ix2 b 0)).toInt.toNat 15 = min (e (ix1 b)).toNat 15
  rw [hv, ExpertsWord.toInt_small (by omega), Int.toNat_natCast]

theorem v0_apply (x : FVec Ideal S311296x128 .f32) (b : Fin 152) (r : Fin 256) (d : Fin 1024) :
    val_main_v0 (F := Ideal) x (ix3 b r d) = xs x b r d := by
  rw [val_main_v0_apply]
  refine congrArg x (funext fun a => Fin.ext ?_)
  match a with
  | ⟨0, _⟩ => show ((b.val * 256 + r.val) * 1024 + d.val) / 128 = 8 * (256 * b.val + r.val) + d.val / 128; omega
  | ⟨1, _⟩ => show ((b.val * 256 + r.val) * 1024 + d.val) % 128 = d.val % 128; omega

theorem v2_apply (w : FVec Ideal S4x16x1024x512 .f32) (e : Fin 16) (d : Fin 1024) (h : Fin 512) :
    val_main_v2 (F := Ideal) w (ix3 e d h) = w (ix4 0 e d h) := by
  rw [val_main_v2_apply, val_main_v1_apply]
  refine congrArg w (funext fun a => Fin.ext ?_)
  match a with
  | ⟨0, _⟩ => rfl
  | ⟨1, _⟩ => show ((e.val * 1024 + d.val) * 512 + h.val) / 524288 % 16 = e.val; omega
  | ⟨2, _⟩ => show ((e.val * 1024 + d.val) * 512 + h.val) / 512 % 1024 = d.val; omega
  | ⟨3, _⟩ => show ((e.val * 1024 + d.val) * 512 + h.val) % 512 = h.val; omega

theorem v24_apply (w : FVec Ideal S4x16x512x1024 .f32) (e : Fin 16) (h : Fin 512) (d : Fin 1024) :
    val_main_v24 (F := Ideal) w (ix3 e h d) = w (ix4 0 e h d) := by
  rw [val_main_v24_apply, val_main_v23_apply]
  refine congrArg w (funext fun a => Fin.ext ?_)
  match a with
  | ⟨0, _⟩ => rfl
  | ⟨1, _⟩ => show ((e.val * 512 + h.val) * 1024 + d.val) / 524288 % 16 = e.val; omega
  | ⟨2, _⟩ => show ((e.val * 512 + h.val) * 1024 + d.val) / 1024 % 512 = h.val; omega
  | ⟨3, _⟩ => show ((e.val * 512 + h.val) * 1024 + d.val) % 1024 = d.val; omega

section
variable (x : FVec Ideal S311296x128 .f32) (e : IVec S152 32) (wg wu : FVec Ideal S4x16x1024x512 .f32)
  (wd : FVec Ideal S4x16x512x1024 .f32) (b : Fin 152) (he : (e (ix1 b)).toNat < 16)
include he

theorem v9_apply (w : FVec Ideal S4x16x1024x512 .f32) (d : Fin 1024) (h : Fin 512) :
    val_main_v9 (F := Ideal) e w (ix3 b d h) = w (ix4 0 (expert e b) d h) := by
  unfold val_main_v9
  rw [gather_in, index_apply e b he, v2_apply]

theorem v31_apply (h : Fin 512) (d : Fin 1024) :
    val_main_v31 (F := Ideal) e wd (ix3 b h d) = wd (ix4 0 (expert e b) h d) := by
  unfold val_main_v31
  rw [gather_out, show val_main_v30 (F := Ideal) e = val_main_v8 (F := Ideal) e from rfl, index_apply e b he, v24_apply]

theorem v10_apply (w : FVec Ideal S4x16x1024x512 .f32) (r : Fin 256) (h : Fin 512) :
    val_main_v10 (F := Ideal) x e w (ix3 b r h) = lin x w (expert e b) b r h := by
  rw [val_main_v10_apply]
  refine Finset.sum_congr rfl fun d _ => ?_
  rw [show lidx_main_v10 (ix3 b r h) d = ix3 b r d from by funext a; fin_cases a <;> rfl,
    show ridx_main_v10 (ix3 b r h) d = ix3 b d h from by funext a; fin_cases a <;> rfl, v0_apply, v9_apply e b he]

theorem v22_apply (r : Fin 256) (h : Fin 512) :
    val_main_v22 (F := Ideal) x e wg wu (ix3 b r h) = hid x wg wu (expert e b) b r h := by
  rw [val_main_v22_apply, val_main_v11_apply, val_main_call0_v5_apply, val_main_call0_v4_apply, val_main_call0_cst_0_apply,
    val_main_call0_v3_apply, val_main_call0_v2_apply, val_main_call0_cst_apply, val_main_call0_v1_apply,
    val_main_call0_v0_apply, show val_main_v21 (F := Ideal) x e wu = val_main_v10 (F := Ideal) x e wu from rfl,
    v10_apply x e b he wg, v10_apply x e b he wu]
  pointwise [hid, silu]

theorem v32_apply (r : Fin 256) (d : Fin 1024) :
    val_main_v32 (F := Ideal) x e wg wu wd (ix3 b r d) = ffn x wg wu wd (expert e b) b r d := by
  rw [val_main_v32_apply]
  refine Finset.sum_congr rfl fun h _ => ?_
  rw [show lidx_main_v32 (ix3 b r d) h = ix3 b r h from by funext a; fin_cases a <;> rfl,
    show ridx_main_v32 (ix3 b r d) h = ix3 b h d from by funext a; fin_cases a <;> rfl, v22_apply x e wg wu b he,
    v31_apply e wd b he]

end

theorem v34_apply (w : FVec Ideal S38912x1 .f32) (b : Fin 152) (r : Fin 256) (d : Fin 1024) :
    val_main_v34 (F := Ideal) w (ix3 b r d) = wt w b r := by
  rw [val_main_v34_apply, val_main_v33_apply]
  refine congrArg w (funext fun a => Fin.ext ?_)
  match a with
  | ⟨0, _⟩ => show ((b.val * 256 + r.val) * 1 + 0) / 1 = 256 * b.val + r.val; omega
  | ⟨1, _⟩ => rfl

/-- The reference's result at row `8 (256 b + r) + k`, lane `l`. -/
theorem result_apply (x : FVec Ideal S311296x128 .f32) (w1 w2 : FVec Ideal S38912x1 .f32) (e1 e2 : IVec S152 32)
    (n : IVec S1 32) (wg wu : FVec Ideal S4x16x1024x512 .f32) (wd : FVec Ideal S4x16x512x1024 .f32)
    (b : Fin 152) (r : Fin 256) (k : Fin 8) (l : Fin 128) (h1 : (e1 (ix1 b)).toNat < 16) (h2 : (e2 (ix1 b)).toNat < 16)
    (hn : (n (ix1 0)).toNat ≤ 152) :
    val_main_v78 (F := Ideal) x w1 w2 e1 e2 n wg wu wd (ix2 ⟨8 * (256 * b.val + r.val) + k.val, by omega⟩ l)
      = if b.val < (n (ix1 0)).toNat then
          ffn x wg wu wd (expert e1 b) b r ⟨128 * k.val + l.val, by omega⟩ * wt w1 b r
            + ffn x wg wu wd (expert e2 b) b r ⟨128 * k.val + l.val, by omega⟩ * wt w2 b r
        else 0 := by
  have hi : idx_main_v78 (ix2 ⟨8 * (256 * b.val + r.val) + k.val, by omega⟩ l)
      = ix3 b r (⟨128 * k.val + l.val, by omega⟩ : Fin 1024) := by
    funext a
    refine Fin.ext ?_
    match a with
    | ⟨0, _⟩ => show ((8 * (256 * b.val + r.val) + k.val) * 128 + l.val) / 262144 = b.val; omega
    | ⟨1, _⟩ => show ((8 * (256 * b.val + r.val) + k.val) * 128 + l.val) / 1024 % 256 = r.val; omega
    | ⟨2, _⟩ => show ((8 * (256 * b.val + r.val) + k.val) * 128 + l.val) % 1024 = 128 * k.val + l.val; omega
  have hc : val_main_call2_v1 (F := Ideal) n (ix3 b r (⟨128 * k.val + l.val, by omega⟩ : Fin 1024))
      = BitVec.ofBool (decide (b.val < (n (ix1 0)).toNat)) := by
    rw [val_main_call2_v1_apply, val_main_v76_apply, val_main_v75_apply]
    have e : val_main_v74 (F := Ideal) n (idx_main_v75 (idx_main_call2_v1 (ix3 b r (⟨128 * k.val + l.val, by omega⟩ : Fin 1024))))
        = n (ix1 0) := by
      unfold val_main_v74 shapeCast
      refine congrArg n ?_
      funext a
      match a with
      | ⟨0, _⟩ => exact Subsingleton.elim (α := Fin 1) _ _
    rw [e]
    show BitVec.ofBool ((BitVec.ofNat 32 b.val).slt (n (ix1 0))) = _
    rw [ExpertsWord.slt_small (by omega) (by omega)]
  rw [val_main_v78_apply, hi, val_main_v77_apply, hc]
  by_cases hb : b.val < (n (ix1 0)).toNat
  · rw [if_pos hb, decide_eq_true hb]
    show val_main_v71 (F := Ideal) x w1 w2 e1 e2 wg wu wd _ = _
    rw [val_main_v71_apply, val_main_v35_apply, show val_main_v70 (F := Ideal) x w2 e2 wg wu wd = val_main_v35 (F := Ideal) x w2 e2 wg wu wd from rfl,
      val_main_v35_apply, v32_apply x e1 wg wu wd b h1, v32_apply x e2 wg wu wd b h2, v34_apply, v34_apply]
    rfl
  · rw [if_neg hb, decide_eq_false hb]
    show val_main_call2_v2 (F := Ideal) (ix3 b r (⟨128 * k.val + l.val, by omega⟩ : Fin 1024)) = _
    rw [val_main_call2_v2_apply, val_main_call2_v0_apply, val_main_cst_apply]
    pointwise []

end ExpertsRef

end
-- ==== Proof.ExpertsValue.lean ====
/- The experts' call, value: each row of the result as a function of the arguments. -/
module

public import proofs.«01_k».proof.Proof.ExpertsTables
public import proofs.«01_k».proof.Proof.ExpertsRef
public import proofs.«01_k».proof.Proof.Weights
public import Idealize.ShloMosaic.Lib.Pointwise
public import Idealize.ShloMosaic.Lib.Pipeline.ValueKit
public import Idealize.ShloMosaic.Lib.StableHlo.ReadAt

@[expose] public section

set_option maxRecDepth 16384
set_option Elab.async false

noncomputable section

open Idealize.ShloMosaic Idealize.ShloMosaic.TcCoe Idealize.SL.Sem Idealize.ShloMosaic.Pipeline

namespace ExpertsValue
open Cert.ExpertsIdeal Cert.ExpertsIdeal.Gen ExpertsFrame ExpertsTables ExpertsRef ExpertsRun ExpertsBlock

/-- A slot's 1024 columns, from its eight rows. -/
theorem pay4_apply (x : Vec Ideal S2048x128 .f32) (r : Fin 256) (d : Fin 1024) :
    k0_pay4 (rows 0 x) (rows 1 x) (rows 2 x) (rows 3 x) (rows 4 x) (rows 5 x) (rows 6 x) (rows 7 x) (ix2 r d)
      = x (ix2 (⟨8 * r.val + d.val / 128, by omega⟩ : Fin 2048) (⟨d.val % 128, by omega⟩ : Fin 128)) := by
  have key (k : Fin 8) (l : ℕ) (hl : l < 128) (e : d.val = 128 * k.val + l) :
      rows k x (ix2 r ⟨l, hl⟩) = x (ix2 (⟨8 * r.val + d.val / 128, by omega⟩ : Fin 2048) (⟨d.val % 128, by omega⟩ : Fin 128)) := by
    rw [rows_apply]
    refine congrArg x (funext fun a => Fin.ext ?_)
    match a with
    | ⟨0, _⟩ => show 8 * r.val + k.val = 8 * r.val + d.val / 128; omega
    | ⟨1, _⟩ => show l = d.val % 128; omega
  have hd := d.isLt
  pointwise [k0_pay4]
  split
  · exact key 0 _ _ (by show d.val = 128 * 0 + d.val; omega)
  split
  · exact key 1 _ _ (by show d.val = 128 * 1 + (d.val - 128); omega)
  split
  · exact key 2 _ _ (by show d.val = 128 * 2 + (d.val - 128 - 128); omega)
  split
  · exact key 3 _ _ (by show d.val = 128 * 3 + (d.val - 128 - 128 - 128); omega)
  split
  · exact key 4 _ _ (by show d.val = 128 * 4 + (d.val - 128 - 128 - 128 - 128); omega)
  split
  · exact key 5 _ _ (by show d.val = 128 * 5 + (d.val - 128 - 128 - 128 - 128 - 128); omega)
  split
  · exact key 6 _ _ (by show d.val = 128 * 6 + (d.val - 128 - 128 - 128 - 128 - 128 - 128); omega)
  · exact key 7 _ _ (by show d.val = 128 * 7 + (d.val - 128 - 128 - 128 - 128 - 128 - 128 - 128); omega)

/-- One expert on a block: hidden activations, each times the slot's weight, times the output matrix. -/
def mix (X : FVec Ideal S256x1024 .bf16) (w : Vec Ideal S256x1 .f32) (wg wu : Vec Ideal S1x1x1024x512 .bf16)
    (wd : Vec Ideal S1x1x512x1024 .bf16) (r : Fin 256) (d : Fin 1024) : EReal :=
  ∑ h : Fin 512, silu (∑ k : Fin 1024, X (ix2 r k) * wg (ix4 0 0 k h)) * (∑ k : Fin 1024, X (ix2 r k) * wu (ix4 0 0 k h))
    * w (ix2 r 0) * wd (ix4 0 0 h d)

theorem pay5_apply (v0 v1 v2 v3 v4 v5 v6 v7 : Vec Ideal S256x128 .f32) (w : Vec Ideal S256x1 .f32)
    (wg wu : Vec Ideal S1x1x1024x512 .bf16) (wd : Vec Ideal S1x1x512x1024 .bf16) (r : Fin 256) (d : Fin 1024) :
    k0_pay5 v0 v1 v2 v3 v4 v5 v6 v7 w wg wu wd (ix2 r d) = mix (k0_pay4 v0 v1 v2 v3 v4 v5 v6 v7) w wg wu wd r d := by
  unfold k0_pay5
  generalize k0_pay4 v0 v1 v2 v3 v4 v5 v6 v7 = X
  pointwise [mix, silu]
  rfl

theorem pay6_apply (X : FVec Ideal S256x1024 .bf16) (y : FVec Ideal S256x1024 .f32) (w : Vec Ideal S256x1 .f32)
    (wg wu : Vec Ideal S1x1x1024x512 .bf16) (wd : Vec Ideal S1x1x512x1024 .bf16) (r : Fin 256) (d : Fin 1024) :
    k0_pay6 X y w wg wu wd (ix2 r d) = y (ix2 r d) + mix X w wg wu wd r d := by
  pointwise [k0_pay6, mix, silu]
  rfl

theorem acts_apply (x0 : Vec Ideal S2048x128 .f32) (x1 x2 : Vec Ideal S256x1 .f32) (x3 x4 : Vec Ideal S1x1x1024x512 .bf16)
    (x5 : Vec Ideal S1x1x512x1024 .bf16) (x6 x7 : Vec Ideal S1x1x1024x512 .bf16) (x8 : Vec Ideal S1x1x512x1024 .bf16)
    (r : Fin 256) (d : Fin 1024) :
    acts x0 x1 x2 x3 x4 x5 x6 x7 x8 (ix2 r d)
      = mix (k0_pay4 (rows 0 x0) (rows 1 x0) (rows 2 x0) (rows 3 x0) (rows 4 x0) (rows 5 x0) (rows 6 x0) (rows 7 x0))
          x1 x3 x4 x5 r d
        + mix (k0_pay4 (rows 0 x0) (rows 1 x0) (rows 2 x0) (rows 3 x0) (rows 4 x0) (rows 5 x0) (rows 6 x0) (rows 7 x0))
          x2 x6 x7 x8 r d := by
  unfold acts
  rw [pay6_apply, pay5_apply]

variable (m : (ℓ : Loc nD τ sig) → Buf (Elt Ideal) ℓ) (hO : Ok m)

/-- A grid point's coordinate is its position. -/
theorem coord : ∀ t : Fin grid0.N, (grid0.coords t 0).val = t.val := by decide +kernel

theorem v0_read (c : Dev nD) (i : S4x16x1024x512.Idx) : V m c main_v0 i = m (c.tc.loc main_arg6) i := by
  unfold V
  after_reads_at
theorem v1_read (c : Dev nD) (i : S4x16x1024x512.Idx) : V m c main_v1 i = m (c.tc.loc main_arg7) i := by
  unfold V
  after_reads_at
theorem v2_read (c : Dev nD) (i : S4x16x512x1024.Idx) : V m c main_v2 i = m (c.tc.loc main_arg8) i := by
  unfold V
  after_reads_at

theorem idx0 (h : InRange (tbl m)) (t : Fin (cfgM m hO).N) :
    ((cfgM m hO).win 0).index t = ![min t.val ((nblk m).toNat - 1), 0] := by
  rw [← coord t]
  exact rows_at (tbl m) (grid0.coords t) h

theorem idx3 (t : Fin (cfgM m hO).N) :
    ((cfgM m hO).win 3).index t = ![0, (entry (tbl m 0) (block (grid0.coords t))).toNat, 0, 0] :=
  lo_at (tbl m) (grid0.coords t)

theorem blk0 (h : InRange (tbl m)) (c : Dev nD) (t : Fin (cfgM m hO).N) (r : Fin 2048) (l : Fin 128) (ht : t.val < (nblk m).toNat) :
    iblk m hO c 0 t (ix2 r l) = V m c main_arg0 (ix2 ⟨t.val * 2048 + r.val, by have : t.val < 152 := t.isLt; omega⟩ l) := by
  have hi := idx0 m hO h t
  rw [show min t.val ((nblk m).toNat - 1) = t.val from by omega] at hi
  blk_ext [iblk, hi]

theorem blk3 (h : InRange (tbl m)) (c : Dev nD) (t : Fin (cfgM m hO).N) (k : Fin 1024) (j : Fin 512) :
    iblk m hO c 3 t (ix4 0 0 k j) = V m c main_v0 (ix4 0 ⟨(entry (tbl m 0) (block (grid0.coords t))).toNat, h.lo _⟩ k j) := by
  have hi := idx3 m hO t
  blk_ext [iblk, hi]

section
variable (x : FVec Ideal S311296x128 .f32) (wg wu : FVec Ideal S4x16x1024x512 .f32) (wd : FVec Ideal S4x16x512x1024 .f32)
  (v : FVec Ideal S38912x1 .f32)

/-- Scaling the hidden activations by a weight, or the output: the same for a real weight of at least zero. -/
theorem mix_eq (e : Fin 16) (b : Fin 152) (X : FVec Ideal S256x1024 .bf16) (w : Vec Ideal S256x1 .f32)
    (g u : Vec Ideal S1x1x1024x512 .bf16) (o : Vec Ideal S1x1x512x1024 .bf16) (r : Fin 256) (d : Fin 1024)
    (hX : ∀ k, X (ix2 r k) = xs x b r k) (hw : w (ix2 r 0) = wt v b r) (hg : ∀ k h, g (ix4 0 0 k h) = wg (ix4 0 e k h))
    (hu : ∀ k h, u (ix4 0 0 k h) = wu (ix4 0 e k h)) (ho : ∀ h d, o (ix4 0 0 h d) = wd (ix4 0 e h d))
    (hv : Weights.Nonneg (wt v b r)) : mix X w g u o r d = ffn x wg wu wd e b r d * wt v b r := by
  obtain ⟨ρ, hρ, hv⟩ := hv
  unfold mix ffn hid lin
  rw [hw, hv, Weights.sum_mul_real _ _ hρ]
  refine Finset.sum_congr rfl fun h _ => ?_
  rw [ho, mul_right_comm]
  simp only [hX, hg, hu]
end

theorem idx1 (h : InRange (tbl m)) (t : Fin (cfgM m hO).N) :
    ((cfgM m hO).win 1).index t = ![min t.val ((nblk m).toNat - 1), 0] := by
  rw [← coord t]
  exact (rows_at1 (tbl m) (grid0.coords t)).trans (rows_at (tbl m) (grid0.coords t) h)

theorem idx2 (h : InRange (tbl m)) (t : Fin (cfgM m hO).N) :
    ((cfgM m hO).win 2).index t = ![min t.val ((nblk m).toNat - 1), 0] := by
  rw [← coord t]
  exact (rows_at2 (tbl m) (grid0.coords t)).trans (rows_at (tbl m) (grid0.coords t) h)

theorem idx4 (t : Fin (cfgM m hO).N) :
    ((cfgM m hO).win 4).index t = ![0, (entry (tbl m 0) (block (grid0.coords t))).toNat, 0, 0] :=
  (lo_at4 (tbl m) (grid0.coords t)).trans (lo_at (tbl m) (grid0.coords t))

theorem idx5 (t : Fin (cfgM m hO).N) :
    ((cfgM m hO).win 5).index t = ![0, (entry (tbl m 0) (block (grid0.coords t))).toNat, 0, 0] :=
  (lo_at5 (tbl m) (grid0.coords t)).trans (lo_at (tbl m) (grid0.coords t))

theorem idx6 (t : Fin (cfgM m hO).N) :
    ((cfgM m hO).win 6).index t = ![0, (entry (tbl m 1) (block (grid0.coords t))).toNat, 0, 0] :=
  hi_at (tbl m) (grid0.coords t)

theorem idx7 (t : Fin (cfgM m hO).N) :
    ((cfgM m hO).win 7).index t = ![0, (entry (tbl m 1) (block (grid0.coords t))).toNat, 0, 0] :=
  (hi_at7 (tbl m) (grid0.coords t)).trans (hi_at (tbl m) (grid0.coords t))

theorem idx8 (t : Fin (cfgM m hO).N) :
    ((cfgM m hO).win 8).index t = ![0, (entry (tbl m 1) (block (grid0.coords t))).toNat, 0, 0] :=
  (hi_at8 (tbl m) (grid0.coords t)).trans (hi_at (tbl m) (grid0.coords t))

theorem blk1 (h : InRange (tbl m)) (c : Dev nD) (t : Fin (cfgM m hO).N) (r : Fin 256) (ht : t.val < (nblk m).toNat) :
    iblk m hO c 1 t (ix2 r 0) = V m c main_arg1 (ix2 ⟨t.val * 256 + r.val, by have : t.val < 152 := t.isLt; omega⟩ 0) := by
  have hi := idx1 m hO h t
  rw [show min t.val ((nblk m).toNat - 1) = t.val from by omega] at hi
  blk_ext [iblk, hi]

theorem blk2 (h : InRange (tbl m)) (c : Dev nD) (t : Fin (cfgM m hO).N) (r : Fin 256) (ht : t.val < (nblk m).toNat) :
    iblk m hO c 2 t (ix2 r 0) = V m c main_arg2 (ix2 ⟨t.val * 256 + r.val, by have : t.val < 152 := t.isLt; omega⟩ 0) := by
  have hi := idx2 m hO h t
  rw [show min t.val ((nblk m).toNat - 1) = t.val from by omega] at hi
  blk_ext [iblk, hi]

theorem blk4 (h : InRange (tbl m)) (c : Dev nD) (t : Fin (cfgM m hO).N) (k : Fin 1024) (j : Fin 512) :
    iblk m hO c 4 t (ix4 0 0 k j) = V m c main_v1 (ix4 0 ⟨(entry (tbl m 0) (block (grid0.coords t))).toNat, h.lo _⟩ k j) := by
  have hi := idx4 m hO t
  blk_ext [iblk, hi]

theorem blk5 (h : InRange (tbl m)) (c : Dev nD) (t : Fin (cfgM m hO).N) (k : Fin 512) (j : Fin 1024) :
    iblk m hO c 5 t (ix4 0 0 k j) = V m c main_v2 (ix4 0 ⟨(entry (tbl m 0) (block (grid0.coords t))).toNat, h.lo _⟩ k j) := by
  have hi := idx5 m hO t
  blk_ext [iblk, hi]

theorem blk6 (h : InRange (tbl m)) (c : Dev nD) (t : Fin (cfgM m hO).N) (k : Fin 1024) (j : Fin 512) :
    iblk m hO c 6 t (ix4 0 0 k j) = V m c main_v0 (ix4 0 ⟨(entry (tbl m 1) (block (grid0.coords t))).toNat, h.hi _⟩ k j) := by
  have hi := idx6 m hO t
  blk_ext [iblk, hi]

theorem blk7 (h : InRange (tbl m)) (c : Dev nD) (t : Fin (cfgM m hO).N) (k : Fin 1024) (j : Fin 512) :
    iblk m hO c 7 t (ix4 0 0 k j) = V m c main_v1 (ix4 0 ⟨(entry (tbl m 1) (block (grid0.coords t))).toNat, h.hi _⟩ k j) := by
  have hi := idx7 m hO t
  blk_ext [iblk, hi]

theorem blk8 (h : InRange (tbl m)) (c : Dev nD) (t : Fin (cfgM m hO).N) (k : Fin 512) (j : Fin 1024) :
    iblk m hO c 8 t (ix4 0 0 k j) = V m c main_v2 (ix4 0 ⟨(entry (tbl m 1) (block (grid0.coords t))).toNat, h.hi _⟩ k j) := by
  have hi := idx8 m hO t
  blk_ext [iblk, hi]

end ExpertsValue

end
-- ==== Proof.ExpertsArray.lean ====
/- The experts' call, value: the whole array of results equals the reference's. -/
module

public import proofs.«01_k».proof.Proof.ExpertsValue

@[expose] public section

set_option maxRecDepth 16384
set_option Elab.async false

noncomputable section

open Idealize.ShloMosaic Idealize.ShloMosaic.TcCoe Idealize.SL.Sem Idealize.ShloMosaic.Pipeline

namespace ExpertsArray
open Cert.ExpertsIdeal Cert.ExpertsIdeal.Gen ExpertsFrame ExpertsTables ExpertsRef ExpertsRun ExpertsBlock ExpertsValue

variable (m : (ℓ : Loc nD τ sig) → Buf (Elt Ideal) ℓ)

/-- The reference's result on device `c`'s arguments. -/
def G (c : Dev nD) : FVec Ideal S311296x128 .f32 :=
  Cert.ExpertsRefIdeal.Read.val_main_v78 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8))

theorem V0 (c : Dev nD) : V m c main_arg0 = m (c.tc.loc main_arg0) := V_kept m c main_arg0 (by decide) (by decide) (by decide)
theorem V1 (c : Dev nD) : V m c main_arg1 = m (c.tc.loc main_arg1) := V_kept m c main_arg1 (by decide) (by decide) (by decide)
theorem V2 (c : Dev nD) : V m c main_arg2 = m (c.tc.loc main_arg2) := V_kept m c main_arg2 (by decide) (by decide) (by decide)
theorem T0 (c : Dev nD) : tbl m 0 = m (c.tc.loc main_arg3) :=
  (V_tbl m c 0).symm.trans (V_kept m c main_arg3 (by decide) (by decide) (by decide))
theorem T1 (c : Dev nD) : tbl m 1 = m (c.tc.loc main_arg4) :=
  (V_tbl m c 1).symm.trans (V_kept m c main_arg4 (by decide) (by decide) (by decide))
theorem T2 (c : Dev nD) : tbl m 2 = m (c.tc.loc main_arg5) :=
  (V_tbl m c 2).symm.trans (V_kept m c main_arg5 (by decide) (by decide) (by decide))

variable (hO : Ok m)

/-- A grid point as a block. -/
def blockOf (t : Fin (cfgM m hO).N) : Fin 152 := ⟨t.val, t.isLt⟩

theorem block_eq (t : Fin (cfgM m hO).N) : block (grid0.coords t) = blockOf m hO t := Fin.ext (coord t)

theorem expert_lo (h : InRange (tbl m)) (c : Dev nD) (t : Fin (cfgM m hO).N) :
    (⟨(entry (tbl m 0) (block (grid0.coords t))).toNat, h.lo _⟩ : Fin 16) = expert (m (c.tc.loc main_arg3)) (blockOf m hO t) := by
  refine Fin.ext ?_
  have h0 := h.lo (blockOf m hO t)
  show (entry (tbl m 0) (block (grid0.coords t))).toNat = min (entry (m (c.tc.loc main_arg3)) (blockOf m hO t)).toNat 15
  rw [block_eq, ← T0 m c]
  omega

theorem expert_hi (h : InRange (tbl m)) (c : Dev nD) (t : Fin (cfgM m hO).N) :
    (⟨(entry (tbl m 1) (block (grid0.coords t))).toNat, h.hi _⟩ : Fin 16) = expert (m (c.tc.loc main_arg4)) (blockOf m hO t) := by
  refine Fin.ext ?_
  have h0 := h.hi (blockOf m hO t)
  show (entry (tbl m 1) (block (grid0.coords t))).toNat = min (entry (m (c.tc.loc main_arg4)) (blockOf m hO t)).toNat 15
  rw [block_eq, ← T1 m c]
  omega

/-- Every weight is a real number of at least zero. -/
def Weighted : Prop :=
  ∀ c : Dev nD, (∀ i, Weights.Nonneg (m (c.tc.loc main_arg1) i)) ∧ ∀ i, Weights.Nonneg (m (c.tc.loc main_arg2) i)

/-- A slot of a used block. -/
theorem acts_point (h : InRange (tbl m)) (hW : Weighted m) (c : Dev nD) (t : Fin (cfgM m hO).N) (ht : t.val < (nblk m).toNat)
    (r : Fin 256) (d : Fin 1024) :
    acts (iblk m hO c 0 t) (iblk m hO c 1 t) (iblk m hO c 2 t) (iblk m hO c 3 t) (iblk m hO c 4 t) (iblk m hO c 5 t)
        (iblk m hO c 6 t) (iblk m hO c 7 t) (iblk m hO c 8 t) (ix2 r d)
      = ffn (m (c.tc.loc main_arg0)) (m (c.tc.loc main_arg6)) (m (c.tc.loc main_arg7)) (m (c.tc.loc main_arg8))
            (expert (m (c.tc.loc main_arg3)) (blockOf m hO t)) (blockOf m hO t) r d * wt (m (c.tc.loc main_arg1)) (blockOf m hO t) r
        + ffn (m (c.tc.loc main_arg0)) (m (c.tc.loc main_arg6)) (m (c.tc.loc main_arg7)) (m (c.tc.loc main_arg8))
            (expert (m (c.tc.loc main_arg4)) (blockOf m hO t)) (blockOf m hO t) r d * wt (m (c.tc.loc main_arg2)) (blockOf m hO t) r := by
  have hX (k : Fin 1024) : k0_pay4 (rows 0 (iblk m hO c 0 t)) (rows 1 (iblk m hO c 0 t)) (rows 2 (iblk m hO c 0 t))
      (rows 3 (iblk m hO c 0 t)) (rows 4 (iblk m hO c 0 t)) (rows 5 (iblk m hO c 0 t)) (rows 6 (iblk m hO c 0 t))
      (rows 7 (iblk m hO c 0 t)) (ix2 r k) = xs (m (c.tc.loc main_arg0)) (blockOf m hO t) r k := by
    refine (pay4_apply _ r k).trans ((blk0 m hO h c t _ _ ht).trans ?_)
    rw [V0]
    refine congrArg (m (c.tc.loc main_arg0)) (funext fun a => Fin.ext ?_)
    match a with
    | ⟨0, _⟩ => show t.val * 2048 + (8 * r.val + k.val / 128) = 8 * (256 * t.val + r.val) + k.val / 128; omega
    | ⟨1, _⟩ => rfl
  refine (acts_apply _ _ _ _ _ _ _ _ _ r d).trans (congrArg₂ (· + ·) ?_ ?_)
  · refine mix_eq _ _ _ _ _ _ _ _ _ _ _ _ r d hX ?_ (fun k j => ?_) (fun k j => ?_) (fun k j => ?_) ((hW c).1 _)
    · refine (blk1 m hO h c t r ht).trans ?_
      rw [V1]
      refine congrArg (m (c.tc.loc main_arg1)) (funext fun a => Fin.ext ?_)
      match a with
      | ⟨0, _⟩ => show t.val * 256 + r.val = 256 * t.val + r.val; omega
      | ⟨1, _⟩ => rfl
    · exact (blk3 m hO h c t k j).trans ((v0_read m c _).trans (by rw [expert_lo m hO h c t]))
    · exact (blk4 m hO h c t k j).trans ((v1_read m c _).trans (by rw [expert_lo m hO h c t]))
    · exact (blk5 m hO h c t k j).trans ((v2_read m c _).trans (by rw [expert_lo m hO h c t]))
  · refine mix_eq _ _ _ _ _ _ _ _ _ _ _ _ r d hX ?_ (fun k j => ?_) (fun k j => ?_) (fun k j => ?_) ((hW c).2 _)
    · refine (blk2 m hO h c t r ht).trans ?_
      rw [V2]
      refine congrArg (m (c.tc.loc main_arg2)) (funext fun a => Fin.ext ?_)
      match a with
      | ⟨0, _⟩ => show t.val * 256 + r.val = 256 * t.val + r.val; omega
      | ⟨1, _⟩ => rfl
    · exact (blk6 m hO h c t k j).trans ((v0_read m c _).trans (by rw [expert_hi m hO h c t]))
    · exact (blk7 m hO h c t k j).trans ((v1_read m c _).trans (by rw [expert_hi m hO h c t]))
    · exact (blk8 m hO h c t k j).trans ((v2_read m c _).trans (by rw [expert_hi m hO h c t]))

/-- What a grid point leaves in its block is the reference's block. -/
theorem left_apply (h : InRange (tbl m)) (hW : Weighted m) (c : Dev nD) (t : Fin (cfgM m hO).N) (r : Fin 256) (k : Fin 8)
    (l : Fin 128) : left m hO c t (ix2 (⟨8 * r.val + k.val, by omega⟩ : Fin 2048) l)
      = G m c (ix2 (⟨8 * (256 * t.val + r.val) + k.val, by have : t.val < 152 := t.isLt; omega⟩ : Fin 311296) l) := by
  have e := result_apply (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
    (blockOf m hO t) r k l (by rw [← T0 m c]; exact h.lo _) (by rw [← T1 m c]; exact h.hi _) (by rw [← T2 m c]; exact h.all)
  refine Eq.trans ?_ e.symm
  have hn : ((m (c.tc.loc main_arg5) : S1.Idx → BitVec 32) (ix1 0)).toNat = (nblk m).toNat := by rw [← T2 m c]; rfl
  have hu := used_iff (tbl m) (grid0.coords t) h
  rw [coord t] at hu
  rw [hn]
  unfold left outBlk
  by_cases ht : t.val < (nblk m).toNat
  · rw [if_pos (hu.mpr ht), if_pos (show (blockOf m hO t).val < _ from ht)]
    refine Eq.trans ?_ (acts_point m hO h hW c t ht r ⟨128 * k.val + l.val, by omega⟩)
    unfold weave cols
    refine congrArg (acts _ _ _ _ _ _ _ _ _) (funext fun a => Fin.ext ?_)
    match a with
    | ⟨0, _⟩ => show (8 * r.val + k.val) / 8 = r.val; omega
    | ⟨1, _⟩ => show 128 * ((8 * r.val + k.val) % 8) + l.val = 128 * k.val + l.val; omega
  · rw [if_neg (fun hc => ht (hu.mp hc)), if_neg (show ¬ (blockOf m hO t).val < _ from ht)]
    pointwise [k0_pay3]

theorem idx9 (t : Fin (cfgM m hO).N) : ((cfgM m hO).win 9).index t = ![t.val, 0] := by
  rw [← coord t]
  show cc0_transform_9 (grid0.coords t) = _
  have : (grid0.coords t 0).val < 152 := (grid0.coords t 0).isLt
  funext a
  match a with
  | ⟨0, _⟩ => show (BitVec.ofNat 32 (grid0.coords t 0).val).toNat = (grid0.coords t 0).val; rw [BitVec.toNat_ofNat]; omega
  | ⟨1, _⟩ => rfl

/-- The blocks of results cover the array. -/
theorem covers : ((cfgM m hO).win 9).Covers := by
  refine ⟨fun a => ?_, fun β => ?_⟩
  · match a with
    | ⟨0, _⟩ => show 0 < 2048; decide
    | ⟨1, _⟩ => show 0 < 128; decide
  · have e0 : ((cfgM m hO).win 9).nblk (0 : Fin 2) = 152 := show (311296 + 2048 - 1) / 2048 = 152 by norm_num
    have e1 : ((cfgM m hO).win 9).nblk (1 : Fin 2) = 1 := show (128 + 128 - 1) / 128 = 1 by norm_num
    have h0 : (β (0 : Fin 2)).val < 152 := Nat.lt_of_lt_of_eq (β (0 : Fin 2)).isLt e0
    have h1 : (β (1 : Fin 2)).val < 1 := Nat.lt_of_lt_of_eq (β (1 : Fin 2)).isLt e1
    refine ⟨⟨(β (0 : Fin 2)).val, h0⟩, ?_, fun a => ⟨?_, Or.inl ?_⟩⟩
    · exact (Pipeline.Window.flush_reads ((cfgM m hO).win 9) rfl 0 (show 1 < grid0.bound 0 by decide)
        (show grid0.fixedAfter reads0_9 0 = true by decide) (Pipeline.Window.sep_of_coord cc0_transform_9 0 0 (fun _ => rfl) (by decide)) (P := 1) (m := 0)
        (show grid0.stride 0 = 1 by decide) rfl _).mpr
        (Nat.mod_one _)
    · rw [idx9]
      match a with
      | ⟨0, _⟩ => rfl
      | ⟨1, _⟩ => show 0 = (β (1 : Fin 2)).val; omega
    · match a with
      | ⟨0, _⟩ => rfl
      | ⟨1, _⟩ => rfl

/-- A row of a block: which slot's, and which eighth. -/
theorem split (y : S2048x128.Idx) :
    ∃ (r : Fin 256) (k : Fin 8) (l : Fin 128), y = ix2 (⟨8 * r.val + k.val, by omega⟩ : Fin 2048) l := by
  have h0 : (y 0).val < 2048 := (y 0).isLt
  refine ⟨⟨(y 0).val / 8, by omega⟩, ⟨(y 0).val % 8, by omega⟩, y 1, funext fun a => Fin.ext ?_⟩
  match a with
  | ⟨0, _⟩ => show (y 0).val = 8 * ((y 0).val / 8) + (y 0).val % 8; omega
  | ⟨1, _⟩ => rfl

/-- The array of results. -/
theorem final (h : InRange (tbl m)) (hW : Weighted m) (c : Dev nD) : (dats m hO 0 c).arrAt 9 (cfgM m hO).N = G m c := by
  refine (dats m hO 0 c).arrAt_eq_of_covers 9 _ (covers m hO) fun t hf y => ?_
  have hi := idx9 m hO t
  blk_simp
  rw [after9]
  obtain ⟨r, k, l, rfl⟩ := split y
  refine (left_apply m hO h hW c t r k l).trans ?_
  refine congrArg (G m c) (funext fun a => Fin.ext ?_)
  match a with
  | ⟨0, _⟩ =>
    blk_simp [hi]
    show 8 * (256 * t.val + r.val) + k.val = t.val * 2048 + (8 * r.val + k.val)
    omega
  | ⟨1, _⟩ => blk_simp [hi]

end ExpertsArray
end
-- ==== Proof.ExpertsBitsRun.lean ====
/- The experts' body on one block of 256 slots: what it leaves in the block of results. -/
module

public import proofs.«01_k».proof.Proof.Gen.Experts.Launch
public import proofs.«01_k».proof.Proof.Gen.Experts.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.ExpertsBitsBlock

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace ExpertsBitsRun
open Cert.Experts Cert.Experts.Gen

variable {F : FTy → Type} [FloatOps F]

/-- Propositions of the logic over this program's machine. -/
abbrev SP (F : FTy → Type) [FloatOps F] : Type := sProp (MT nD τ sig Unit (Elt F) ℕ (UR sig nD τ) ℕ)

/-- A table held for reading: half of the full share. -/
abbrev held (c : Dev nD) {S : Shape} {e : EltTy} (M : Memref sig .tc .smem S e)
    (f : Buf (Elt F) (M.view.loc (c : Thread nD τ))) : SP F :=
  M.view.loc (c : Thread nD τ) ↦{fullShare.right} f

/-- The number of blocks in use, as a memory reference and its word. -/
abbrev nblkRef : Memref sig .tc .smem S1 .i32 := Memref.whole main_arg5

theorem one_idx (x y : S1.Idx) : x = y := by
  funext a
  match a with
  | ⟨0, _⟩ => exact Subsingleton.elim (α := Fin 1) (x 0) (y 0)

/-- The word in it. -/
def word (n : Vec F S1 .i32) : BitVec 32 := n (ix1 (0 : Fin 1))

set_option maxHeartbeats 2000000 in
theorem body_run (c : Dev nD) (i : grid0.Coords)
    (a1 : Memref sig .tc .smem S152 .i32) (h1 : a1.IsWhole) (a2 : Memref sig .tc .smem S152 .i32) (h2 : a2.IsWhole)
    (a4 : Memref sig .tc .vmem S2048x128 .f32) (h4 : a4.IsWhole)
    (a5 : Memref sig .tc .vmem S256x1 .f32) (h5 : a5.IsWhole) (a6 : Memref sig .tc .vmem S256x1 .f32) (h6 : a6.IsWhole)
    (a7 : Memref sig .tc .vmem S1x1x1024x512 .bf16) (h7 : a7.IsWhole)
    (a8 : Memref sig .tc .vmem S1x1x1024x512 .bf16) (h8 : a8.IsWhole)
    (a9 : Memref sig .tc .vmem S1x1x512x1024 .bf16) (h9 : a9.IsWhole)
    (a10 : Memref sig .tc .vmem S1x1x1024x512 .bf16) (h10 : a10.IsWhole)
    (a11 : Memref sig .tc .vmem S1x1x1024x512 .bf16) (h11 : a11.IsWhole)
    (a12 : Memref sig .tc .vmem S1x1x512x1024 .bf16) (h12 : a12.IsWhole)
    (a13 : Memref sig .tc .vmem S2048x128 .f32) (h13 : a13.IsWhole)
    (x0 : Vec F S2048x128 .f32) (x1 x2 : Vec F S256x1 .f32) (x3 x4 : Vec F S1x1x1024x512 .bf16)
    (x5 : Vec F S1x1x512x1024 .bf16) (x6 x7 : Vec F S1x1x1024x512 .bf16) (x8 : Vec F S1x1x512x1024 .bf16)
    (n : Vec F S1 .i32) (E : Set ℕ) (K : PUnit → SP F) :
    iprop(owns (c : Thread nD τ) a4 fullShare x0 ∗ owns (c : Thread nD τ) a5 fullShare x1
        ∗ owns (c : Thread nD τ) a6 fullShare x2 ∗ owns (c : Thread nD τ) a7 fullShare x3
        ∗ owns (c : Thread nD τ) a8 fullShare x4 ∗ owns (c : Thread nD τ) a9 fullShare x5
        ∗ owns (c : Thread nD τ) a10 fullShare x6 ∗ owns (c : Thread nD τ) a11 fullShare x7
        ∗ owns (c : Thread nD τ) a12 fullShare x8 ∗ (∃ d, owns (c : Thread nD τ) a13 fullShare d) ∗ held c nblkRef n
        ∗ (iprop(owns (c : Thread nD τ) a4 fullShare x0 ∗ owns (c : Thread nD τ) a5 fullShare x1
            ∗ owns (c : Thread nD τ) a6 fullShare x2 ∗ owns (c : Thread nD τ) a7 fullShare x3
            ∗ owns (c : Thread nD τ) a8 fullShare x4 ∗ owns (c : Thread nD τ) a9 fullShare x5
            ∗ owns (c : Thread nD τ) a10 fullShare x6 ∗ owns (c : Thread nD τ) a11 fullShare x7
            ∗ owns (c : Thread nD τ) a12 fullShare x8
            ∗ owns (c : Thread nD τ) a13 fullShare (ExpertsBitsBlock.outBlk i (word n) x0 x1 x2 x3 x4 x5 x6 x7 x8)
            ∗ held c nblkRef n) -∗ K ⟨⟩))
      ⊢ wp frame (wpE (defs₀ (F := F)) Variants.none c none) E
          (cc0_experts i a1 h1 a2 h2 nblkRef (Memref.isWhole_whole _) a4 h4 a5 h5 a6 h6 a7 h7 a8 h8 a9 h9 a10 h10 a11 h11
            a12 h12 a13 h13) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, HT, Hk⟩
  obtain rfl := h4.eq_unread hf0
  obtain rfl := h5.eq_unread hf1
  obtain rfl := h6.eq_unread hf2
  obtain rfl := h7.eq_unread hf3
  obtain rfl := h8.eq_unread hf4
  obtain rfl := h9.eq_unread hf5
  obtain rfl := h10.eq_unread hf6
  obtain rfl := h11.eq_unread hf7
  obtain rfl := h12.eq_unread hf8
  sl_exec
  have hw : body_run.sl.r n = word n := by
    unfold body_run.sl.r word
    show n _ = n _
    exact congrArg (α := S1.Idx) n (one_idx _ _)
  have r := ExpertsBitsBlock.readAt_rows a4.view (h4.unread x0) x0 hf0
  have l1 : View.readAt (Elt F) a5.view (Rect.unit ![0, 0] S256x1.size inb_S256x1_S256x1_0_0).toLoadRect (h5.unread x1) = x1 := by
    rw [View.readAt_eq_ld, hf1]; exact View.ld_unit_zero (by decide) _ _
  have l2 : View.readAt (Elt F) a6.view (Rect.unit ![0, 0] S256x1.size inb_S256x1_S256x1_0_0).toLoadRect (h6.unread x2) = x2 := by
    rw [View.readAt_eq_ld, hf2]; exact View.ld_unit_zero (by decide) _ _
  have l3 : View.readAt (Elt F) a7.view (Rect.unit ![0, 0, 0, 0] S1x1x1024x512.size inb_S1x1x1024x512_S1x1x1024x512_0_0_0_0).toLoadRect (h7.unread x3) = x3 := by
    rw [View.readAt_eq_ld, hf3]; exact View.ld_unit_zero (by decide) _ _
  have l4 : View.readAt (Elt F) a8.view (Rect.unit ![0, 0, 0, 0] S1x1x1024x512.size inb_S1x1x1024x512_S1x1x1024x512_0_0_0_0).toLoadRect (h8.unread x4) = x4 := by
    rw [View.readAt_eq_ld, hf4]; exact View.ld_unit_zero (by decide) _ _
  have l5 : View.readAt (Elt F) a9.view (Rect.unit ![0, 0, 0, 0] S1x1x512x1024.size inb_S1x1x512x1024_S1x1x512x1024_0_0_0_0).toLoadRect (h9.unread x5) = x5 := by
    rw [View.readAt_eq_ld, hf5]; exact View.ld_unit_zero (by decide) _ _
  have l6 : View.readAt (Elt F) a10.view (Rect.unit ![0, 0, 0, 0] S1x1x1024x512.size inb_S1x1x1024x512_S1x1x1024x512_0_0_0_0).toLoadRect (h10.unread x6) = x6 := by
    rw [View.readAt_eq_ld, hf6]; exact View.ld_unit_zero (by decide) _ _
  have l7 : View.readAt (Elt F) a11.view (Rect.unit ![0, 0, 0, 0] S1x1x1024x512.size inb_S1x1x1024x512_S1x1x1024x512_0_0_0_0).toLoadRect (h11.unread x7) = x7 := by
    rw [View.readAt_eq_ld, hf7]; exact View.ld_unit_zero (by decide) _ _
  have l8 : View.readAt (Elt F) a12.view (Rect.unit ![0, 0, 0, 0] S1x1x512x1024.size inb_S1x1x512x1024_S1x1x512x1024_0_0_0_0).toLoadRect (h12.unread x8) = x8 := by
    rw [View.readAt_eq_ld, hf8]; exact View.ld_unit_zero (by decide) _ _
  have e1 : body_run.sl.r_1 c a4 h4 x0 = k0_pay4 (ExpertsBitsBlock.rows 0 x0) (ExpertsBitsBlock.rows 1 x0) (ExpertsBitsBlock.rows 2 x0)
      (ExpertsBitsBlock.rows 3 x0) (ExpertsBitsBlock.rows 4 x0) (ExpertsBitsBlock.rows 5 x0) (ExpertsBitsBlock.rows 6 x0)
      (ExpertsBitsBlock.rows 7 x0) := by
    rw [← r 0, ← r 1, ← r 2, ← r 3, ← r 4, ← r 5, ← r 6, ← r 7]
    rfl
  have e2 : body_run.sl.r_2 c a4 h4 a5 h5 a7 h7 a8 h8 a9 h9 x0 x1 x3 x4 x5 = k0_pay5 (ExpertsBitsBlock.rows 0 x0)
      (ExpertsBitsBlock.rows 1 x0) (ExpertsBitsBlock.rows 2 x0) (ExpertsBitsBlock.rows 3 x0) (ExpertsBitsBlock.rows 4 x0)
      (ExpertsBitsBlock.rows 5 x0) (ExpertsBitsBlock.rows 6 x0) (ExpertsBitsBlock.rows 7 x0) x1 x3 x4 x5 := by
    conv_rhs => rw [← r 0, ← r 1, ← r 2, ← r 3, ← r 4, ← r 5, ← r 6, ← r 7, ← l1, ← l3, ← l4, ← l5]
    rfl
  have e3 : body_run.sl.r_3 c a4 h4 a5 h5 a6 h6 a7 h7 a8 h8 a9 h9 a10 h10 a11 h11 a12 h12 x0 x1 x2 x3 x4 x5 x6 x7 x8
      = ExpertsBitsBlock.acts x0 x1 x2 x3 x4 x5 x6 x7 x8 := by
    unfold body_run.sl.r_3 ExpertsBitsBlock.acts
    rw [e1, e2, l2, l6, l7, l8]
  have e4 : body_run.sl.r_4 c a4 h4 a5 h5 a6 h6 a7 h7 a8 h8 a9 h9 a10 h10 a11 h11 a12 h12 x0 x1 x2 x3 x4 x5 x6 x7 x8
      = ExpertsBitsBlock.cols (ExpertsBitsBlock.acts x0 x1 x2 x3 x4 x5 x6 x7 x8) 5 := by
    unfold body_run.sl.r_4 ExpertsBitsBlock.acts
    rw [e1, e2, l2, l6, l7, l8, ExpertsBitsBlock.pay12_eq]
  sl_step
  iapply Hk
  isplitl [H0]
  · iexists _
    isplitr
    · ipureintro; exact h4.read_unread _
    iexact H0
  isplitl [H1]
  · iexists _
    isplitr
    · ipureintro; exact h5.read_unread _
    iexact H1
  isplitl [H2]
  · iexists _
    isplitr
    · ipureintro; exact h6.read_unread _
    iexact H2
  isplitl [H3]
  · iexists _
    isplitr
    · ipureintro; exact h7.read_unread _
    iexact H3
  isplitl [H4]
  · iexists _
    isplitr
    · ipureintro; exact h8.read_unread _
    iexact H4
  isplitl [H5]
  · iexists _
    isplitr
    · ipureintro; exact h9.read_unread _
    iexact H5
  isplitl [H6]
  · iexists _
    isplitr
    · ipureintro; exact h10.read_unread _
    iexact H6
  isplitl [H7]
  · iexists _
    isplitr
    · ipureintro; exact h11.read_unread _
    iexact H7
  isplitl [H8]
  · iexists _
    isplitr
    · ipureintro; exact h12.read_unread _
    iexact H8
  isplitl [H9]
  · iexists _
    isplitr
    on_goal 2 => iexact H9
    ipureintro
    simp only [hw, e1, e2, e3, e4, l2, l6, l7, l8, ExpertsBitsBlock.pay1_eq, ExpertsBitsBlock.pay2_eq, ExpertsBitsBlock.pay7_eq,
      ExpertsBitsBlock.pay8_eq, ExpertsBitsBlock.pay9_eq, ExpertsBitsBlock.pay10_eq, ExpertsBitsBlock.pay11_eq]
    exact ExpertsBitsBlock.read_branches a13.view f9 i (word n)
      (ExpertsBitsBlock.cols (ExpertsBitsBlock.acts x0 x1 x2 x3 x4 x5 x6 x7 x8)) k0_pay3
  iexact HT

end ExpertsBitsRun
-- ==== Proof.ExpertsClaim.lean ====
/- The experts' call: its frames, and that it equals its reference, for tables in range and weights of at least zero. -/
module

public import proofs.«01_k».proof.Defs
public import proofs.«01_k».proof.Proof.ExpertsArray
public import proofs.«01_k».proof.Proof.ExpertsBitsTables
public import proofs.«01_k».proof.Proof.Gen.Pre_expert_blocks
public import proofs.«01_k».proof.Proof.Gen.Pre_weighted_blocks
public import proofs.«01_k».proof.Proof.Gen.ExpertsRefIdeal.Run

@[expose] public section

set_option maxRecDepth 16384
set_option Elab.async false

noncomputable section

open Idealize.ShloMosaic Idealize.ShloMosaic.TcCoe Idealize.SL.Sem

namespace ExpertsClaim

/-- A table's word passes the two comparisons of the precondition. -/
abbrev Below (x : BitVec 32) : Prop := IntOp.cmpi .sge x (0#32) = 1#1 ∧ IntOp.cmpi .slt x (16#32) = 1#1

/-- The number of used blocks passes its two. -/
abbrev Between (x : BitVec 32) : Prop := IntOp.cmpi .sge x (1#32) = 1#1 ∧ IntOp.cmpi .sle x (152#32) = 1#1

theorem below {x : BitVec 32} (h : Below x) : x.toNat < 16 := ExpertsWord.range_lt (by decide) h.1 h.2
theorem between {x : BitVec 32} (h : Between x) : 1 ≤ x.toNat ∧ x.toNat ≤ 152 :=
  ExpertsWord.range_of (a := 1) (b := 152) (by decide) (by decide) h.1 h.2

section
open Cert.ExpertsIdeal Cert.ExpertsIdeal.Gen ExpertsFrame ExpertsTables ExpertsArray
variable (m : (ℓ : Loc nD τ sig) → Buf (Elt Ideal) ℓ)

theorem inRange (c : Dev nD) (h0 : ∀ b : Fin 152, Below (entry (m (c.tc.loc main_arg3)) b))
    (h1 : ∀ b : Fin 152, Below (entry (m (c.tc.loc main_arg4)) b)) (h2 : Between (ExpertsRun.word (m (c.tc.loc main_arg5)))) :
    InRange (tbl m) where
  lo b := by rw [T0 m c]; exact below (h0 b)
  hi b := by rw [T1 m c]; exact below (h1 b)
  some := by rw [T2 m c]; exact (between h2).1
  all := by rw [T2 m c]; exact (between h2).2

theorem inRange_of_pre (h : Cert.Pre_ExpertsIdeal m) : InRange (tbl m) := by
  obtain ⟨a, b, c, d, e, f⟩ := h 0
  exact inRange m 0 (fun i => ⟨congrFun a (ix1 i), congrFun b (ix1 i)⟩) (fun i => ⟨congrFun c (ix1 i), congrFun d (ix1 i)⟩)
    ⟨congrFun e (ix1 0), congrFun f (ix1 0)⟩

theorem inRange_of_weighted (h : Cert.Pre_ExpertsIdeal_weighted_blocks m) : InRange (tbl m) := by
  obtain ⟨a, b, c, d, e, f, -⟩ := h 0
  exact inRange m 0 (fun i => ⟨congrFun a (ix1 i), congrFun b (ix1 i)⟩) (fun i => ⟨congrFun c (ix1 i), congrFun d (ix1 i)⟩)
    ⟨congrFun e (ix1 0), congrFun f (ix1 0)⟩

/-- A number from zero on and below `+∞` is a real number of at least zero. -/
theorem nonneg_of {x : EReal} (h0 : Ideal.cmp .oge x (Ideal.ofBits .f32 0x00000000#32) = 1#1)
    (h1 : Ideal.cmp .olt x (Ideal.ofBits .f32 0x7F800000#32) = 1#1) : Weights.Nonneg x := by
  rw [Weights.ofBits_inf] at h1
  rw [show Ideal.ofBits .f32 0x00000000#32 = 0 by simp [Ideal.ofBits, Ideal.ieee]] at h0
  have h0' : 0 ≤ x := by
    by_contra hn
    simp [Ideal.cmp, hn] at h0
  have h1' : x < ⊤ := by
    by_contra hn
    simp [Ideal.cmp, hn] at h1
  have hb : x ≠ ⊥ := fun e => by subst e; simp at h0'
  exact ⟨x.toReal, EReal.toReal_nonneg h0', (EReal.coe_toReal h1'.ne hb).symm⟩

theorem weighted_of_pre (h : Cert.Pre_ExpertsIdeal_weighted_blocks m) : Weighted m := by
  intro c
  obtain ⟨-, -, -, -, -, -, a, b, d, e⟩ := h c
  exact ⟨fun i => nonneg_of (congrFun a i) (congrFun b i), fun i => nonneg_of (congrFun d i) (congrFun e i)⟩

theorem frame_ideal : Cert.quiescent_ExpertsIdeal := fun m ρ h =>
  unchanged m ρ (ok_of_inRange (tbl m) (inRange_of_pre m h))

theorem frame_ideal_weighted : Cert.quiescent_ExpertsIdeal_pre_weighted_blocks := fun m ρ h =>
  unchanged m ρ (ok_of_inRange (tbl m) (inRange_of_weighted m h))

/-- The value claim. -/
theorem algebraic : Cert.algebraic_ExpertsIdeal_ExpertsRefIdeal_pre_weighted_blocks := by
  intro m ρ m' ρ' hpre hagree
  have hR := inRange_of_weighted m hpre
  have hO : Ok m := ok_of_inRange (tbl m) hR
  refine ⟨fun c => G m c, ?_, ?_⟩
  · refine (θ_run _ _ _).mono (fun r h c => ?_) (run_main m ρ hO)
    exact ⟨((h.1 c).1 9).trans (final m hO hR (weighted_of_pre m hpre) c), kept m hO h.1 c⟩
  · refine (θ_run _ _ _).mono (fun r h c => ?_) (Cert.ExpertsRefIdeal.Value.run (F := Ideal) m' ρ')
    have hc := h c
    refine ⟨(hc.1.trans (Cert.ExpertsRefIdeal.Read.val_main_v78_eq _ _)).trans ?_, hc.2⟩
    obtain ⟨a0, a1, a2, a3, a4, a5, a6, a7, a8⟩ := hagree c
    rw [a0, a1, a2, a3, a4, a5, a6, a7, a8]
    rfl
end

section
open Cert.Experts Cert.Experts.Gen ExpertsBitsFrame ExpertsBitsTables
variable (m : (ℓ : Loc nD τ sig) → Buf (Elt Bits) ℓ)

theorem bits_inRange_of_pre (h : Cert.Pre_Experts m) : InRange (tbl m) := by
  obtain ⟨a, b, c, d, e, f⟩ := h 0
  have T0 : tbl m 0 = m ((0 : Dev nD).tc.loc main_arg3) := V_kept m 0 main_arg3 (by decide) (by decide) (by decide)
  have T1 : tbl m 1 = m ((0 : Dev nD).tc.loc main_arg4) := V_kept m 0 main_arg4 (by decide) (by decide) (by decide)
  have T2 : tbl m 2 = m ((0 : Dev nD).tc.loc main_arg5) := V_kept m 0 main_arg5 (by decide) (by decide) (by decide)
  have hn := between (x := ExpertsBitsRun.word (m ((0 : Dev nD).tc.loc main_arg5))) ⟨congrFun e (ix1 0), congrFun f (ix1 0)⟩
  exact {
    lo := fun i => by rw [T0]; exact below ⟨congrFun a (ix1 i), congrFun b (ix1 i)⟩
    hi := fun i => by rw [T1]; exact below ⟨congrFun c (ix1 i), congrFun d (ix1 i)⟩
    some := by rw [T2]; exact hn.1
    all := by rw [T2]; exact hn.2 }

theorem frame : Cert.quiescent_Experts := fun m ρ h =>
  unchanged m ρ (ok_of_inRange (tbl m) (bits_inRange_of_pre m h))
end

theorem frame_ref : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run m ρ)

theorem frame_ref_weighted : Cert.quiescent_ExpertsRefIdeal_pre_weighted_blocks := fun m ρ _ =>
  (θ_run Cert.ExpertsRefIdeal.defs _ _).mono (fun r h => ⟨fun c => (h c).2, sem_eq_zero_of_no_sems (by decide) r.2⟩)
    (Cert.ExpertsRefIdeal.Value.run m ρ)

end ExpertsClaim
end
-- ==== Proof.OutProjBlock.lean ====
/- One block of 512 tokens in the output projection's call: how its eighths are laid out, and the result as a function of
   what the block reads. -/
module

public import proofs.«01_k».proof.Proof.Gen.OutProjIdeal.Skeleton
public import Idealize.ShloMosaic.Lib.Pipeline.FrameBody
public import Idealize.ShloMosaic.Lib.Pipeline.ValueKit
public import Idealize.ShloMosaic.Lib.Pointwise

@[expose] public section

set_option maxRecDepth 16384
set_option Elab.async false

noncomputable section

open Idealize.ShloMosaic Idealize.ShloMosaic.TcCoe

namespace OutProjBlock
open Cert.OutProjIdeal Cert.OutProjIdeal.Gen

variable {F : FTy → Type} [FloatOps F]

/-- Every eighth row, from row `k` on, stays within the 4096 rows of a block. -/
theorem rows_inb (k : Fin 8) : ∀ a, S512x128.size a = 0 ∨
    (![k.val, 0] : Fin 2 → ℕ) a + (![8, 1] : Fin 2 → ℕ) a * (S512x128.size a - 1) < S4096x128.size a := by
  revert k; decide

/-- Every eighth row, from row `k` on. -/
def rowsRect (k : Fin 8) : Rect S4096x128 := ⟨⟨![k.val, 0], S512x128.size, ![8, 1], rows_inb k⟩, spos_8_1⟩

/-- Row `R` belongs to the `R % 8`-th eighth only. -/
theorem not_mem (k : Fin 8) (y : S4096x128.Idx) (h : (y 0).val % 8 ≠ k.val) : y ∉ (rowsRect k).set := by
  intro hm
  obtain ⟨j, hj, e⟩ := (rowsRect k).mem_set.mp hm 0
  have e' : (y 0).val = k.val + 8 * j := e
  have := k.isLt
  omega

/-- The place of row `8 r + k` in its eighth. -/
theorem emb_eq (k : Fin 8) (y : S4096x128.Idx) (h : (y 0).val % 8 = k.val) :
    (rowsRect k).emb (ix2 (⟨(y 0).val / 8, by have := (y 0).isLt; change _ < 4096 at this; omega⟩ : Fin 512) (y 1)) = y := by
  funext a
  refine Fin.ext ?_
  match a with
  | ⟨0, _⟩ => show k.val + 8 * ((y 0).val / 8) = (y 0).val; omega
  | ⟨1, _⟩ => show 0 + 1 * (y 1).val = (y 1).val; omega

/-- The eight payloads, interleaved: row `8 r + k` is row `r` of the `k`-th. -/
def weave (w : Fin 8 → Vec F S512x128 .f32) : Vec F S4096x128 .f32 := fun y =>
  w ⟨(y 0).val % 8, Nat.mod_lt _ (by decide)⟩
    (ix2 (⟨(y 0).val / 8, by have := (y 0).isLt; change _ < 4096 at this; omega⟩ : Fin 512) (y 1))

/-- The eight stores, the last first. -/
def pieces (w : Fin 8 → Vec F S512x128 .f32) : List (View.Piece (Elt F) S4096x128 .f32) :=
  [⟨rowsRect 7, w 7⟩, ⟨rowsRect 6, w 6⟩, ⟨rowsRect 5, w 5⟩, ⟨rowsRect 4, w 4⟩, ⟨rowsRect 3, w 3⟩, ⟨rowsRect 2, w 2⟩,
    ⟨rowsRect 1, w 1⟩, ⟨rowsRect 0, w 0⟩]

/-- A store to another eighth does not matter, and one to this eighth decides. -/
theorem read_cons {κ : Kind} {sp : Space} (v : View sig κ sp S4096x128 .f32) (f : v.ty.Contents (Elt F))
    (w : Fin 8 → Vec F S512x128 .f32) (k : Fin 8) (L : List (View.Piece (Elt F) S4096x128 .f32)) (y : S4096x128.Idx)
    (h : (y 0).val % 8 ≠ k.val → v.read (Elt F) (v.writes (Elt F) f L) y = weave w y) :
    v.read (Elt F) (v.writes (Elt F) f (⟨rowsRect k, w k⟩ :: L)) y = weave w y := by
  by_cases hk : (y 0).val % 8 = k.val
  · have e : weave w y = w k (ix2 (⟨(y 0).val / 8, by have := (y 0).isLt; change _ < 4096 at this; omega⟩ : Fin 512) (y 1)) := by
      unfold weave
      rw [show (⟨(y 0).val % 8, Nat.mod_lt _ (by decide)⟩ : Fin 8) = k from Fin.ext hk]
    rw [e]
    conv_lhs => rw [← emb_eq k y hk]
    exact View.read_writes_cons_emb v f (rowsRect k) (w k) L _
  · rw [View.read_writes_cons_miss v f ⟨rowsRect k, w k⟩ L y (not_mem k y hk)]
    exact h hk

/-- After the eight stores the block is the payloads interleaved. -/
theorem read_pieces {κ : Kind} {sp : Space} (v : View sig κ sp S4096x128 .f32) (f : v.ty.Contents (Elt F))
    (w : Fin 8 → Vec F S512x128 .f32) : v.read (Elt F) (v.writes (Elt F) f (pieces w)) = weave w := by
  funext y
  unfold pieces
  refine read_cons v f w 7 _ y fun h7 => read_cons v f w 6 _ y fun h6 => read_cons v f w 5 _ y fun h5 =>
    read_cons v f w 4 _ y fun h4 => read_cons v f w 3 _ y fun h3 => read_cons v f w 2 _ y fun h2 =>
    read_cons v f w 1 _ y fun h1 => read_cons v f w 0 _ y fun h0 => absurd ?_ h0
  simp only [Fin.isValue, Fin.val_zero, Fin.val_one, ne_eq] at *
  simp only [show ((7 : Fin 8) : ℕ) = 7 from rfl, show ((6 : Fin 8) : ℕ) = 6 from rfl, show ((5 : Fin 8) : ℕ) = 5 from rfl,
    show ((4 : Fin 8) : ℕ) = 4 from rfl, show ((3 : Fin 8) : ℕ) = 3 from rfl, show ((2 : Fin 8) : ℕ) = 2 from rfl] at *
  omega

/-- The columns from `128 k` on. -/
def cols (y : FVec F S512x1024 .f32) (k : Fin 8) : Vec F S512x128 .f32 := fun j =>
  y (ix2 (j 0) (⟨128 * k.val + (j 1).val, by have := (j 1).isLt; change _ < 128 at this; omega⟩ : Fin 1024))

theorem slice_cols (y : FVec F S512x1024 .f32) (k : Fin 8) (o : Fin 2 → ℕ) (ho : o = ![0, 128 * k.val])
    (h : S512x1024.Slices o S512x128) : extractStridedSlice S512x128 o y h = cols y k := by
  subst ho
  funext j
  refine extractStridedSlice_apply _ _ _ _ _ fun a => ?_
  match a with
  | ⟨0, _⟩ => show (j 0).val = 0 + (j 0).val; omega
  | ⟨1, _⟩ => rfl

/-- `n` rows of the weights, from row `o` on. -/
def wrows (n o : ℕ) (h : ∀ a, (![o, 0] : Fin 2 → ℕ) a + (![n, 1024] : Fin 2 → ℕ) a ≤ S1024x1024.size a)
    (w : Vec F S1024x1024 .bf16) : Vec F ⟨2, ![n, 1024]⟩ .bf16 :=
  View.ld w (Rect.unit (s := S1024x1024) ![o, 0] ![n, 1024] h)

/-- The block's normed tokens: 512 rows of all 1024 columns. -/
def tok (x : Vec F S512x1024 .f32) (s : Vec F S512x512 .bf16) (g q : Vec F S512x256 .bf16) (w : Vec F S1024x1024 .bf16)
    (lg lb : Vec F S1x1024 .f32) : FVec F S512x1024 .f32 :=
  k0_pay7 (k0_pay4 lg) (k0_pay5 lb)
    (k0_pay6 s (wrows 512 0 inb_S1024x1024_S512x1024_0_0 w) g (wrows 256 512 inb_S1024x1024_S256x1024_512_0 w) q
      (wrows 256 768 inb_S1024x1024_S256x1024_768_0 w) x)

/-- What the body leaves in the block of results. -/
def outBlk (x : Vec F S512x1024 .f32) (s : Vec F S512x512 .bf16) (g q : Vec F S512x256 .bf16) (w : Vec F S1024x1024 .bf16)
    (lg lb : Vec F S1x1024 .f32) : Vec F S4096x128 .f32 := weave (cols (tok x s g q w lg lb))

section
variable (a b : FVec F S1x1024 .f32) (y : FVec F S512x1024 .f32)
theorem pay8_eq : k0_pay8 a b y = cols (k0_pay7 a b y) 0 := slice_cols _ 0 _ rfl slices_S512x1024_o0_0_S512x128
theorem pay9_eq : k0_pay9 a b y = cols (k0_pay7 a b y) 1 := slice_cols _ 1 _ rfl slices_S512x1024_o0_128_S512x128
theorem pay10_eq : k0_pay10 a b y = cols (k0_pay7 a b y) 2 := slice_cols _ 2 _ rfl slices_S512x1024_o0_256_S512x128
theorem pay11_eq : k0_pay11 a b y = cols (k0_pay7 a b y) 3 := slice_cols _ 3 _ rfl slices_S512x1024_o0_384_S512x128
theorem pay12_eq : k0_pay12 a b y = cols (k0_pay7 a b y) 4 := slice_cols _ 4 _ rfl slices_S512x1024_o0_512_S512x128
theorem pay13_eq : k0_pay13 a b y = cols (k0_pay7 a b y) 5 := slice_cols _ 5 _ rfl slices_S512x1024_o0_640_S512x128
theorem pay14_eq : k0_pay14 a b y = cols (k0_pay7 a b y) 6 := slice_cols _ 6 _ rfl slices_S512x1024_o0_768_S512x128
theorem pay15_eq : k0_pay15 a b y = cols (k0_pay7 a b y) 7 := slice_cols _ 7 _ rfl slices_S512x1024_o0_896_S512x128
end

end OutProjBlock
end
-- ==== Proof.OutProjRun.lean ====
/- The output projection's body on one block of 512 tokens: what it leaves in the block of normed tokens. The router's
   results and the running counts are left at whatever the body wrote. -/
module

public import proofs.«01_k».proof.Proof.Gen.OutProjIdeal.Launch
public import proofs.«01_k».proof.Proof.Gen.OutProjIdeal.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.OutProjBlock

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace OutProjRun
open Cert.OutProjIdeal Cert.OutProjIdeal.Gen

variable {F : FTy → Type} [FloatOps F]

/-- Propositions of the logic over this program's machine. -/
abbrev SP (F : FTy → Type) [FloatOps F] : Type := sProp (MT nD τ sig Unit (Elt F) ℕ (UR sig nD τ) ℕ)

/-- A buffer held whole, at any contents. -/
abbrev held (c : Dev nD) {S : Shape} {e : EltTy} (M : Memref sig .tc .vmem S e) : SP F :=
  iprop(∃ d, owns (c : Thread nD τ) M fullShare d)

set_option maxHeartbeats 4000000 in
theorem body_run (c : Dev nD) (i : grid0.Coords)
    (a1 : Memref sig .tc .vmem S512x1024 .f32) (h1 : a1.IsWhole)
    (a2 : Memref sig .tc .vmem S512x512 .bf16) (h2 : a2.IsWhole)
    (a3 : Memref sig .tc .vmem S512x256 .bf16) (h3 : a3.IsWhole)
    (a4 : Memref sig .tc .vmem S512x256 .bf16) (h4 : a4.IsWhole)
    (a5 : Memref sig .tc .vmem S1024x1024 .bf16) (h5 : a5.IsWhole)
    (a6 : Memref sig .tc .vmem S1x1024 .f32) (h6 : a6.IsWhole)
    (a7 : Memref sig .tc .vmem S1x1024 .f32) (h7 : a7.IsWhole)
    (a8 : Memref sig .tc .vmem S16x1024 .bf16) (h8 : a8.IsWhole)
    (a9 : Memref sig .tc .vmem S16x1 .f32) (h9 : a9.IsWhole)
    (a10 : Memref sig .tc .vmem S512x512 .bf16) (h10 : a10.IsWhole)
    (a11 : Memref sig .tc .vmem S4096x128 .f32) (h11 : a11.IsWhole)
    (a12 : Memref sig .tc .vmem S1x1x512 .i32) (h12 : a12.IsWhole)
    (a13 : Memref sig .tc .vmem S1x1x512 .i32) (h13 : a13.IsWhole)
    (a14 : Memref sig .tc .vmem S1x1x512 .f32) (h14 : a14.IsWhole)
    (a15 : Memref sig .tc .vmem S1x1x512 .f32) (h15 : a15.IsWhole)
    (a16 : Memref sig .tc .vmem S32x128 .f32) (h16 : a16.IsWhole)
    (a17 : Memref sig .tc .vmem S32x128 .f32) (h17 : a17.IsWhole)
    (x1 : Vec F S512x1024 .f32)
    (x2 : Vec F S512x512 .bf16)
    (x3 : Vec F S512x256 .bf16)
    (x4 : Vec F S512x256 .bf16)
    (x5 : Vec F S1024x1024 .bf16)
    (x6 : Vec F S1x1024 .f32)
    (x7 : Vec F S1x1024 .f32)
    (x8 : Vec F S16x1024 .bf16)
    (x9 : Vec F S16x1 .f32)
    (x10 : Vec F S512x512 .bf16)
    (E : Set ℕ) (K : PUnit → SP F) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ held c a11 ∗ held c a12 ∗ held c a13 ∗ held c a14 ∗ held c a15 ∗ held c a16 ∗ held c a17
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
            ∗ owns (c : Thread nD τ) a11 fullShare (OutProjBlock.outBlk x1 x2 x3 x4 x5 x6 x7)
            ∗ held c a12 ∗ held c a13 ∗ held c a14 ∗ held c a15 ∗ held c a16 ∗ held c a17) -∗ K ⟨⟩))
      ⊢ wp frame (wpE (defs₀ (F := F)) Variants.none c none) E
          (cc0_out_proj_ln_route i a1 h1 a2 h2 a3 h3 a4 h4 a5 h5 a6 h6 a7 h7 a8 h8 a9 h9 a10 h10 a11 h11 a12 h12 a13 h13 a14 h14 a15 h15 a16 h16 a17 h17) K := by
  simp only [cc0_out_proj_ln_route_eq_skeleton]; unfold cc0_out_proj_ln_route_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩,
    ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  sl_exec
  have l1 : View.readAt (Elt F) a1.view (Rect.unit (s := S512x1024) ![0, 0] S512x1024.size inb_S512x1024_S512x1024_0_0).toLoadRect (h1.unread x1) = x1 := by
    rw [View.readAt_eq_ld, hf1]; exact View.ld_unit_zero (by decide) _ _
  have l2 : View.readAt (Elt F) a2.view (Rect.unit (s := S512x512) ![0, 0] S512x512.size inb_S512x512_S512x512_0_0).toLoadRect (h2.unread x2) = x2 := by
    rw [View.readAt_eq_ld, hf2]; exact View.ld_unit_zero (by decide) _ _
  have l3 : View.readAt (Elt F) a3.view (Rect.unit (s := S512x256) ![0, 0] S512x256.size inb_S512x256_S512x256_0_0).toLoadRect (h3.unread x3) = x3 := by
    rw [View.readAt_eq_ld, hf3]; exact View.ld_unit_zero (by decide) _ _
  have l4 : View.readAt (Elt F) a4.view (Rect.unit (s := S512x256) ![0, 0] S512x256.size inb_S512x256_S512x256_0_0).toLoadRect (h4.unread x4) = x4 := by
    rw [View.readAt_eq_ld, hf4]; exact View.ld_unit_zero (by decide) _ _
  have l6 : View.readAt (Elt F) a6.view (Rect.unit (s := S1x1024) ![0, 0] S1x1024.size inb_S1x1024_S1x1024_0_0).toLoadRect (h6.unread x6) = x6 := by
    rw [View.readAt_eq_ld, hf6]; exact View.ld_unit_zero (by decide) _ _
  have l7 : View.readAt (Elt F) a7.view (Rect.unit (s := S1x1024) ![0, 0] S1x1024.size inb_S1x1024_S1x1024_0_0).toLoadRect (h7.unread x7) = x7 := by
    rw [View.readAt_eq_ld, hf7]; exact View.ld_unit_zero (by decide) _ _
  have m0 : View.readAt (Elt F) a5.view (Rect.unit (s := S1024x1024) ![0, 0] S512x1024.size inb_S1024x1024_S512x1024_0_0).toLoadRect (h5.unread x5)
      = OutProjBlock.wrows 512 0 inb_S1024x1024_S512x1024_0_0 x5 := by
    rw [View.readAt_eq_ld, hf5]; rfl
  have m512 : View.readAt (Elt F) a5.view (Rect.unit (s := S1024x1024) ![512, 0] S256x1024.size inb_S1024x1024_S256x1024_512_0).toLoadRect (h5.unread x5)
      = OutProjBlock.wrows 256 512 inb_S1024x1024_S256x1024_512_0 x5 := by
    rw [View.readAt_eq_ld, hf5]; rfl
  have m768 : View.readAt (Elt F) a5.view (Rect.unit (s := S1024x1024) ![768, 0] S256x1024.size inb_S1024x1024_S256x1024_768_0).toLoadRect (h5.unread x5)
      = OutProjBlock.wrows 256 768 inb_S1024x1024_S256x1024_768_0 x5 := by
    rw [View.readAt_eq_ld, hf5]; rfl
  sl_step
  iapply Hk
  isplitl [H1]
  · iexists _
    isplitr
    · ipureintro; exact h1.read_unread _
    iexact H1
  isplitl [H2]
  · iexists _
    isplitr
    · ipureintro; exact h2.read_unread _
    iexact H2
  isplitl [H3]
  · iexists _
    isplitr
    · ipureintro; exact h3.read_unread _
    iexact H3
  isplitl [H4]
  · iexists _
    isplitr
    · ipureintro; exact h4.read_unread _
    iexact H4
  isplitl [H5]
  · iexists _
    isplitr
    · ipureintro; exact h5.read_unread _
    iexact H5
  isplitl [H6]
  · iexists _
    isplitr
    · ipureintro; exact h6.read_unread _
    iexact H6
  isplitl [H7]
  · iexists _
    isplitr
    · ipureintro; exact h7.read_unread _
    iexact H7
  isplitl [H8]
  · iexists _
    isplitr
    · ipureintro; exact h8.read_unread _
    iexact H8
  isplitl [H9]
  · iexists _
    isplitr
    · ipureintro; exact h9.read_unread _
    iexact H9
  isplitl [H10]
  · iexists _
    isplitr
    · ipureintro; exact h10.read_unread _
    iexact H10
  isplitl [H11]
  · iexists _
    isplitr
    on_goal 2 => iexact H11
    ipureintro
    have r0 : body_run.sl.r c a6 h6 x6 = k0_pay4 x6 := by unfold body_run.sl.r; rw [l6]
    have r1 : body_run.sl.r_1 c a7 h7 x7 = k0_pay5 x7 := by unfold body_run.sl.r_1; rw [l7]
    have r2 : body_run.sl.r_2 c a1 h1 a2 h2 a3 h3 a4 h4 a5 h5 x1 x2 x3 x4 x5
        = k0_pay6 x2 (OutProjBlock.wrows 512 0 inb_S1024x1024_S512x1024_0_0 x5) x3
            (OutProjBlock.wrows 256 512 inb_S1024x1024_S256x1024_512_0 x5) x4
            (OutProjBlock.wrows 256 768 inb_S1024x1024_S256x1024_768_0 x5) x1 := by
      unfold body_run.sl.r_2; rw [l1, l2, l3, l4, m0, m512, m768]
    rw [r0, r1, r2, OutProjBlock.pay8_eq, OutProjBlock.pay9_eq, OutProjBlock.pay10_eq, OutProjBlock.pay11_eq,
      OutProjBlock.pay12_eq, OutProjBlock.pay13_eq, OutProjBlock.pay14_eq, OutProjBlock.pay15_eq]
    exact OutProjBlock.read_pieces a11.view f11 (OutProjBlock.cols (OutProjBlock.tok x1 x2 x3 x4 x5 x6 x7))
  isplitl [H12]
  · iexists _, _
    isplitr
    on_goal 2 => iexact H12
    ipureintro; rfl
  isplitl [H13]
  · iexists _, _
    isplitr
    on_goal 2 => iexact H13
    ipureintro; rfl
  isplitl [H14]
  · iexists _, _
    isplitr
    on_goal 2 => iexact H14
    ipureintro; rfl
  isplitl [H15]
  · iexists _, _
    isplitr
    on_goal 2 => iexact H15
    ipureintro; rfl
  isplitl [H16]
  · iexists _, _
    isplitr
    on_goal 2 => iexact H16
    ipureintro; rfl
  iexists _, _
  isplitr
  on_goal 2 => iexact H17
  ipureintro; rfl

end OutProjRun
end
-- ==== Proof.OutProjFrame.lean ====
/- The output projection's call runs: it terminates, leaves its arguments unchanged, and the normed tokens are written block
   by block. The other results are left at whatever the body wrote. -/
module

public import proofs.«01_k».proof.Proof.OutProjRun
public import proofs.«01_k».proof.Proof.Gen.OutProjIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

namespace OutProjFrame
open Cert.OutProjIdeal Cert.OutProjIdeal.Gen OutProjRun

variable {F : FTy → Type} [FloatOps F]
variable (m : (ℓ : Loc nD τ sig) → Buf (Elt F) ℓ) (ρ : Dev nD → PrngReg)

/-- What the body leaves in the block of normed tokens at point `t`. -/
def left (c : Dev nD) (t : Fin cfg0.N) : Vec F S4096x128 .f32 :=
  OutProjBlock.outBlk (iblk m c 0 t) (iblk m c 1 t) (iblk m c 2 t) (iblk m c 3 t) (iblk m c 4 t) (iblk m c 5 t) (iblk m c 6 t)

/-- The windows nothing is said about: the router's results and the running counts. -/
def open_ (w : Fin 16) : Bool := Nat.blt 10 w.val

/-- The proof data of the call: its arrays, what each point leaves in every window, and what is held throughout. What is
    named for the windows of `open_` is never used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left m c t
    | ⟨11, _⟩ => (fun _ => (0#32 : BitVec 32) : Vec F S1x1x512 .i32)
    | ⟨12, _⟩ => (fun _ => (0#32 : BitVec 32) : Vec F S1x1x512 .i32)
    | ⟨13, _⟩ => (constant S1x1x512 .f32 0x00000000#32 : Vec F S1x1x512 .f32)
    | ⟨14, _⟩ => (constant S1x1x512 .f32 0x00000000#32 : Vec F S1x1x512 .f32)
    | ⟨15, _⟩ => (constant S32x128 .f32 0x00000000#32 : Vec F S32x128 .f32)
    | ⟨n + 16, h⟩ => absurd (show n + 16 < 16 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = left m c t := by dsimp only [dats]
end

/-! An input's buffer holds its block whenever the body starts, also where the block was already there. -/
section
variable (c : Dev nD) (t : Fin cfg0.N)
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
end

/-- What the body starts from. -/
def bodyPre (c : Dev nD) (t : Fin cfg0.N) : SP F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ held c (st0_11 t) ∗ held c (st0_12 t) ∗ held c (st0_13 t) ∗ held c (st0_14 t) ∗ held c (st0_15 t))

/-- What it ends with. -/
def bodyPost (c : Dev nD) (t : Fin cfg0.N) : SP F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ held c (st0_11 t) ∗ held c (st0_12 t) ∗ held c (st0_13 t) ∗ held c (st0_14 t) ∗ held c (st0_15 t))

/-- What is held throughout is the scratch buffer of the running counts, whole and at any contents, and the random register. -/
theorem held_eq (c : Dev nD) : (Pipeline.ΦA spec0 c : SP F)
    = iprop(held c (Memref.whole cc0_scratch0) ∗ ∃ r, prngReg c r) := by
  unfold Pipeline.ΦA held
  rw [scopedRest0_eq, (Memref.isWhole_whole cc0_scratch0).exists_owns_eq]

set_option maxHeartbeats 1600000 in
/-- The body at a point: `OutProjRun.body_run` on the point's blocks. -/
theorem body_at (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, held_eq]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  iapply (body_run c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _
    iexact H10
  isplitl [H11]
  · iexact H11
  isplitl [H12]
  · iexact H12
  isplitl [H13]
  · iexact H13
  isplitl [H14]
  · iexact H14
  isplitl [H15]
  · iexact H15
  isplitl [HS]
  · iexact HS
  iintro ⟨H0, H1, H2, H3, H4, H5, H6, H7, H8, H9, H10, H11, H12, H13, H14, H15, HS⟩
  isplitl [HS HR]
  · isplitl [HS]
    · iexact HS
    iexact HR
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iexact H15

theorem row_eq (t : Fin cfg0.N) : defs₀ (F := F) .tc cfg0.body (cfg0.bodyArgs t (cfg0.slots t)) = bodyAt0 t := by
  unfold defs₀
  rw [Defs.onTc_tc]

/-- The same for every point, as the call asks for it. -/
theorem body_ok (c : Dev nD) :
    BodyObligation (dats (F := F) m 0 c) (defs₀ (F := F)) Variants.none () Set.univ open_ := fun t => by
  rw [bigSep_W0, bigSep_W0, row_eq]
  exact triple_restated (body_at m c t) rfl .rfl fun _ => .rfl

-- the theorem's hidden arguments are found by unfolding the definitions above
set_option backward.isDefEq.respectTransparency.types false in
set_option maxHeartbeats 800000 in
/-- The whole run: the arrays of named windows end as the write-backs leave them, every buffer of no window as the call found
    it, and every semaphore at zero. -/
theorem run_main : θ_run defs (onTc (τ := τ) (main (F := F))) (s₀ m ρ) (fun r =>
    RDat.FramePost cfg0 (fun c => (dats m 0 c).toRForget open_) (V m) r ∧ r.2.sem = fun _ => 0) :=
  Pipeline.θ_run_frame_forget (Q' := _) cfgs (dats m) (0 : Fin 1) launch0 defs₀ Variants.none open_ m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- The arguments end as they began. -/
theorem kept {r : PUnit × MemSt nD τ sig (Elt F)}
    (h : RDat.FramePost cfg0 (fun c => (dats m 0 c).toRForget open_) (V m) r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) :=
  ⟨((h c).2 main_arg0 (Pipeline.mem_restRefs_of main_arg0 (by decide) (by decide))).trans (V_main_arg0 m c),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The array of normed tokens ends as the write-backs leave it. -/
theorem result {r : PUnit × MemSt nD τ sig (Elt F)}
    (h : RDat.FramePost cfg0 (fun c => (dats m 0 c).toRForget open_) (V m) r) (c : Dev nD) :
    r.2.mem ((c.tc : Thread nD τ).loc main_v15_0) = (dats m 0 c).arrAt 10 cfg0.N :=
  ((dats m 0 c).toRForget_arrAt_iff (fgt := open_) (w := 10) rfl cfg0.N _).mp ((h c).1 10)

/-- Termination, the arguments unchanged and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  (θ_run defs _ _).mono (fun _ h => ⟨fun c => kept m h.1 c, h.2⟩) (run_main m ρ)

end OutProjFrame
end
-- ==== Proof.OutProjValue.lean ====
/- The output projection, value: the array of normed tokens equals the reference's. The kernel adds three products, one per
   mixer, where the reference multiplies the mixers' outputs side by side. -/
module

public import proofs.«01_k».proof.Proof.OutProjFrame
public import proofs.«01_k».proof.Proof.Gen.OutProjRefIdeal.Read
public import Idealize.ShloMosaic.Lib.Pointwise
public import Idealize.ShloMosaic.Lib.Pipeline.ValueKit
public import Idealize.ShloMosaic.Lib.StableHlo.ReadAt

@[expose] public section

set_option maxRecDepth 16384
set_option Elab.async false

noncomputable section

open Idealize.ShloMosaic Idealize.ShloMosaic.TcCoe Idealize.SL.Sem Idealize.ShloMosaic.Pipeline

namespace OutProjValue
open Cert.OutProjIdeal Cert.OutProjIdeal.Gen OutProjFrame OutProjBlock

/-- The number of columns, 1024, as both programs write it. -/
abbrev width : EReal := Ideal.ofBits .f32 0x44800000#32

/-- A row less its mean. -/
def centre (u : Fin 1024 → EReal) (j : Fin 1024) : EReal := u j - Ideal.div (∑ k, u k) width

/-- The layer norm of a row, with gain `g` and offset `b`. -/
def norm (u g b : Fin 1024 → EReal) (j : Fin 1024) : EReal :=
  centre u j * Ideal.rsqrt (Ideal.div (∑ k, centre u k * centre u k) width + Ideal.ofBits .f32 0x3727C5AC#32) * g j + b j

/-- The scaled residual plus the three mixers' products. -/
def mixed (x : Fin 1024 → EReal) (s : Fin 512 → EReal) (g q : Fin 256 → EReal) (w : Fin 1024 → Fin 1024 → EReal)
    (j : Fin 1024) : EReal :=
  Ideal.ofBits .f32 0x3FD744FD#32 * x j
    + (∑ k : Fin 512, s k * w ⟨k.val, by omega⟩ j + ∑ k : Fin 256, g k * w ⟨512 + k.val, by omega⟩ j
        + ∑ k : Fin 256, q k * w ⟨768 + k.val, by omega⟩ j)

/-! ## The kernel's block -/

theorem pay4_eq (a : Vec Ideal S1x1024 .f32) (j : Fin 1024) : k0_pay4 a (ix2 0 j) = a (ix2 0 j) := by
  pointwise [k0_pay4]

theorem pay5_eq (a : Vec Ideal S1x1024 .f32) (j : Fin 1024) : k0_pay5 a (ix2 0 j) = a (ix2 0 j) := by
  pointwise [k0_pay5]

/-- The second half of the norm, on rows already less their mean. -/
theorem pay7_apply (a b : FVec Ideal S1x1024 .f32) (y : FVec Ideal S512x1024 .f32) (r : Fin 512) (j : Fin 1024) :
    k0_pay7 a b y (ix2 r j)
      = y (ix2 r j) * Ideal.rsqrt (Ideal.div (∑ k : Fin 1024, y (ix2 r k) * y (ix2 r k)) width
          + Ideal.ofBits .f32 0x3727C5AC#32) * a (ix2 0 j) + b (ix2 0 j) := by
  pointwise [k0_pay7]

/-- The first half: the sum of the scaled residual and the three products, less its mean. -/
theorem pay6_apply (s : Vec Ideal S512x512 .bf16) (w0 : Vec Ideal S512x1024 .bf16) (g : Vec Ideal S512x256 .bf16)
    (w1 : Vec Ideal S256x1024 .bf16) (q : Vec Ideal S512x256 .bf16) (w2 : Vec Ideal S256x1024 .bf16)
    (x : Vec Ideal S512x1024 .f32) (r : Fin 512) (j : Fin 1024) :
    k0_pay6 s w0 g w1 q w2 x (ix2 r j) = centre (fun j => Ideal.ofBits .f32 0x3FD744FD#32 * x (ix2 r j)
      + (∑ k : Fin 512, s (ix2 r k) * w0 (ix2 k j) + ∑ k : Fin 256, g (ix2 r k) * w1 (ix2 k j)
          + ∑ k : Fin 256, q (ix2 r k) * w2 (ix2 k j))) j := by
  unfold centre
  pointwise [k0_pay6]

/-- A row of a range of the weights. -/
theorem wrows_apply (n o : ℕ) (h) (w : Vec Ideal S1024x1024 .bf16) (k : Fin n) (j : Fin 1024) (hk : o + k.val < 1024) :
    wrows n o h w (ix2 k j) = w (ix2 ⟨o + k.val, hk⟩ j) := by
  unfold wrows View.ld
  refine congrArg w (funext fun a => Fin.ext ?_)
  match a with
  | ⟨0, _⟩ => show o + 1 * k.val = o + k.val; omega
  | ⟨1, _⟩ => show 0 + 1 * j.val = j.val; omega

/-- A token of the block: the norm of the mixed row. -/
theorem tok_apply (x : Vec Ideal S512x1024 .f32) (s : Vec Ideal S512x512 .bf16) (g q : Vec Ideal S512x256 .bf16)
    (w : Vec Ideal S1024x1024 .bf16) (lg lb : Vec Ideal S1x1024 .f32) (r : Fin 512) (j : Fin 1024) :
    tok x s g q w lg lb (ix2 r j)
      = norm (mixed (fun j => x (ix2 r j)) (fun k => s (ix2 r k)) (fun k => g (ix2 r k)) (fun k => q (ix2 r k))
          (fun k j => w (ix2 k j))) (fun j => lg (ix2 0 j)) (fun j => lb (ix2 0 j)) j := by
  have e (j : Fin 1024) : k0_pay6 s (wrows 512 0 inb_S1024x1024_S512x1024_0_0 w) g
      (wrows 256 512 inb_S1024x1024_S256x1024_512_0 w) q (wrows 256 768 inb_S1024x1024_S256x1024_768_0 w) x (ix2 r j)
      = centre (mixed (fun j => x (ix2 r j)) (fun k => s (ix2 r k)) (fun k => g (ix2 r k)) (fun k => q (ix2 r k))
          (fun k j => w (ix2 k j))) j := by
    rw [pay6_apply]
    refine congrArg (fun u => centre u j) (funext fun j => ?_)
    unfold mixed
    refine congrArg (_ + ·) (congrArg₂ (· + ·) (congrArg₂ (· + ·) ?_ ?_) ?_)
    · refine Finset.sum_congr rfl fun k _ => congrArg (_ * ·) ?_
      rw [wrows_apply 512 0 _ w k j (by omega)]
      exact congrArg (fun i => w (ix2 i j)) (Fin.ext (Nat.zero_add _))
    · exact Finset.sum_congr rfl fun k _ => congrArg (_ * ·) (wrows_apply 256 512 _ w k j (by omega))
    · exact Finset.sum_congr rfl fun k _ => congrArg (_ * ·) (wrows_apply 256 768 _ w k j (by omega))
  unfold tok norm
  rw [pay7_apply, pay4_eq, pay5_eq]
  simp only [e]

/-! ## The reference -/
section
open Cert.OutProjRefIdeal.Read
variable (x0 : (⟨Cert.OutProjRefIdeal.S8x4096x1024, .f32⟩ : BufTy).Contents (Elt Ideal)) (x1 : (⟨Cert.OutProjRefIdeal.S32768x512, .bf16⟩ : BufTy).Contents (Elt Ideal))
  (x2 x3 : (⟨Cert.OutProjRefIdeal.S32768x256, .bf16⟩ : BufTy).Contents (Elt Ideal)) (x4 : (⟨Cert.OutProjRefIdeal.S1024x1024, .f32⟩ : BufTy).Contents (Elt Ideal))
  (x5 x6 : (⟨Cert.OutProjRefIdeal.S1024, .f32⟩ : BufTy).Contents (Elt Ideal))

/-- The mixers' outputs side by side. -/
theorem cat_apply (r : Fin 32768) (j : Fin 1024) : val_main_v1 x1 x2 x3 (ix2 r j)
    = if h : j.val < 512 then x1 (ix2 r ⟨j.val, h⟩) else if h : j.val - 512 < 256 then x2 (ix2 r ⟨j.val - 512, h⟩)
      else x3 (ix2 r ⟨j.val - 512 - 256, by omega⟩) := by
  pointwise [val_main_v1, val_main_v0]

/-- A sum over 1024 columns, in three ranges. -/
theorem sum_split (f : Fin 1024 → EReal) : ∑ k, f k = ∑ k : Fin 512, f ⟨k.val, by omega⟩
    + ∑ k : Fin 256, f ⟨512 + k.val, by omega⟩ + ∑ k : Fin 256, f ⟨768 + k.val, by omega⟩ := by
  have h1 := Fin.sum_univ_add (a := 768) (b := 256) f
  have h2 := Fin.sum_univ_add (a := 512) (b := 256) (fun k : Fin (512 + 256) => f ⟨k.val, by omega⟩)
  exact h1.trans (congrArg (· + _) h2)

/-- The reference's sum before the norm. -/
theorem mixed_ref (r : Fin 32768) (j : Fin 1024) : val_main_v6 x0 x1 x2 x3 x4 (ix2 r j)
    = mixed (fun j => x0 (ix3 ⟨r.val / 4096, by omega⟩ ⟨r.val % 4096, by omega⟩ j)) (fun k => x1 (ix2 r k))
        (fun k => x2 (ix2 r k)) (fun k => x3 (ix2 r k)) (fun k j => x4 (ix2 k j)) j := by
  have hx : val_main_v4 x0 (ix2 r j)
      = Ideal.ofBits .f32 0x3FD744FD#32 * x0 (ix3 ⟨r.val / 4096, by omega⟩ ⟨r.val % 4096, by omega⟩ j) := by
    pointwise [val_main_v4, val_main_v3, val_main_v2, val_main_cst]
  have hd : val_main_v5 x1 x2 x3 x4 (ix2 r j) = ∑ k : Fin 1024, val_main_v1 x1 x2 x3 (ix2 r k) * x4 (ix2 k j) := by
    pointwise [val_main_v5]
  have hv : val_main_v6 x0 x1 x2 x3 x4 (ix2 r j) = val_main_v4 x0 (ix2 r j) + val_main_v5 x1 x2 x3 x4 (ix2 r j) := rfl
  rw [hv, hx, hd, sum_split]
  unfold mixed
  refine congrArg (_ + ·) (congrArg₂ (· + ·) (congrArg₂ (· + ·) ?_ ?_) ?_)
  · refine Finset.sum_congr rfl fun k _ => congrArg (· * _) ?_
    rw [cat_apply, dif_pos (show k.val < 512 from k.isLt)]
  · refine Finset.sum_congr rfl fun k _ => congrArg (· * _) ?_
    rw [cat_apply, dif_neg (show ¬ 512 + k.val < 512 by omega), dif_pos (show 512 + k.val - 512 < 256 by omega)]
    exact congrArg (fun i => x2 (ix2 r i)) (Fin.ext (show 512 + k.val - 512 = k.val by omega))
  · refine Finset.sum_congr rfl fun k _ => congrArg (· * _) ?_
    rw [cat_apply, dif_neg (show ¬ 768 + k.val < 512 by omega), dif_neg (show ¬ 768 + k.val - 512 < 256 by omega)]
    exact congrArg (fun i => x3 (ix2 r i)) (Fin.ext (show 768 + k.val - 512 - 256 = k.val by omega))

theorem centre_ref (r : Fin 32768) (j : Fin 1024) : val_main_v12 x0 x1 x2 x3 x4 (ix2 r j)
    = centre (fun j => val_main_v6 x0 x1 x2 x3 x4 (ix2 r j)) j := by
  unfold centre
  pointwise [val_main_v12, val_main_v11, val_main_v10, val_main_v9, val_main_v8, val_main_v7, val_main_cst_0, val_main_cst_1]

theorem norm_ref (r : Fin 32768) (j : Fin 1024) : val_main_v30 x0 x1 x2 x3 x4 x5 x6 (ix2 r j)
    = norm (fun j => val_main_v6 x0 x1 x2 x3 x4 (ix2 r j)) (fun j => x5 (ix1 j)) (fun j => x6 (ix1 j)) j := by
  have hc (j : Fin 1024) : val_main_v19 x0 x1 x2 x3 x4 (ix2 r j) = val_main_v12 x0 x1 x2 x3 x4 (ix2 r j) := by
    pointwise [val_main_v19, val_main_v18, val_main_v12, val_main_v11]
  have h : val_main_v30 x0 x1 x2 x3 x4 x5 x6 (ix2 r j) = val_main_v19 x0 x1 x2 x3 x4 (ix2 r j)
      * Ideal.rsqrt (Ideal.div (∑ k : Fin 1024, val_main_v12 x0 x1 x2 x3 x4 (ix2 r k) * val_main_v12 x0 x1 x2 x3 x4 (ix2 r k)) width
          + Ideal.ofBits .f32 0x3727C5AC#32) * x5 (ix1 j) + x6 (ix1 j) := by
    pointwise [val_main_v30, val_main_v29, val_main_v28, val_main_v27, val_main_v26, val_main_v25, val_main_v24, val_main_v23,
      val_main_v22, val_main_v21, val_main_v20, val_main_cst_4, val_main_v17, val_main_v16, val_main_cst_3, val_main_v15,
      val_main_v14, val_main_cst_2, val_main_v13]
  rw [h, hc]
  simp only [centre_ref]
  rfl

/-- The reference's result: token `T`, column `128 k + l`, is row `8 T + k`, lane `l`. -/
theorem result_apply (T : Fin 32768) (k : Fin 8) (l : Fin 128) :
    val_main_v31 x0 x1 x2 x3 x4 x5 x6 (ix2 (⟨8 * T.val + k.val, by omega⟩ : Fin 262144) l)
      = norm (mixed (fun j => x0 (ix3 ⟨T.val / 4096, by omega⟩ ⟨T.val % 4096, by omega⟩ j)) (fun k => x1 (ix2 T k))
          (fun k => x2 (ix2 T k)) (fun k => x3 (ix2 T k)) (fun k j => x4 (ix2 k j))) (fun j => x5 (ix1 j)) (fun j => x6 (ix1 j))
          ⟨128 * k.val + l.val, by omega⟩ := by
  rw [val_main_v31_apply]
  refine Eq.trans (congrArg (val_main_v30 x0 x1 x2 x3 x4 x5 x6) (funext fun a => Fin.ext ?_))
    ((norm_ref x0 x1 x2 x3 x4 x5 x6 T ⟨128 * k.val + l.val, by omega⟩).trans ?_)
  · match a with
    | ⟨0, _⟩ => show ((8 * T.val + k.val) * 128 + l.val) / 1024 = T.val; omega
    | ⟨1, _⟩ => show ((8 * T.val + k.val) * 128 + l.val) % 1024 = 128 * k.val + l.val; omega
  · exact congrArg (fun u => norm u _ _ _) (funext fun j => mixed_ref x0 x1 x2 x3 x4 T j)
end

/-! ## The array -/

variable (m : (ℓ : Loc nD τ sig) → Buf (Elt Ideal) ℓ)

/-- The rows, the weights, the gain and the offset as the kernel takes them. -/
theorem x_apply (c : Dev nD) (r : Fin 32768) (k : Fin 1024) :
    V m c main_v11 (ix2 r k) = m (c.tc.loc main_arg0) (ix3 ⟨r.val / 4096, by omega⟩ ⟨r.val % 4096, by omega⟩ k) := by
  unfold V
  after_reads_at

theorem w_apply (c : Dev nD) (k : Fin 1024) (j : Fin 1024) :
    V m c main_v12 (ix2 k j) = m (c.tc.loc main_arg4) (ix2 k j) := by
  unfold V
  after_reads_at

theorem g_apply (c : Dev nD) (j : Fin 1024) :
    V m c main_v13 (ix2 0 j) = m (c.tc.loc main_arg5) (ix1 j) := by
  unfold V
  after_reads_at

theorem b_apply (c : Dev nD) (j : Fin 1024) :
    V m c main_v14 (ix2 0 j) = m (c.tc.loc main_arg6) (ix1 j) := by
  unfold V
  after_reads_at

/-- The block indices at grid point `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_10.index t = ![t.val, 0] :=
  (by decide +kernel : ∀ t : Fin grid0.N, _)

theorem lt_N (t : Fin cfg0.N) : t.val < 64 := t.isLt

/-- The reference's result on device `c`'s arguments. -/
def G (c : Dev nD) : FVec Ideal S262144x128 .f32 :=
  Cert.OutProjRefIdeal.Read.val_main_v31 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6))

/-- What a grid point leaves in its block is the reference's block. -/
theorem left_apply (c : Dev nD) (t : Fin cfg0.N) (r : Fin 512) (k : Fin 8) (l : Fin 128) :
    left m c t (ix2 (⟨8 * r.val + k.val, by omega⟩ : Fin 4096) l)
      = G m c (ix2 (⟨8 * (512 * t.val + r.val) + k.val, by have := lt_N t; omega⟩ : Fin 262144) l) := by
  have ht := lt_N t
  have e := result_apply (m (c.tc.loc main_arg0)) (m (c.tc.loc main_arg1)) (m (c.tc.loc main_arg2)) (m (c.tc.loc main_arg3))
    (m (c.tc.loc main_arg4)) (m (c.tc.loc main_arg5)) (m (c.tc.loc main_arg6)) ⟨512 * t.val + r.val, by omega⟩ k l
  refine Eq.trans ?_ e.symm
  refine Eq.trans ?_ ((tok_apply (iblk m c 0 t) (iblk m c 1 t) (iblk m c 2 t) (iblk m c 3 t) (iblk m c 4 t) (iblk m c 5 t)
    (iblk m c 6 t) r ⟨128 * k.val + l.val, by omega⟩).trans ?_)
  · unfold left outBlk weave cols
    refine congrArg (tok _ _ _ _ _ _ _) (funext fun a => Fin.ext ?_)
    match a with
    | ⟨0, _⟩ => show (8 * r.val + k.val) / 8 = r.val; omega
    | ⟨1, _⟩ => show 128 * ((8 * r.val + k.val) % 8) + l.val = 128 * k.val + l.val; omega
  · obtain ⟨i0, i1, i2, i3, i4, i5, i6, -⟩ := idx_facts t
    have hx (j : Fin 1024) : iblk m c 0 t (ix2 r j) = m (c.tc.loc main_arg0)
        (ix3 ⟨(512 * t.val + r.val) / 4096, by omega⟩ ⟨(512 * t.val + r.val) % 4096, by omega⟩ j) :=
      Eq.trans (b := V m c main_v11 (ix2 ⟨512 * t.val + r.val, by omega⟩ j)) (by blk_ext [iblk, i0]) (x_apply m c _ j)
    have hs (j : Fin 512) : iblk m c 1 t (ix2 r j) = m (c.tc.loc main_arg1) (ix2 ⟨512 * t.val + r.val, by omega⟩ j) :=
      Eq.trans (b := V m c main_arg1 (ix2 ⟨512 * t.val + r.val, by omega⟩ j)) (by blk_ext [iblk, i1]) (congrFun (V_main_arg1 m c) _)
    have hg (j : Fin 256) : iblk m c 2 t (ix2 r j) = m (c.tc.loc main_arg2) (ix2 ⟨512 * t.val + r.val, by omega⟩ j) :=
      Eq.trans (b := V m c main_arg2 (ix2 ⟨512 * t.val + r.val, by omega⟩ j)) (by blk_ext [iblk, i2]) (congrFun (V_main_arg2 m c) _)
    have hq (j : Fin 256) : iblk m c 3 t (ix2 r j) = m (c.tc.loc main_arg3) (ix2 ⟨512 * t.val + r.val, by omega⟩ j) :=
      Eq.trans (b := V m c main_arg3 (ix2 ⟨512 * t.val + r.val, by omega⟩ j)) (by blk_ext [iblk, i3]) (congrFun (V_main_arg3 m c) _)
    have hw (k j : Fin 1024) : iblk m c 4 t (ix2 k j) = m (c.tc.loc main_arg4) (ix2 k j) :=
      Eq.trans (b := V m c main_v12 (ix2 k j)) (by blk_ext [iblk, i4]) (w_apply m c k j)
    have ha (j : Fin 1024) : iblk m c 5 t (ix2 0 j) = m (c.tc.loc main_arg5) (ix1 j) :=
      Eq.trans (b := V m c main_v13 (ix2 0 j)) (by blk_ext [iblk, i5]) (g_apply m c j)
    have hb (j : Fin 1024) : iblk m c 6 t (ix2 0 j) = m (c.tc.loc main_arg6) (ix1 j) :=
      Eq.trans (b := V m c main_v14 (ix2 0 j)) (by blk_ext [iblk, i6]) (b_apply m c j)
    simp only [hx, hs, hg, hq, hw, ha, hb]

/-- A row of a block: which token's, and which eighth. -/
theorem split (y : S4096x128.Idx) :
    ∃ (r : Fin 512) (k : Fin 8) (l : Fin 128), y = ix2 (⟨8 * r.val + k.val, by omega⟩ : Fin 4096) l := by
  have h0 : (y 0).val < 4096 := (y 0).isLt
  refine ⟨⟨(y 0).val / 8, by omega⟩, ⟨(y 0).val % 8, by omega⟩, y 1, funext fun a => Fin.ext ?_⟩
  match a with
  | ⟨0, _⟩ => show (y 0).val = 8 * ((y 0).val / 8) + (y 0).val % 8; omega
  | ⟨1, _⟩ => rfl

/-- The array of normed tokens. -/
theorem final (c : Dev nD) : (dats m 0 c).arrAt 10 cfg0.N = G m c := by
  refine (dats m 0 c).arrAt_eq_of_covers 10 _ (by decide +kernel) fun t hf y => ?_
  have hi := (idx_facts t).2.2.2.2.2.2.2
  blk_simp
  rw [after10]
  obtain ⟨r, k, l, rfl⟩ := split y
  refine (left_apply m c t r k l).trans ?_
  refine congrArg (G m c) (funext fun a => Fin.ext ?_)
  match a with
  | ⟨0, _⟩ =>
    blk_simp [hi]
    show 8 * (512 * t.val + r.val) + k.val = t.val * 4096 + (8 * r.val + k.val)
    omega
  | ⟨1, _⟩ => blk_simp [hi]

end OutProjValue
end
-- ==== Proof.OutProjClaim.lean ====
/- The five claims about the output projection. -/
module

public import proofs.«01_k».proof.Defs
public import proofs.«01_k».proof.Proof.OutProjValue
public import proofs.«01_k».proof.Proof.OutProjBitsFrame
public import proofs.«01_k».proof.Proof.Gen.OutProjRefIdeal.Run

@[expose] public section

noncomputable section

open Idealize.ShloMosaic Idealize.ShloMosaic.TcCoe Idealize.SL.Sem

namespace OutProjClaim

theorem frame : Cert.quiescent_OutProj := fun m ρ _ => OutProjBitsFrame.unchanged m ρ

theorem frame_ideal : Cert.quiescent_OutProjIdeal := fun m ρ _ => OutProjFrame.unchanged m ρ

theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- The value claim. -/
theorem algebraic : Cert.algebraic_OutProjIdeal_OutProjRefIdeal := by
  intro m ρ m' ρ' _ hagree
  refine ⟨fun c => OutProjValue.G m c, ?_, ?_⟩
  · refine (θ_run _ _ _).mono (fun r h c => ?_) (OutProjFrame.run_main m ρ)
    exact ⟨(OutProjFrame.result m h.1 c).trans (OutProjValue.final m c), OutProjFrame.kept m h.1 c⟩
  · refine (θ_run _ _ _).mono (fun r h c => ?_) (Cert.OutProjRefIdeal.Value.run (F := Ideal) m' ρ')
    have hc := h c
    refine ⟨(hc.1.trans (Cert.OutProjRefIdeal.Read.val_main_v31_eq _ _)).trans ?_, hc.2⟩
    obtain ⟨a0, a1, a2, a3, a4, a5, a6, a7, a8⟩ := hagree c
    rw [a0, a1, a2, a3, a4, a5, a6]
    rfl

end OutProjClaim
end
-- ==== Proof.Ln2Value.lean ====
/- The second norm: its array is the layer norm of the scaled tokens plus the experts' result. The call finds a token's 1024
   columns in eight rows of 128. -/
module

public import proofs.«01_k».proof.Proof.OutProjValue
public import proofs.«01_k».proof.Proof.Gen.Ln2Ideal.Value
public import proofs.«01_k».proof.Proof.Gen.Ln2RefIdeal.Read

@[expose] public section

set_option maxRecDepth 16384
set_option Elab.async false

noncomputable section

open Idealize.ShloMosaic Idealize.ShloMosaic.TcCoe Idealize.SL.Sem Idealize.ShloMosaic.Pipeline

namespace Ln2Value
open Cert.Ln2Ideal Cert.Ln2Ideal.Gen
open OutProjValue (width centre)

/-! ## What the body leaves in a block -/
section
variable {F : FTy → Type} [FloatOps F]

theorem rows_inb (k : Fin 8) : ∀ a, S512x128.size a = 0 ∨
    (![k.val, 0] : Fin 2 → ℕ) a + (![8, 1] : Fin 2 → ℕ) a * (S512x128.size a - 1) < S4096x128.size a := by
  revert k; decide

/-- Every eighth row, from row `k` on. -/
def rowsAt (k : Fin 8) : LoadRect S4096x128 := ⟨![k.val, 0], S512x128.size, ![8, 1], rows_inb k⟩

/-- The rows a token's `k`-th eighth is in. -/
def rows (k : Fin 8) (x : Vec F S4096x128 .f32) : Vec F S512x128 .f32 := fun j => x ((rowsAt k).idx j)

/-- Token `r`, lane `l` of the `k`-th eighth is row `8 r + k`. -/
theorem rows_apply (k : Fin 8) (x : Vec F S4096x128 .f32) (r : Fin 512) (l : Fin 128) :
    rows k x (ix2 r l) = x (ix2 ⟨8 * r.val + k.val, by omega⟩ l) := by
  refine congrArg x (funext fun a => Fin.ext ?_)
  match a with
  | ⟨0, _⟩ => exact Nat.add_comm k.val (8 * r.val)
  | ⟨1, _⟩ => show 0 + 1 * l.val = l.val; omega

/-- A strided load reads one eighth of the rows. -/
theorem readAt_rows {κ : Kind} {sp : Space} (v : View sig κ sp S4096x128 .f32) (f : v.ty.Contents (Elt F))
    (x : Vec F S4096x128 .f32) (hf : v.read (Elt F) f = x) (k : Fin 8) : v.readAt (Elt F) (rowsAt k) f = rows k x := by
  subst hf
  rfl

/-- The scaled tokens plus the experts' result. -/
def mixed (x y : Vec F S4096x128 .f32) : FVec F S512x1024 .f32 :=
  k0_pay2 (rows 0 x) (rows 1 x) (rows 2 x) (rows 3 x) (rows 4 x) (rows 5 x) (rows 6 x) (rows 7 x)
    (rows 0 y) (rows 1 y) (rows 2 y) (rows 3 y) (rows 4 y) (rows 5 y) (rows 6 y) (rows 7 y)

/-- A block written whole reads back as what was written. -/
theorem read_whole {κ : Kind} {sp : Space} (v : View sig κ sp S512x1024 .f32) (f : v.ty.Contents (Elt F))
    (z : Vec F S512x1024 .f32) :
    v.read (Elt F) (v.writes (Elt F) f
      [⟨Rect.unit (s := S512x1024) ![0, 0] S512x1024.size inb_S512x1024_S512x1024_0_0, z⟩]) = z := by
  funext y
  have r := View.read_writes_cons_emb v (Val := Elt F) f
    (Rect.unit (s := S512x1024) ![0, 0] S512x1024.size inb_S512x1024_S512x1024_0_0) z [] y
  have e : (Rect.unit (s := S512x1024) ![0, 0] S512x1024.size inb_S512x1024_S512x1024_0_0).emb y = y := by
    funext a
    refine Fin.ext ?_
    match a with
    | ⟨0, _⟩ => show 0 + 1 * (y 0).val = (y 0).val; omega
    | ⟨1, _⟩ => show 0 + 1 * (y 1).val = (y 1).val; omega
  rw [e] at r
  exact r

theorem out_eq (c : Dev nD) (i : grid0.Coords) (a1 : Memref sig .tc .vmem S4096x128 .f32) (h1 : a1.IsWhole) (a2 : Memref sig .tc .vmem S4096x128 .f32) (h2 : a2.IsWhole)
    (a3 : Memref sig .tc .vmem S1x1024 .f32) (h3 : a3.IsWhole) (a4 : Memref sig .tc .vmem S1x1024 .f32) (h4 : a4.IsWhole)
    (a5 : Memref sig .tc .vmem S512x1024 .f32) (h5 : a5.IsWhole)
    (x y : Vec F S4096x128 .f32) (g b : Vec F S1x1024 .f32) :
    out0_A_4 c i a1 h1 a2 h2 a3 h3 a4 h4 a5 h5 x y g b = k0_pay1 (mixed x y) (k0_pay3 g) b := by
  have lg : View.readAt (Elt F) a3.view (Rect.unit (s := S1x1024) ![0, 0] S1x1024.size inb_S1x1024_S1x1024_0_0).toLoadRect
      (h3.unread g) = g := by
    rw [View.readAt_eq_ld, h3.read_unread]; exact View.ld_unit_zero (by decide) _ _
  have lb : View.readAt (Elt F) a4.view (Rect.unit (s := S1x1024) ![0, 0] S1x1024.size inb_S1x1024_S1x1024_0_0).toLoadRect
      (h4.unread b) = b := by
    rw [View.readAt_eq_ld, h4.read_unread]; exact View.ld_unit_zero (by decide) _ _
  have e : (kernelRun0_A c i a1 h1 a2 h2 a3 h3 a4 h4 a5 h5 x y g b).1
      = [⟨Rect.unit (s := S512x1024) ![0, 0] S512x1024.size inb_S512x1024_S512x1024_0_0, k0_pay1 (k0_pay2
      (View.readAt (Elt F) a1.view (rowsAt 0) (h1.unread x))
      (View.readAt (Elt F) a1.view (rowsAt 1) (h1.unread x))
      (View.readAt (Elt F) a1.view (rowsAt 2) (h1.unread x))
      (View.readAt (Elt F) a1.view (rowsAt 3) (h1.unread x))
      (View.readAt (Elt F) a1.view (rowsAt 4) (h1.unread x))
      (View.readAt (Elt F) a1.view (rowsAt 5) (h1.unread x))
      (View.readAt (Elt F) a1.view (rowsAt 6) (h1.unread x))
      (View.readAt (Elt F) a1.view (rowsAt 7) (h1.unread x))
      (View.readAt (Elt F) a2.view (rowsAt 0) (h2.unread y))
      (View.readAt (Elt F) a2.view (rowsAt 1) (h2.unread y))
      (View.readAt (Elt F) a2.view (rowsAt 2) (h2.unread y))
      (View.readAt (Elt F) a2.view (rowsAt 3) (h2.unread y))
      (View.readAt (Elt F) a2.view (rowsAt 4) (h2.unread y))
      (View.readAt (Elt F) a2.view (rowsAt 5) (h2.unread y))
      (View.readAt (Elt F) a2.view (rowsAt 6) (h2.unread y))
      (View.readAt (Elt F) a2.view (rowsAt 7) (h2.unread y)))
      (k0_pay3 (View.readAt (Elt F) a3.view (Rect.unit (s := S1x1024) ![0, 0] S1x1024.size inb_S1x1024_S1x1024_0_0).toLoadRect
        (h3.unread g)))
      (View.readAt (Elt F) a4.view (Rect.unit (s := S1x1024) ![0, 0] S1x1024.size inb_S1x1024_S1x1024_0_0).toLoadRect
        (h4.unread b))⟩] := rfl
  have rx := readAt_rows a1.view (h1.unread x) x (h1.read_unread x)
  have ry := readAt_rows a2.view (h2.unread y) y (h2.read_unread y)
  unfold out0_A_4
  rw [e, read_whole, lg, lb]
  simp only [rx, ry]
  rfl
end

/-! ## The block's value -/

/-- A token's 1024 columns, from its eight rows. -/
theorem cat_apply (x : Vec Ideal S4096x128 .f32) (h) (r : Fin 512) (d : Fin 1024) :
    concatenate S512x1024 1 [⟨S512x128, rows 0 x⟩, ⟨S512x128, rows 1 x⟩, ⟨S512x128, rows 2 x⟩, ⟨S512x128, rows 3 x⟩, ⟨S512x128, rows 4 x⟩, ⟨S512x128, rows 5 x⟩, ⟨S512x128, rows 6 x⟩, ⟨S512x128, rows 7 x⟩] h (ix2 r d)
      = x (ix2 (⟨8 * r.val + d.val / 128, by omega⟩ : Fin 4096) (⟨d.val % 128, by omega⟩ : Fin 128)) := by
  have key (k : Fin 8) (l : ℕ) (hl : l < 128) (e : d.val = 128 * k.val + l) :
      rows k x (ix2 r ⟨l, hl⟩) = x (ix2 (⟨8 * r.val + d.val / 128, by omega⟩ : Fin 4096) (⟨d.val % 128, by omega⟩ : Fin 128)) := by
    rw [rows_apply]
    refine congrArg x (funext fun a => Fin.ext ?_)
    match a with
    | ⟨0, _⟩ => show 8 * r.val + k.val = 8 * r.val + d.val / 128; omega
    | ⟨1, _⟩ => show l = d.val % 128; omega
  have hd := d.isLt
  pointwise []
  split
  · exact key 0 _ _ (by show d.val = 128 * 0 + d.val; omega)
  split
  · exact key 1 _ _ (by show d.val = 128 * 1 + (d.val - 128); omega)
  split
  · exact key 2 _ _ (by show d.val = 128 * 2 + (d.val - 128 - 128); omega)
  split
  · exact key 3 _ _ (by show d.val = 128 * 3 + (d.val - 128 - 128 - 128); omega)
  split
  · exact key 4 _ _ (by show d.val = 128 * 4 + (d.val - 128 - 128 - 128 - 128); omega)
  split
  · exact key 5 _ _ (by show d.val = 128 * 5 + (d.val - 128 - 128 - 128 - 128 - 128); omega)
  split
  · exact key 6 _ _ (by show d.val = 128 * 6 + (d.val - 128 - 128 - 128 - 128 - 128 - 128); omega)
  · exact key 7 _ _ (by show d.val = 128 * 7 + (d.val - 128 - 128 - 128 - 128 - 128 - 128 - 128); omega)

theorem mixed_apply (x y : Vec Ideal S4096x128 .f32) (r : Fin 512) (d : Fin 1024) :
    mixed x y (ix2 r d) = Ideal.ofBits .f32 0x3FD744FD#32
        * x (ix2 (⟨8 * r.val + d.val / 128, by omega⟩ : Fin 4096) (⟨d.val % 128, by omega⟩ : Fin 128))
      + y (ix2 (⟨8 * r.val + d.val / 128, by omega⟩ : Fin 4096) (⟨d.val % 128, by omega⟩ : Fin 128)) :=
  congrArg₂ (· + ·) (congrArg (_ * ·) (cat_apply x _ r d)) (cat_apply y _ r d)

theorem pay3_eq (a : Vec Ideal S1x1024 .f32) (j : Fin 1024) : k0_pay3 a (ix2 0 j) = a (ix2 0 j) := by
  pointwise [k0_pay3]

/-- The norm of a row. -/
theorem pay1_apply (u : FVec Ideal S512x1024 .f32) (g : FVec Ideal S1x1024 .f32) (b : Vec Ideal S1x1024 .f32)
    (r : Fin 512) (j : Fin 1024) :
    k0_pay1 u g b (ix2 r j) = OutProjValue.norm (fun j => u (ix2 r j)) (fun j => g (ix2 0 j)) (fun j => b (ix2 0 j)) j := by
  unfold OutProjValue.norm centre
  pointwise [k0_pay1]

/-! ## The reference -/
section
open Cert.Ln2RefIdeal.Read
variable (x0 x1 : (⟨Cert.Ln2RefIdeal.S262144x128, .f32⟩ : BufTy).Contents (Elt Ideal))
  (x2 x3 : (⟨Cert.Ln2RefIdeal.S1024, .f32⟩ : BufTy).Contents (Elt Ideal))

/-- The sum before the norm: token `r`, column `j` is row `8 r + j / 128`, lane `j % 128`. -/
theorem mixed_ref (r : Fin 32768) (j : Fin 1024) : val_main_v4 x0 x1 (ix2 r j) = Ideal.ofBits .f32 0x3FD744FD#32
        * x0 (ix2 (⟨8 * r.val + j.val / 128, by omega⟩ : Fin 262144) (⟨j.val % 128, by omega⟩ : Fin 128))
      + x1 (ix2 (⟨8 * r.val + j.val / 128, by omega⟩ : Fin 262144) (⟨j.val % 128, by omega⟩ : Fin 128)) := by
  have e : ((fun a => match a with
      | ⟨0, _⟩ => ⟨(r.val * 1024 + j.val) / 128, by have := r.isLt; have := j.isLt; show _ < 262144; omega⟩
      | ⟨1, _⟩ => ⟨(r.val * 1024 + j.val) % 128, by show _ < 128; omega⟩) : S262144x128.Idx)
      = ix2 (⟨8 * r.val + j.val / 128, by omega⟩ : Fin 262144) (⟨j.val % 128, by omega⟩ : Fin 128) := by
    refine funext fun a => Fin.ext ?_
    match a with
    | ⟨0, _⟩ => show (r.val * 1024 + j.val) / 128 = 8 * r.val + j.val / 128; omega
    | ⟨1, _⟩ => show (r.val * 1024 + j.val) % 128 = j.val % 128; omega
  have h0 : val_main_v0 x0 (ix2 r j)
      = x0 (ix2 (⟨8 * r.val + j.val / 128, by omega⟩ : Fin 262144) (⟨j.val % 128, by omega⟩ : Fin 128)) :=
    (val_main_v0_apply x0 (ix2 r j)).trans (congrArg x0 e)
  have h3 : val_main_v3 x1 (ix2 r j)
      = x1 (ix2 (⟨8 * r.val + j.val / 128, by omega⟩ : Fin 262144) (⟨j.val % 128, by omega⟩ : Fin 128)) :=
    (val_main_v3_apply x1 (ix2 r j)).trans (congrArg x1 e)
  have h : val_main_v4 x0 x1 (ix2 r j)
      = Ideal.ofBits .f32 0x3FD744FD#32 * val_main_v0 x0 (ix2 r j) + val_main_v3 x1 (ix2 r j) := by
    pointwise [val_main_v4, val_main_v2, val_main_v1, val_main_cst]
  rw [h, h0, h3]

theorem centre_ref (r : Fin 32768) (j : Fin 1024) : val_main_v10 x0 x1 (ix2 r j)
    = centre (fun j => val_main_v4 x0 x1 (ix2 r j)) j := by
  unfold centre
  pointwise [val_main_v10, val_main_v9, val_main_v8, val_main_v7, val_main_v6, val_main_v5, val_main_cst_0, val_main_cst_1]

theorem norm_ref (r : Fin 32768) (j : Fin 1024) : val_main_v28 x0 x1 x2 x3 (ix2 r j)
    = OutProjValue.norm (fun j => val_main_v4 x0 x1 (ix2 r j)) (fun j => x2 (ix1 j)) (fun j => x3 (ix1 j)) j := by
  have hc (j : Fin 1024) : val_main_v17 x0 x1 (ix2 r j) = val_main_v10 x0 x1 (ix2 r j) := by
    pointwise [val_main_v17, val_main_v16, val_main_v10, val_main_v9]
  have h : val_main_v28 x0 x1 x2 x3 (ix2 r j) = val_main_v17 x0 x1 (ix2 r j)
      * Ideal.rsqrt (Ideal.div (∑ k : Fin 1024, val_main_v10 x0 x1 (ix2 r k) * val_main_v10 x0 x1 (ix2 r k)) width
          + Ideal.ofBits .f32 0x3727C5AC#32) * x2 (ix1 j) + x3 (ix1 j) := by
    pointwise [val_main_v28, val_main_v27, val_main_v26, val_main_v25, val_main_v24, val_main_v23, val_main_v22, val_main_v21,
      val_main_v20, val_main_v19, val_main_v18, val_main_cst_4, val_main_v15, val_main_v14, val_main_cst_3, val_main_v13,
      val_main_v12, val_main_cst_2, val_main_v11]
  rw [h, hc]
  simp only [centre_ref]
  rfl
end

/-! ## The array -/

variable (m : (ℓ : Loc nD τ sig) → Buf (Elt Ideal) ℓ)

/-- The gain and the offset as the kernel takes them. -/
theorem g_apply (c : Dev nD) (j : Fin 1024) : V m c main_v0 (ix2 0 j) = m (c.tc.loc main_arg2) (ix1 j) := by
  unfold V
  after_reads_at

theorem b_apply (c : Dev nD) (j : Fin 1024) : V m c main_v1 (ix2 0 j) = m (c.tc.loc main_arg3) (ix1 j) := by
  unfold V
  after_reads_at

/-- The block indices at grid point `t`. -/
theorem idx_facts : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem lt_N (t : Fin cfg0.N) : t.val < 64 := t.isLt

/-- The reference's result on device `c`'s arguments. -/
def G (c : Dev nD) : FVec Ideal S32768x1024 .f32 :=
  Cert.Ln2RefIdeal.Read.val_main_v28 (F := Ideal) (m (c.tc.loc main_arg0)) (m (c.tc.loc main_arg1)) (m (c.tc.loc main_arg2))
    (m (c.tc.loc main_arg3))

/-- What a grid point leaves in its block is the reference's block. -/
theorem left_apply (c : Dev nD) (t : Fin cfg0.N) (r : Fin 512) (j : Fin 1024) :
    outsAt0 m c t (ix2 r j) = G m c (ix2 (⟨512 * t.val + r.val, by have := lt_N t; omega⟩ : Fin 32768) j) := by
  have ht := lt_N t
  obtain ⟨i0, i1, i2, i3, -⟩ := idx_facts t
  unfold outsAt0 G
  refine (congrFun (out_eq (F := Ideal) c (grid0.coords t) _ _ _ _ _ _ _ _ _ _ (iblk m c 0 t) (iblk m c 1 t) (iblk m c 2 t)
    (iblk m c 3 t)) (ix2 r j)).trans ((pay1_apply _ _ _ r j).trans (Eq.trans ?_ (norm_ref _ _ _ _ _ j).symm))
  have row (k : Fin 4096) (l : Fin 128) : iblk m c 0 t (ix2 k l)
      = m (c.tc.loc main_arg0) (ix2 (⟨4096 * t.val + k.val, by omega⟩ : Fin 262144) l) :=
    Eq.trans (b := V m c main_arg0 (ix2 (⟨4096 * t.val + k.val, by omega⟩ : Fin 262144) l)) (by blk_ext [iblk, i0])
      (congrFun (V_main_arg0 m c) _)
  have row' (k : Fin 4096) (l : Fin 128) : iblk m c 1 t (ix2 k l)
      = m (c.tc.loc main_arg1) (ix2 (⟨4096 * t.val + k.val, by omega⟩ : Fin 262144) l) :=
    Eq.trans (b := V m c main_arg1 (ix2 (⟨4096 * t.val + k.val, by omega⟩ : Fin 262144) l)) (by blk_ext [iblk, i1])
      (congrFun (V_main_arg1 m c) _)
  have hg (j : Fin 1024) : iblk m c 2 t (ix2 0 j) = m (c.tc.loc main_arg2) (ix1 j) :=
    Eq.trans (b := V m c main_v0 (ix2 0 j)) (by blk_ext [iblk, i2]) (g_apply m c j)
  have hb (j : Fin 1024) : iblk m c 3 t (ix2 0 j) = m (c.tc.loc main_arg3) (ix1 j) :=
    Eq.trans (b := V m c main_v1 (ix2 0 j)) (by blk_ext [iblk, i3]) (b_apply m c j)
  have hu (d : Fin 1024) : mixed (iblk m c 0 t) (iblk m c 1 t) (ix2 r d)
      = Cert.Ln2RefIdeal.Read.val_main_v4 (F := Ideal) (m (c.tc.loc main_arg0)) (m (c.tc.loc main_arg1))
          (ix2 (⟨512 * t.val + r.val, by omega⟩ : Fin 32768) d) := by
    have e : ix2 (⟨4096 * t.val + (8 * r.val + d.val / 128), by omega⟩ : Fin 262144) (⟨d.val % 128, by omega⟩ : Fin 128)
        = ix2 (⟨8 * (512 * t.val + r.val) + d.val / 128, by omega⟩ : Fin 262144) (⟨d.val % 128, by omega⟩ : Fin 128) :=
      congrArg (fun R => ix2 R _) (Fin.ext (show 4096 * t.val + (8 * r.val + d.val / 128) = 8 * (512 * t.val + r.val) + d.val / 128 by omega))
    refine (mixed_apply _ _ r d).trans (Eq.trans ?_ (mixed_ref _ _ _ d).symm)
    exact congrArg₂ (· + ·) (congrArg (_ * ·) ((row _ _).trans (congrArg _ e))) ((row' _ _).trans (congrArg _ e))
  simp only [hu, hg, hb, pay3_eq]

/-- The array of tokens after the second norm. -/
theorem final (c : Dev nD) : (dats m 0 c).arrAt 4 cfg0.N = G m c := by
  refine (dats m 0 c).arrAt_eq_of_covers 4 _ (by decide +kernel) fun t hf y => ?_
  have hi := (idx_facts t).2.2.2.2
  blk_simp
  rw [after0_4]
  obtain ⟨r, j, rfl⟩ : ∃ (r : Fin 512) (j : Fin 1024), y = ix2 r j := ⟨y 0, y 1, by funext a; fin_cases a <;> rfl⟩
  refine (left_apply m c t r j).trans ?_
  refine congrArg (G m c) (funext fun a => Fin.ext ?_)
  match a with
  | ⟨0, _⟩ =>
    blk_simp [hi]
    show 512 * t.val + r.val = t.val * 512 + r.val
    omega
  | ⟨1, _⟩ => blk_simp [hi]

end Ln2Value
end
-- ==== Proof.Ln2Claim.lean ====
/- The value claim about the second norm. -/
module

public import proofs.«01_k».proof.Defs
public import proofs.«01_k».proof.Proof.Ln2Value
public import proofs.«01_k».proof.Proof.Gen.Ln2RefIdeal.Run

@[expose] public section

noncomputable section

open Idealize.ShloMosaic Idealize.ShloMosaic.TcCoe Idealize.SL.Sem

namespace Ln2Claim

theorem algebraic : Cert.algebraic_Ln2Ideal_Ln2RefIdeal := by
  intro m ρ m' ρ' _ hagree
  refine ⟨fun c => Ln2Value.G m c, ?_, ?_⟩
  · refine (θ_run _ _ _).mono (fun r h c => ?_) (Cert.Ln2Ideal.Value.run_blocks m ρ)
    have hc := h c
    rw [Ln2Value.final m c] at hc
    exact hc
  · refine (θ_run _ _ _).mono (fun r h c => ?_) (Cert.Ln2RefIdeal.Value.run (F := Ideal) m' ρ')
    have hc := h c
    refine ⟨(hc.1.trans (Cert.Ln2RefIdeal.Read.val_main_v28_eq _ _ _ _)).trans ?_, hc.2⟩
    obtain ⟨a0, a1, a2, a3⟩ := hagree c
    rw [a0, a1, a2, a3]
    rfl

end Ln2Claim
end
-- ==== Proof.lean ====
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Read
public import proofs.«01_k».proof.Proof.Gen.ExpertsRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Read
public import proofs.«01_k».proof.Proof.Gen.OutProjRefIdeal.Run
public import proofs.«01_k».proof.Proof.Gen.Ln2
public import proofs.«01_k».proof.Proof.Gen.Ln2.Skeleton
public import proofs.«01_k».proof.Proof.Gen.Ln2.Launch
public import proofs.«01_k».proof.Proof.Gen.Ln2.Points
public import proofs.«01_k».proof.Proof.Gen.Ln2.Frame
public import proofs.«01_k».proof.Proof.Gen.Ln2Ideal
public import proofs.«01_k».proof.Proof.Gen.Ln2Ideal.Skeleton
public import proofs.«01_k».proof.Proof.Gen.Ln2Ideal.Launch
public import proofs.«01_k».proof.Proof.Gen.Ln2Ideal.Points
public import proofs.«01_k».proof.Proof.Gen.Ln2Ideal.Frame
public import proofs.«01_k».proof.Proof.Gen.Ln2Ideal.Value
public import proofs.«01_k».proof.Proof.Gen.Ln2RefIdeal
public import proofs.«01_k».proof.Proof.Gen.Ln2RefIdeal.Read
public import proofs.«01_k».proof.Proof.Gen.Ln2RefIdeal.Run
public import proofs.«01_k».proof.Proof.Gen.Pre_finite_swa
public import proofs.«01_k».proof.Proof.Gen.Pre_finite_mem
public import proofs.«01_k».proof.Proof.Gen.Pre_expert_blocks
public import proofs.«01_k».proof.Proof.Gen.Pre_weighted_blocks
public import proofs.«01_k».proof.Proof.Gen.SwaIdeal.Value
public import proofs.«01_k».proof.Proof.Gen.SwaRefIdeal.Read
public import proofs.«01_k».proof.Proof.Gen.InProjIdeal.Value
public import proofs.«01_k».proof.Proof.Gen.InProjRefIdeal.Read
public import proofs.«01_k».proof.Proof.Gen.MemKvIdeal.Value
public import proofs.«01_k».proof.Proof.Gen.MemKvRefIdeal.Read
public import proofs.«01_k».proof.Proof.Gen.MemAttnIdeal.Value
public import proofs.«01_k».proof.Proof.Gen.MemAttnRefIdeal.Read
public import proofs.«01_k».proof.Proof.SwaClaim
public import proofs.«01_k».proof.Proof.InProjClaim
public import proofs.«01_k».proof.Proof.MemKvClaim
public import proofs.«01_k».proof.Proof.MemAttnClaim
public import proofs.«01_k».proof.Proof.ExpertsClaim
public import proofs.«01_k».proof.Proof.OutProjClaim
public import proofs.«01_k».proof.Proof.Ln2Claim
public import Idealize.ShloMosaic.Adequacy
public import Idealize.ShloMosaic.Init

@[expose] public section

noncomputable section

namespace Cert.Proof

open Idealize.ShloMosaic Idealize.SL.Sem Cert.Swa

/-- Every claim: the frames of five calls are generated and the experts' and the output projection's are their modules', the ideal programs rewrite nothing,
    the value claims are the seven modules'. -/
theorem claim : Cert.Claim :=
  ⟨Cert.Swa.Gen.facts, Cert.SwaIdeal.Gen.facts, Cert.SwaRefIdeal.Gen.facts, Cert.InProj.Gen.facts, Cert.InProjIdeal.Gen.facts, Cert.InProjRefIdeal.Gen.facts, Cert.MemKv.Gen.facts, Cert.MemKvIdeal.Gen.facts, Cert.MemKvRefIdeal.Gen.facts, Cert.MemAttn.Gen.facts, Cert.MemAttnIdeal.Gen.facts, Cert.MemAttnRefIdeal.Gen.facts, Cert.Experts.Gen.facts, Cert.ExpertsIdeal.Gen.facts, Cert.ExpertsRefIdeal.Gen.facts, Cert.OutProj.Gen.facts, Cert.OutProjIdeal.Gen.facts, Cert.OutProjRefIdeal.Gen.facts, Cert.Ln2.Gen.facts, Cert.Ln2Ideal.Gen.facts, Cert.Ln2RefIdeal.Gen.facts, Cert.Pre_finite_swa.Gen.facts, Cert.Pre_finite_mem.Gen.facts, Cert.Pre_expert_blocks.Gen.facts, Cert.Pre_weighted_blocks.Gen.facts, fun m ρ _ => Cert.Swa.Gen.frame m ρ,
  fun m ρ _ => Cert.SwaIdeal.Gen.frame m ρ,
  fun m ρ _ => Cert.SwaIdeal.Gen.frame m ρ,
  fun m ρ _ => (θ_run Cert.SwaRefIdeal.defs _ _).mono (fun r h => ⟨fun c => (h c).2, sem_eq_zero_of_no_sems (by decide) r.2⟩)
    (Cert.SwaRefIdeal.Value.run m ρ),
  fun m ρ _ => (θ_run Cert.SwaRefIdeal.defs _ _).mono (fun r h => ⟨fun c => (h c).2, sem_eq_zero_of_no_sems (by decide) r.2⟩)
    (Cert.SwaRefIdeal.Value.run m ρ),
  fun m ρ _ => Cert.InProj.Gen.frame m ρ,
  fun m ρ _ => Cert.InProjIdeal.Gen.frame m ρ,
  fun m ρ _ => (θ_run Cert.InProjRefIdeal.defs _ _).mono (fun r h => ⟨fun c => (h c).2.2.2.2.2.2.2.2, sem_eq_zero_of_no_sems (by decide) r.2⟩)
    (Cert.InProjRefIdeal.Value.run m ρ),
  fun m ρ _ => Cert.MemKv.Gen.frame m ρ,
  fun m ρ _ => Cert.MemKvIdeal.Gen.frame m ρ,
  fun m ρ _ => (θ_run Cert.MemKvRefIdeal.defs _ _).mono (fun r h => ⟨fun c => (h c).2.2, sem_eq_zero_of_no_sems (by decide) r.2⟩)
    (Cert.MemKvRefIdeal.Value.run m ρ),
  fun m ρ _ => Cert.MemAttn.Gen.frame m ρ,
  fun m ρ _ => Cert.MemAttnIdeal.Gen.frame m ρ,
  fun m ρ _ => Cert.MemAttnIdeal.Gen.frame m ρ,
  fun m ρ _ => (θ_run Cert.MemAttnRefIdeal.defs _ _).mono (fun r h => ⟨fun c => (h c).2, sem_eq_zero_of_no_sems (by decide) r.2⟩)
    (Cert.MemAttnRefIdeal.Value.run m ρ),
  fun m ρ _ => (θ_run Cert.MemAttnRefIdeal.defs _ _).mono (fun r h => ⟨fun c => (h c).2, sem_eq_zero_of_no_sems (by decide) r.2⟩)
    (Cert.MemAttnRefIdeal.Value.run m ρ),
  ExpertsClaim.frame,
  ExpertsClaim.frame_ideal,
  ExpertsClaim.frame_ideal_weighted,
  ExpertsClaim.frame_ref,
  ExpertsClaim.frame_ref_weighted,
  OutProjClaim.frame,
  OutProjClaim.frame_ideal,
  OutProjClaim.frame_ref,
  fun m ρ _ => Cert.Ln2.Gen.frame m ρ,
  fun m ρ _ => Cert.Ln2Ideal.Gen.frame m ρ,
  fun m ρ _ => (θ_run Cert.Ln2RefIdeal.defs _ _).mono (fun r h => ⟨fun c => (h c).2, sem_eq_zero_of_no_sems (by decide) r.2⟩)
    (Cert.Ln2RefIdeal.Value.run m ρ),
  trivial,
  SwaClaim.algebraic,
  trivial,
  InProjClaim.algebraic,
  trivial,
  MemKvClaim.algebraic,
  trivial,
  MemAttnClaim.algebraic,
  trivial,
  ExpertsClaim.algebraic,
  trivial,
  OutProjClaim.algebraic,
  trivial,
  Ln2Claim.algebraic⟩

end Cert.Proof

end
